-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_gated [hPre_finite_gated : Cert.Pre_finite_gated.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_gated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_gated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gated [hPre_finite_gated : Cert.Pre_finite_gated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_gated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_gated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gated [hKernelIdeal : Cert.KernelIdeal.Facts] [hPre_finite_gated : Cert.Pre_finite_gated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gated [hReferenceIdeal : Cert.ReferenceIdeal.Facts] [hPre_finite_gated : Cert.Pre_finite_gated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_finite_gated [hKernelIdeal : Cert.KernelIdeal.Facts] [hReferenceIdeal : Cert.ReferenceIdeal.Facts] [hPre_finite_gated : Cert.Pre_finite_gated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite_gated : Cert.Pre_finite_gated.Facts),
    quiescent_KernelIdeal (hKernelIdeal := hKernelIdeal)
    ∧ quiescent_KernelIdeal_pre_finite_gated (hKernelIdeal := hKernelIdeal) (hPre_finite_gated := hPre_finite_gated)
    ∧ quiescent_ReferenceIdeal (hReferenceIdeal := hReferenceIdeal)
    ∧ quiescent_ReferenceIdeal_pre_finite_gated (hReferenceIdeal := hReferenceIdeal) (hPre_finite_gated := hPre_finite_gated)
    ∧ algebraic_KernelIdeal_ReferenceIdeal_pre_finite_gated (hKernelIdeal := hKernelIdeal) (hReferenceIdeal := hReferenceIdeal) (hPre_finite_gated := hPre_finite_gated)
-- ==== Pre_finite_gated.lean ====
abbrev S2048x2048 : Shape := ⟨2, ![2048, 2048]⟩
abbrev S2048 : Shape := ⟨1, ![2048]⟩
abbrev S1024x2048 : Shape := ⟨2, ![1024, 2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)
  bcast_S_S1024x2048 : S_.BroadcastsInDim S1024x2048 (![] : Fin 0 → Fin S1024x2048.rank)

variable [Facts]

def fn {F : FTy → Type} [FloatOps F] (main_arg0 : FVec F S2048x2048 .f32) (main_arg1 : FVec F S2048 .f32) (main_arg2 : FVec F S1024x2048 .f32) : IVec S2048x2048 1 × IVec S2048 1 × IVec S1024x2048 1 :=
  let main_cst : FVec F S_ .f32 := constant S_ .f32 0xFF800000#32
  let main_v0 : FVec F S2048x2048 .f32 := broadcastInDim S2048x2048 ![] bcast_S_S2048x2048 main_cst
  let main_v1 : IVec S2048x2048 1 := cmpf .olt main_v0 main_arg0
  let main_cst_0 : FVec F S_ .f32 := constant S_ .f32 0x7F800000#32
  let main_v2 : FVec F S2048x2048 .f32 := broadcastInDim S2048x2048 ![] bcast_S_S2048x2048 main_cst_0
  let main_v3 : IVec S2048x2048 1 := cmpf .olt main_arg0 main_v2
  let main_v4 : IVec S2048x2048 1 := andi main_v1 main_v3
  let main_cst_1 : FVec F S_ .f32 := constant S_ .f32 0x00000000#32
  let main_v5 : FVec F S2048 .f32 := broadcastInDim S2048 ![] bcast_S_S2048 main_cst_1
  let main_v6 : IVec S2048 1 := cmpf .oeq main_arg1 main_v5
  let main_cst_2 : FVec F S_ .f32 := constant S_ .f32 0x3F800000#32
  let main_v7 : FVec F S2048 .f32 := broadcastInDim S2048 ![] bcast_S_S2048 main_cst_2
  let main_v8 : IVec S2048 1 := cmpf .oeq main_arg1 main_v7
  let main_v9 : IVec S2048 1 := ori main_v6 main_v8
  let main_cst_3 : FVec F S_ .f32 := constant S_ .f32 0xFF800000#32
  let main_v10 : FVec F S1024x2048 .f32 := broadcastInDim S1024x2048 ![] bcast_S_S1024x2048 main_cst_3
  let main_v11 : IVec S1024x2048 1 := cmpf .olt main_v10 main_arg2
  let main_cst_4 : FVec F S_ .f32 := constant S_ .f32 0x7F800000#32
  let main_v12 : FVec F S1024x2048 .f32 := broadcastInDim S1024x2048 ![] bcast_S_S1024x2048 main_cst_4
  let main_v13 : IVec S1024x2048 1 := cmpf .olt main_arg2 main_v12
  let main_v14 : IVec S1024x2048 1 := andi main_v11 main_v13
  (main_v4, main_v9, main_v14)
-- ==== KernelIdeal.lean ====
abbrev S2048x2048 : Shape := ⟨2, ![2048, 2048]⟩
abbrev S2048 : Shape := ⟨1, ![2048]⟩
abbrev S1024x2048 : Shape := ⟨2, ![1024, 2048]⟩
abbrev S2048x1 : Shape := ⟨2, ![2048, 1]⟩
abbrev S1x1024 : Shape := ⟨2, ![1, 1024]⟩
abbrev S1x2048 : Shape := ⟨2, ![1, 2048]⟩
abbrev S1x1 : Shape := ⟨2, ![1, 1]⟩
abbrev S_ : Shape := ⟨0, ![]⟩
abbrev S64x2048 : Shape := ⟨2, ![64, 2048]⟩
abbrev S64x1 : Shape := ⟨2, ![64, 1]⟩
abbrev S64x1024 : Shape := ⟨2, ![64, 1024]⟩
abbrev S64x64 : Shape := ⟨2, ![64, 64]⟩
abbrev S1024 : Shape := ⟨1, ![1024]⟩
abbrev S1024x1 : Shape := ⟨2, ![1024, 1]⟩
abbrev S64 : Shape := ⟨1, ![64]⟩
abbrev S1 : Shape := ⟨1, ![1]⟩
abbrev S1x64 : Shape := ⟨2, ![1, 64]⟩
abbrev S1x1x1024 : Shape := ⟨3, ![1, 1, 1024]⟩
abbrev S1x1x1 : Shape := ⟨3, ![1, 1, 1]⟩
abbrev S1x1x64 : Shape := ⟨3, ![1, 1, 64]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 10
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1024x2048, .f32⟩
  | .hbm, ⟨3, _⟩ => ⟨S2048x1, .f32⟩
  | .hbm, ⟨4, _⟩ => ⟨S1024x2048, .f32⟩
  | .hbm, ⟨5, _⟩ => ⟨S1x1024, .f32⟩
  | .hbm, ⟨6, _⟩ => ⟨S1x2048, .f32⟩
  | .hbm, ⟨7, _⟩ => ⟨S1x1, .f32⟩
  | .hbm, ⟨8, _⟩ => ⟨S1x1, .f32⟩
  | .hbm, ⟨9, _⟩ => ⟨S_, .f32⟩
  | .local _ .vmem, ⟨0, _⟩ => ⟨S64x2048, .f32⟩
  | .local _ .vmem, ⟨1, _⟩ => ⟨S64x2048, .f32⟩
  | .local _ .vmem, ⟨2, _⟩ => ⟨S64x1, .f32⟩
  | .local _ .vmem, ⟨3, _⟩ => ⟨S64x1, .f32⟩
  | .local _ .vmem, ⟨4, _⟩ => ⟨S1024x2048, .f32⟩
  | .local _ .vmem, ⟨5, _⟩ => ⟨S1024x2048, .f32⟩
  | .local _ .vmem, ⟨6, _⟩ => ⟨S1x1024, .f32⟩
  | .local _ .vmem, ⟨7, _⟩ => ⟨S1x2048, .f32⟩
  | .local _ .vmem, ⟨8, _⟩ => ⟨S1x1, .f32⟩
  | .local _ .vmem, ⟨9, _⟩ => ⟨S64x1024, .f32⟩
  | .local _ .vmem, ⟨10, _⟩ => ⟨S64x64, .f32⟩
  | .local _ .vmem, ⟨11, _⟩ => ⟨S256x2048, .f32⟩
  | .local _ .vmem, ⟨12, _⟩ => ⟨S256x2048, .f32⟩
  | .local _ .vmem, ⟨13, _⟩ => ⟨S1024x2048, .f32⟩
  | .local _ .vmem, ⟨14, _⟩ => ⟨S1x1024, .f32⟩
  | .local _ .vmem, ⟨15, _⟩ => ⟨S1x2048, .f32⟩
  | .local _ .vmem, ⟨16, _⟩ => ⟨S1x1, .f32⟩
  | .local _ .vmem, ⟨17, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_call0_v1_1 : Ref sig .tc := ⟨.hbm, 5, rfl⟩
abbrev main_call0_v1_2 : Ref sig .tc := ⟨.hbm, 6, rfl⟩
abbrev main_call0_v1_3 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15

abbrev nD : Nat := 1
abbrev τ : Topo := Topo.v7x

variable {F : FTy → Type} [FloatOps F] [Named F]

def κ : String → Option EReal := fun
  | "mu" => some ((9 / 10 : ℝ) : EReal)
  | "musq_m1" => some ((-19 / 100 : ℝ) : EReal)
  | "omu" => some ((1 / 10 : ℝ) : EReal)
  | "omu_sq" => some ((1 / 100 : ℝ) : EReal)
  | "two_mu_omu" => some ((9 / 50 : ℝ) : EReal)
  | _ => none

abbrev grid0 : Pipeline.Grid := ⟨1, ![32], ![false]⟩

@[reducible] def k0_t1_loop : Scf.Loop 32 :=
  let c0_i32_24 : BitVec 32 := 0#32
  let c64_i32 : BitVec 32 := 64#32
  let v38 : BitVec 32 := Scalar.addi c0_i32_24 c64_i32
  let c1_i32 : BitVec 32 := 1#32
  ⟨c0_i32_24, v38, c1_i32⟩
def k0_off1 (k0_t1 : Fin k0_t1_loop.trips) : Fin 2 → Nat :=
  let c0_i32_24 : BitVec 32 := 0#32
  let c1_i32 : BitVec 32 := 1#32
  let arg10 : BitVec 32 := Scf.iv c0_i32_24 c1_i32 k0_t1
  let v41 : Index := Scalar.indexCast arg10
  let c0_28 : Index := 0#32
  ![v41.toNat, 0]
def k0_off2 (k0_t1 : Fin k0_t1_loop.trips) : Fin 2 → Nat :=
  let c0_i32_24 : BitVec 32 := 0#32
  let c1_i32 : BitVec 32 := 1#32
  let arg10 : BitVec 32 := Scf.iv c0_i32_24 c1_i32 k0_t1
  let v58 : Index := Scalar.indexCast arg10
  let c0_32 : Index := 0#32
  ![v58.toNat, 0]
def k0_off3 (k0_t1 : Fin k0_t1_loop.trips) : Fin 2 → Nat :=
  let c0_i32_24 : BitVec 32 := 0#32
  let c1_i32 : BitVec 32 := 1#32
  let arg10 : BitVec 32 := Scf.iv c0_i32_24 c1_i32 k0_t1
  let v72 : Index := Scalar.indexCast arg10
  let c0_35 : Index := 0#32
  ![v72.toNat, 0]
def k0_off4 (v57 : BitVec 32) : Fin 2 → Nat :=
  let v105 : Index := Scalar.indexCast v57
  let c0_48 : Index := 0#32
  ![v105.toNat, 0]

def k0_chk1 (v57 : BitVec 32) : Prop :=
  (∀ a, (k0_off4 v57) a + S1x2048.size a ≤ S1024x2048.size a)
theorem k0_off4_inb : ∀ (v57 : BitVec 32) (k0_hw1 : k0_chk1 v57), ∀ a, (k0_off4 v57) a + S1x2048.size a ≤ S1024x2048.size a := fun v57 k0_hw1 => k0_hw1

def k0_off5 (k0_t1 : Fin k0_t1_loop.trips) : Fin 2 → Nat :=
  let c0_i32_24 : BitVec 32 := 0#32
  let c1_i32 : BitVec 32 := 1#32
  let arg10 : BitVec 32 := Scf.iv c0_i32_24 c1_i32 k0_t1
  let v108 : Index := Scalar.indexCast arg10
  let c0_49 : Index := 0#32
  ![v108.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S2048x2048 : Shape := ⟨2, ![2048, 2048]⟩
abbrev S2048 : Shape := ⟨1, ![2048]⟩
abbrev S1024x2048 : Shape := ⟨2, ![1024, 2048]⟩
abbrev S_ : Shape := ⟨0, ![]⟩
abbrev S1x2048 : Shape := ⟨2, ![1, 2048]⟩
abbrev S1 : Shape := ⟨1, ![1]⟩
abbrev S1024 : Shape := ⟨1, ![1024]⟩
abbrev S2048x1 : Shape := ⟨2, ![2048, 1]⟩
abbrev S1x1024 : Shape := ⟨2, ![1, 1024]⟩
abbrev S2048x1024 : Shape := ⟨2, ![2048, 1024]⟩
abbrev S2048x3 : Shape := ⟨2, ![2048, 3]⟩
abbrev S2048x3x1 : Shape := ⟨3, ![2048, 3, 1]⟩
abbrev S2048x3x2048 : Shape := ⟨3, ![2048, 3, 2048]⟩

abbrev nBuf : Space → Nat
  | .hbm => 154
  | .vmem => 0
  | .smem => 0
  | _ => 0

abbrev hbmTy0_0 (i : Nat) : BufTy := match i % 128 with
  | 0 => ⟨S2048x2048, .f32⟩
  | 1 => ⟨S2048, .f32⟩
  | 2 => ⟨S1024x2048, .f32⟩
  | 3 => ⟨S_, .f32⟩
  | 4 => ⟨S2048, .f32⟩
  | 5 => ⟨S2048, .i1⟩
  | 6 => ⟨S2048, .i1⟩
  | 7 => ⟨S_, .i32⟩
  | 8 => ⟨S2048x2048, .f32⟩
  | 9 => ⟨S2048, .i1⟩
  | 10 => ⟨S_, .i32⟩
  | 11 => ⟨S1024x2048, .f32⟩
  | 12 => ⟨S_, .i32⟩
  | 13 => ⟨S_, .i1⟩
  | 14 => ⟨S_, .i32⟩
  | 15 => ⟨S1x2048, .f32⟩
  | 16 => ⟨S2048, .f32⟩
  | 17 => ⟨S1, .i1⟩
  | 18 => ⟨S_, .i1⟩
  | 19 => ⟨S1x2048, .f32⟩
  | 20 => ⟨S1024x2048, .f32⟩
  | 21 => ⟨S1024x2048, .f32⟩
  | 22 => ⟨S1024x2048, .f32⟩
  | 23 => ⟨S_, .f32⟩
  | 24 => ⟨S1024, .f32⟩
  | 25 => ⟨S1024, .f32⟩
  | 26 => ⟨S1024, .i32⟩
  | 27 => ⟨S_, .f32⟩
  | 28 => ⟨S_, .i32⟩
  | 29 => ⟨S_, .f32⟩
  | 30 => ⟨S_, .i32⟩
  | 31 => ⟨S_, .f32⟩
  | 32 => ⟨S_, .f32⟩
  | 33 => ⟨S_, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S1x2048, .f32⟩
  | 48 => ⟨S2048, .f32⟩
  | 49 => ⟨S2048, .f32⟩
  | 50 => ⟨S2048, .f32⟩
  | 51 => ⟨S_, .f32⟩
  | 52 => ⟨S_, .f32⟩
  | 53 => ⟨S2048, .f32⟩
  | 54 => ⟨S2048, .f32⟩
  | 55 => ⟨S2048, .f32⟩
  | 56 => ⟨S_, .i32⟩
  | 57 => ⟨S_, .i1⟩
  | 58 => ⟨S_, .i32⟩
  | 59 => ⟨S_, .i32⟩
  | 60 => ⟨S_, .i32⟩
  | 61 => ⟨S1, .i32⟩
  | 62 => ⟨S1024x2048, .f32⟩
  | 63 => ⟨S1024x2048, .f32⟩
  | 64 => ⟨S_, .i32⟩
  | 65 => ⟨S_, .i32⟩
  | 66 => ⟨S_, .f32⟩
  | 67 => ⟨S2048, .f32⟩
  | 68 => ⟨S2048, .i1⟩
  | 69 => ⟨S2048, .i1⟩
  | 70 => ⟨S2048, .i1⟩
  | 71 => ⟨S2048, .f32⟩
  | 72 => ⟨S_, .f32⟩
  | 73 => ⟨S_, .f32⟩
  | 74 => ⟨S2048x1, .f32⟩
  | 75 => ⟨S2048x2048, .f32⟩
  | 76 => ⟨S2048x2048, .f32⟩
  | 77 => ⟨S_, .f32⟩
  | 78 => ⟨S2048, .f32⟩
  | 79 => ⟨S_, .f32⟩
  | 80 => ⟨S_, .f32⟩
  | 81 => ⟨S2048, .f32⟩
  | 82 => ⟨S2048, .f32⟩
  | 83 => ⟨S_, .f32⟩
  | 84 => ⟨S_, .i1⟩
  | 85 => ⟨S2048x2048, .f32⟩
  | 86 => ⟨S_, .f32⟩
  | 87 => ⟨S2048, .f32⟩
  | 88 => ⟨S2048x1, .f32⟩
  | 89 => ⟨S1024x2048, .f32⟩
  | 90 => ⟨S_, .f32⟩
  | 91 => ⟨S1024, .f32⟩
  | 92 => ⟨S1x1024, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S_, .f32⟩
  | 99 => ⟨S2048x1024, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S2048x1024, .f32⟩
  | 106 => ⟨S2048x1024, .f32⟩
  | 107 => ⟨S2048x3, .f32⟩
  | 108 => ⟨S2048x3, .i32⟩
  | 109 => ⟨S_, .i32⟩
  | 110 => ⟨S2048x3, .i32⟩
  | 111 => ⟨S2048x3, .i1⟩
  | 112 => ⟨S_, .i32⟩
  | 113 => ⟨S2048x3, .i32⟩
  | 114 => ⟨S2048x3, .i32⟩
  | 115 => ⟨S2048x3, .i32⟩
  | 116 => ⟨S2048x3x1, .i32⟩
  | 117 => ⟨S2048x3x2048, .f32⟩
  | 118 => ⟨S_, .f32⟩
  | 119 => ⟨S2048x2048, .f32⟩
  | 120 => ⟨S_, .f32⟩
  | 121 => ⟨S2048x2048, .f32⟩
  | 122 => ⟨S2048x2048, .f32⟩
  | 123 => ⟨S2048x2048, .f32⟩
  | 124 => ⟨S2048x2048, .f32⟩
  | 125 => ⟨S_, .f32⟩
  | 126 => ⟨S_, .f32⟩
  | 127 => ⟨S_, .f32⟩
  | _ => ⟨S2048x2048, .f32⟩

abbrev hbmTy0_1 (i : Nat) : BufTy := match i % 128 with
  | 0 => ⟨S_, .f32⟩
  | 1 => ⟨S1x2048, .f32⟩
  | 2 => ⟨S2048x2048, .f32⟩
  | 3 => ⟨S2048x2048, .f32⟩
  | 4 => ⟨S2048x2048, .f32⟩
  | 5 => ⟨S_, .f32⟩
  | 6 => ⟨S2048, .f32⟩
  | 7 => ⟨S2048, .f32⟩
  | 8 => ⟨S_, .f32⟩
  | 9 => ⟨S2048, .f32⟩
  | 10 => ⟨S2048, .f32⟩
  | 11 => ⟨S_, .f32⟩
  | 12 => ⟨S2048, .f32⟩
  | 13 => ⟨S2048, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_while0c_c_25 : Ref sig .tc := ⟨.hbm, 12, rfl⟩
abbrev main_while0c_v64 : Ref sig .tc := ⟨.hbm, 13, rfl⟩
abbrev main_while0b_call0_c : Ref sig .tc := ⟨.hbm, 14, rfl⟩
abbrev main_while0b_call0_v0 : Ref sig .tc := ⟨.hbm, 15, rfl⟩
abbrev main_while0b_v64 : Ref sig .tc := ⟨.hbm, 16, rfl⟩
abbrev main_while0b_call1_v0 : Ref sig .tc := ⟨.hbm, 17, rfl⟩
abbrev main_while0b_v65 : Ref sig .tc := ⟨.hbm, 18, rfl⟩
abbrev main_while0b_v66 : Ref sig .tc := ⟨.hbm, 19, rfl⟩
abbrev main_while0b_v67 : Ref sig .tc := ⟨.hbm, 20, rfl⟩
abbrev main_while0b_v68 : Ref sig .tc := ⟨.hbm, 21, rfl⟩
abbrev main_while0b_call2_v0 : Ref sig .tc := ⟨.hbm, 22, rfl⟩
abbrev main_while0b_call2_cst : Ref sig .tc := ⟨.hbm, 23, rfl⟩
abbrev main_while0b_call2_v1 : Ref sig .tc := ⟨.hbm, 24, rfl⟩
abbrev main_while0b_v69 : Ref sig .tc := ⟨.hbm, 25, rfl⟩
abbrev main_while0b_call3_v0 : Ref sig .tc := ⟨.hbm, 26, rfl⟩
abbrev main_while0b_call3_cst : Ref sig .tc := ⟨.hbm, 27, rfl⟩
abbrev main_while0b_call3_c : Ref sig .tc := ⟨.hbm, 28, rfl⟩
abbrev main_while0b_call3_v1_0 : Ref sig .tc := ⟨.hbm, 29, rfl⟩
abbrev main_while0b_v70 : Ref sig .tc := ⟨.hbm, 30, rfl⟩
abbrev main_while0b_cst_25 : Ref sig .tc := ⟨.hbm, 31, rfl⟩
abbrev main_while0b_cst_26 : Ref sig .tc := ⟨.hbm, 32, rfl⟩
abbrev main_while0b_v71 : Ref sig .tc := ⟨.hbm, 33, rfl⟩
abbrev main_while0b_c_27 : Ref sig .tc := ⟨.hbm, 34, rfl⟩
abbrev main_while0b_v72 : Ref sig .tc := ⟨.hbm, 35, rfl⟩
abbrev main_while0b_c_28 : Ref sig .tc := ⟨.hbm, 36, rfl⟩
abbrev main_while0b_v73 : Ref sig .tc := ⟨.hbm, 37, rfl⟩
abbrev main_while0b_v74 : Ref sig .tc := ⟨.hbm, 38, rfl⟩
abbrev main_while0b_c_29 : Ref sig .tc := ⟨.hbm, 39, rfl⟩
abbrev main_while0b_c_30 : Ref sig .tc := ⟨.hbm, 40, rfl⟩
abbrev main_while0b_v75 : Ref sig .tc := ⟨.hbm, 41, rfl⟩
abbrev main_while0b_c_31 : Ref sig .tc := ⟨.hbm, 42, rfl⟩
abbrev main_while0b_c_32 : Ref sig .tc := ⟨.hbm, 43, rfl⟩
abbrev main_while0b_v76 : Ref sig .tc := ⟨.hbm, 44, rfl⟩
abbrev main_while0b_c_33 : Ref sig .tc := ⟨.hbm, 45, rfl⟩
abbrev main_while0b_v77 : Ref sig .tc := ⟨.hbm, 46, rfl⟩
abbrev main_while0b_v78 : Ref sig .tc := ⟨.hbm, 47, rfl⟩
abbrev main_while0b_v79 : Ref sig .tc := ⟨.hbm, 48, rfl⟩
abbrev main_while0b_v80 : Ref sig .tc := ⟨.hbm, 49, rfl⟩
abbrev main_while0b_v81 : Ref sig .tc := ⟨.hbm, 50, rfl⟩
abbrev main_while0b_cst_34 : Ref sig .tc := ⟨.hbm, 51, rfl⟩
abbrev main_while0b_v82 : Ref sig .tc := ⟨.hbm, 52, rfl⟩
abbrev main_while0b_v83 : Ref sig .tc := ⟨.hbm, 53, rfl⟩
abbrev main_while0b_v84 : Ref sig .tc := ⟨.hbm, 54, rfl⟩
abbrev main_while0b_v85 : Ref sig .tc := ⟨.hbm, 55, rfl⟩
abbrev main_while0b_c_35 : Ref sig .tc := ⟨.hbm, 56, rfl⟩
abbrev main_while0b_v86 : Ref sig .tc := ⟨.hbm, 57, rfl⟩
abbrev main_while0b_c_36 : Ref sig .tc := ⟨.hbm, 58, rfl⟩
abbrev main_while0b_v87 : Ref sig .tc := ⟨.hbm, 59, rfl⟩
abbrev main_while0b_v88 : Ref sig .tc := ⟨.hbm, 60, rfl⟩
abbrev main_while0b_v89 : Ref sig .tc := ⟨.hbm, 61, rfl⟩
abbrev main_while0b_v90 : Ref sig .tc := ⟨.hbm, 62, rfl⟩
abbrev main_while0b_v91 : Ref sig .tc := ⟨.hbm, 63, rfl⟩
abbrev main_while0b_c_37 : Ref sig .tc := ⟨.hbm, 64, rfl⟩
abbrev main_while0b_v92 : Ref sig .tc := ⟨.hbm, 65, rfl⟩
abbrev main_cst_0 : Ref sig .tc := ⟨.hbm, 66, rfl⟩
abbrev main_v4 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_cst_1 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_cst_2 : Ref sig .tc := ⟨.hbm, 77, rfl⟩
abbrev main_v13 : Ref sig .tc := ⟨.hbm, 78, rfl⟩
abbrev main_cst_3 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_cst_4 : Ref sig .tc := ⟨.hbm, 83, rfl⟩
abbrev main_v17 : Ref sig .tc := ⟨.hbm, 84, rfl⟩
abbrev main_v18 : Ref sig .tc := ⟨.hbm, 85, rfl⟩
abbrev main_cst_5 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_6 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_cst_7 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_cst_8 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_values : Ref sig .tc := ⟨.hbm, 107, rfl⟩
abbrev main_indices : Ref sig .tc := ⟨.hbm, 108, rfl⟩
abbrev main_c_9 : Ref sig .tc := ⟨.hbm, 109, rfl⟩
abbrev main_v36 : Ref sig .tc := ⟨.hbm, 110, rfl⟩
abbrev main_v37 : Ref sig .tc := ⟨.hbm, 111, rfl⟩
abbrev main_c_10 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_cst_11 : Ref sig .tc := ⟨.hbm, 118, rfl⟩
abbrev main_v43 : Ref sig .tc := ⟨.hbm, 119, rfl⟩
abbrev main_cst_12 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_cst_13 : Ref sig .tc := ⟨.hbm, 125, rfl⟩
abbrev main_v48 : Ref sig .tc := ⟨.hbm, 126, rfl⟩
abbrev main_cst_14 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_call5_v0 : Ref sig .tc := ⟨.hbm, 132, rfl⟩
abbrev main_call5_cst : Ref sig .tc := ⟨.hbm, 133, rfl⟩
abbrev main_call5_v1 : Ref sig .tc := ⟨.hbm, 134, rfl⟩
abbrev main_v53 : Ref sig .tc := ⟨.hbm, 135, rfl⟩
abbrev main_cst_15 : Ref sig .tc := ⟨.hbm, 136, rfl⟩
abbrev main_v54 : Ref sig .tc := ⟨.hbm, 137, rfl⟩
abbrev main_v55 : Ref sig .tc := ⟨.hbm, 138, rfl⟩
abbrev main_cst_16 : Ref sig .tc := ⟨.hbm, 139, rfl⟩
abbrev main_v56 : Ref sig .tc := ⟨.hbm, 140, rfl⟩
abbrev main_v57 : Ref sig .tc := ⟨.hbm, 141, rfl⟩
abbrev main_cst_17 : Ref sig .tc := ⟨.hbm, 142, rfl⟩
abbrev main_v58 : Ref sig .tc := ⟨.hbm, 143, rfl⟩
abbrev main_cst_18 : Ref sig .tc := ⟨.hbm, 144, rfl⟩
abbrev main_v59 : Ref sig .tc := ⟨.hbm, 145, rfl⟩
abbrev main_cst_19 : Ref sig .tc := ⟨.hbm, 146, rfl⟩
abbrev main_call6_v0 : Ref sig .tc := ⟨.hbm, 147, rfl⟩
abbrev main_v60 : Ref sig .tc := ⟨.hbm, 148, rfl⟩
abbrev main_cst_20 : Ref sig .tc := ⟨.hbm, 149, rfl⟩
abbrev main_v61 : Ref sig .tc := ⟨.hbm, 150, rfl⟩
abbrev main_cst_21 : Ref sig .tc := ⟨.hbm, 151, rfl⟩
abbrev main_v62 : Ref sig .tc := ⟨.hbm, 152, rfl⟩
abbrev main_v63 : Ref sig .tc := ⟨.hbm, 153, rfl⟩

abbrev nD : Nat := 1
abbrev τ : Topo := Topo.v7x

variable {F : FTy → Type} [FloatOps F]

abbrev main_while0_count : Scf.Loop 32 := ⟨0#32, 2048#32, 1#32⟩
-- ==== Proof.ScanLoop.lean ====
/- The scan kernel's counted loop: one trip as a function of what the three mutable buffers hold, and the loop's
   invariant "before trip k the buffers hold the k-fold iterate". -/
module

public import proofs.«01_k».proof.Proof.Gen.KernelIdeal
public import proofs.«01_k».proof.Proof.Gen.KernelIdeal.Skeleton
public import proofs.«01_k».proof.Proof.Gen.KernelIdeal.Loops
public import Idealize.ShloMosaic.Lib.VecWindow

@[expose] public section

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the loop's three mutable buffers hold. -/
structure KS (F : FTy → Type) where
  n2 : Vec F S1x1024 .f32
  d : Vec F S64x1024 .f32
  p : Vec F S1024x2048 .f32

/-- The three whole-buffer loads, as the body spells them. -/
abbrev allN (X : Vec F S1x1024 .f32) : Vec F S1x1024 .f32 :=
  View.ld (Val := Elt F) (e' := .f32) X (Rect.unit (s := S1x1024) ![0, 0] S1x1024.size inb_S1x1024_S1x1024_0_0)
abbrev allD (X : Vec F S64x1024 .f32) : Vec F S64x1024 .f32 :=
  View.ld (Val := Elt F) (e' := .f32) X (Rect.unit (s := S64x1024) ![0, 0] S64x1024.size inb_S64x1024_S64x1024_0_0)
abbrev allG (X : Vec F S64x64 .f32) : Vec F S64x64 .f32 :=
  View.ld (Val := Elt F) (e' := .f32) X (Rect.unit (s := S64x64) ![0, 0] S64x64.size inb_S64x64_S64x64_0_0)

/-- Row `t` of the distance table. -/
def dRow (s : KS F) (t : Fin k0_t1_loop.trips) : Vec F S1x1024 .f32 :=
  View.ld (Val := Elt F) (e' := .f32) s.d (Rect.unit (s := S64x1024) (k0_off1 t) S1x1024.size (k0_off1_inb t))

/-- The prototype row the trip chooses, as the word the kernel extracts. -/
def word (v36 : IVec S1x1024 32) (s : KS F) (t : Fin k0_t1_loop.trips) : BitVec 32 :=
  extractAt ![0, 0, 0] (k0_pay6 v36 (allN s.n2) (dRow s t)) inpos_S1x1x1_p0_0_0

/-- Trip `t`'s gate. -/
def gateAt (gb : Vec F S64x1 .f32) (t : Fin k0_t1_loop.trips) : Vec F S1x1 .f32 :=
  View.ld (Val := Elt F) (e' := .f32) gb (Rect.unit (s := S64x1) (k0_off2 t) S1x1.size (k0_off2_inb t))

/-- The trip's new row. -/
def newRow (zb : Vec F S64x2048 .f32) (gb : Vec F S64x1 .f32) (t : Fin k0_t1_loop.trips) (p : Vec F S1024x2048 .f32) (w : BitVec 32)
    (h : k0_chk1 w) : Vec F S1x2048 .f32 :=
  k0_pay4 (k0_pay7 (gateAt gb t))
    (View.ld (Val := Elt F) (e' := .f32) p (Rect.unit (s := S1024x2048) (k0_off4 w) S1x2048.size (k0_off4_inb w h)))
    (View.ld (Val := Elt F) (e' := .f32) zb (Rect.unit (s := S64x2048) (k0_off5 t) S1x2048.size (k0_off5_inb t)))

/-- The prototype table after the trip. -/
def newP (zb : Vec F S64x2048 .f32) (gb : Vec F S64x1 .f32) (t : Fin k0_t1_loop.trips) (p : Vec F S1024x2048 .f32) (w : BitVec 32) :
    Vec F S1024x2048 .f32 :=
  open Classical in if h : k0_chk1 w then
    (Rect.unit (s := S1024x2048) (k0_off4 w) S1x2048.size (k0_off4_inb w h)).overlay p (newRow zb gb t p w h)
  else p

/-- One trip of the loop. -/
def kstep (v36 : IVec S1x1024 32) (v37 : IVec S1x64 32) (zb : Vec F S64x2048 .f32) (gb : Vec F S64x1 .f32) (gs : Vec F S64x64 .f32)
    (t : Fin k0_t1_loop.trips) (s : KS F) : KS F where
  n2 := k0_pay2 (k0_pay5 (allN s.n2)) (dRow s t) (k0_pay8 v36 (allN s.n2) (dRow s t) (gateAt gb t))
    (k0_pay10 v37 0#32 1#32 t (View.ld (Val := Elt F) (e' := .f32) gs (Rect.unit (s := S64x64) (k0_off3 t) S1x64.size (k0_off3_inb t))))
    (Named.named κ "musq_m1" 0xBE428F5C#32)
  d := k0_pay3 (k0_pay8 v36 (allN s.n2) (dRow s t) (gateAt gb t)) (k0_pay11 v37 0#32 1#32 t (allG gs)) (allD s.d)
  p := newP zb gb t s.p (word v36 s t)

/-- The state before trip `k`. -/
def kiter (v36 : IVec S1x1024 32) (v37 : IVec S1x64 32) (zb : Vec F S64x2048 .f32) (gb : Vec F S64x1 .f32) (gs : Vec F S64x64 .f32)
    (s0 : KS F) : ℕ → KS F
  | 0 => s0
  | k + 1 => open Classical in if h : k < k0_t1_loop.trips then kstep v36 v37 zb gb gs ⟨k, h⟩ (kiter v36 v37 zb gb gs s0 k)
      else kiter v36 v37 zb gb gs s0 k

theorem kiter_succ (v36 : IVec S1x1024 32) (v37 : IVec S1x64 32) (zb : Vec F S64x2048 .f32) (gb : Vec F S64x1 .f32) (gs : Vec F S64x64 .f32)
    (s0 : KS F) (k : Fin k0_t1_loop.trips) :
    kiter v36 v37 zb gb gs s0 (k.val + 1) = kstep v36 v37 zb gb gs k (kiter v36 v37 zb gb gs s0 k.val) := by
  rw [kiter, dif_pos k.isLt]

/-- Every choice is a row of the table: what the trip's check asks. -/
def ChoiceOk (F : FTy → Type) [FloatOps F] [Named F] (v36 : IVec S1x1024 32) : Prop :=
  ∀ (n2 dr : Vec F S1x1024 .f32), k0_chk1 (extractAt ![0, 0, 0] (k0_pay6 (F := F) v36 n2 dr) inpos_S1x1x1_p0_0_0)

abbrev UU (nD : Nat) (τ : Topo) : Type := UR sig nD τ
abbrev 𝒱₀ : Variants := Variants.none

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What buffer `M` reads at contents `f`. -/
abbrev rd (c : Dev nD) {sp : Space} {S : Shape} {e : EltTy} (M : Memref sig .tc sp S e) (f : Bf (F := F) c M) : S.Idx → Elt F e :=
  M.view.read (Elt F) f

theorem read_writes_one {sig : RefSig} {κ : Kind} {sp : Space} {S : Shape} {e : EltTy} {Val : EltTy → Type} (v : View sig κ sp S e)
    (f : v.ty.Contents Val) (r : Rect S) (w : r.shape.Idx → Val e) :
    v.read Val (v.writes Val f [⟨r, w⟩]) = r.overlay (v.read Val f) w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem _ _ _ _ (by simpa using hy), Rect.overlay_of_not_mem _ _ _ hy]

/-- Before trip `k`: the loop's inputs as they were, its three mutable buffers at the `k`-fold iterate. -/
def scanInv (c : Dev nD) (arg1 : Memref sig .tc .vmem S64x2048 .f32) (arg2 : Memref sig .tc .vmem S64x1 .f32) (arg4 : Memref sig .tc .vmem S1024x2048 .f32) (arg5 : Memref sig .tc .vmem S1x1024 .f32) (arg8 : Memref sig .tc .vmem S64x1024 .f32) (arg9 : Memref sig .tc .vmem S64x64 .f32)
    (v36 : IVec S1x1024 32) (v37 : IVec S1x64 32) (f1 : Bf (F := F) c arg1) (f2 : Bf (F := F) c arg2) (f9 : Bf (F := F) c arg9) (s0 : KS F) (k : ℕ) (_ : Unit) : sProp 𝕄 :=
  iprop(pt c arg1 f1 ∗ pt c arg2 f2 ∗ pt c arg9 f9 ∗ ∃ f4 f5 f8, pt c arg4 f4 ∗ pt c arg5 f5 ∗ pt c arg8 f8
    ∗ ⌜rd c arg4 f4 = (kiter v36 v37 (rd c arg1 f1) (rd c arg2 f2) (rd c arg9 f9) s0 k).p
      ∧ rd c arg5 f5 = (kiter v36 v37 (rd c arg1 f1) (rd c arg2 f2) (rd c arg9 f9) s0 k).n2
      ∧ rd c arg8 f8 = (kiter v36 v37 (rd c arg1 f1) (rd c arg2 f2) (rd c arg9 f9) s0 k).d⌝)

/-- One trip keeps it. -/
theorem scanInv_step (c : Dev nD) (i : grid0.Coords) (arg1 : Memref sig .tc .vmem S64x2048 .f32) (harg1 : arg1.IsWhole) (arg2 : Memref sig .tc .vmem S64x1 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x2048 .f32) (harg6 : arg6.IsWhole) (arg7 : Memref sig .tc .vmem S1x1 .f32) (harg7 : arg7.IsWhole) (arg8 : Memref sig .tc .vmem S64x1024 .f32) (harg8 : arg8.IsWhole) (arg9 : Memref sig .tc .vmem S64x64 .f32) (harg9 : arg9.IsWhole) (v36 : IVec S1x1024 32) (v37 : IVec S1x64 32)
    (hc : ChoiceOk F v36) (f1 : Bf (F := F) c arg1) (f2 : Bf (F := F) c arg2) (f9 : Bf (F := F) c arg9) (s0 : KS F)
    (k : Fin (Scf.trips k0_t1_loop.lb k0_t1_loop.ub k0_t1_loop.st)) (acc : Unit) :
    scanInv c arg1 arg2 arg4 arg5 arg8 arg9 v36 v37 f1 f2 f9 s0 k acc
    ⊢ wp Idealize.ShloMosaic.frame (wpE (defs₀ (F := F)) 𝒱₀ c none) Set.univ
        (k0_t1_body (F := F) i arg1 harg1 arg2 harg2 arg3 harg3 arg4 harg4 arg5 harg5 arg6 harg6 arg7 harg7 arg8 harg8 arg9 harg9 v36 v37 k acc)
        (scanInv c arg1 arg2 arg4 arg5 arg8 arg9 v36 v37 f1 f2 f9 s0 (k + 1)) := by
    unfold scanInv
    unfold k0_t1_body
    iintro ⟨H1, H2, H9, %f4, %f5, %f8, H4, H5, H8, %hs⟩
    sl_exec (disch := exact hc _ _)
    sl_step
    isplitl [H1]; · iexact H1
    isplitl [H2]; · iexact H2
    isplitl [H9]; · iexact H9
    iexists _, _, _
    isplitl [H4]; · iexact H4
    isplitl [H5]; · iexact H5
    isplitl [H8]; · iexact H8
    ipureintro
    have hk := kiter_succ v36 v37 (rd c arg1 f1) (rd c arg2 f2) (rd c arg9 f9) s0 k
    have hS : kiter v36 v37 (rd c arg1 f1) (rd c arg2 f2) (rd c arg9 f9) s0 k.val = ⟨rd c arg5 f5, rd c arg8 f8, rd c arg4 f4⟩ := by
      rw [hs.1, hs.2.1, hs.2.2]
    rw [hk, hS]
    refine ⟨?_, ?_, ?_⟩
    · refine (read_writes_one _ _ _ _).trans ?_
      refine Eq.trans ?_ (dif_pos (hc _ _)).symm
      rfl
    · exact (View.read_writes_full _ _ _ _ _)
    · exact (View.read_writes_full _ _ _ _ _)

end Cert.Proof.Scan

end
-- ==== Proof.ScanRun.lean ====
/- The scan kernel's body run once at symbolic operands, at the grid's first point and at the others. -/
module

public import proofs.«01_k».proof.Proof.ScanLoop

@[expose] public section

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The two index rows the body passes to its loop. -/
abbrev iotaK : IVec S1x1024 32 := iota .tc S1x1024 32 [1] iota_S1x1024_d1_w32
abbrev iotaJ : IVec S1x64 32 := iota .tc S1x64 32 [1] iota_S1x64_d1_w32

/-- What the four accumulating output blocks hold. -/
structure Blk (F : FTy → Type) where
  p : Vec F S1024x2048 .f32
  n2 : Vec F S1x1024 .f32
  za : Vec F S1x2048 .f32
  cnt : Vec F S1x1 .f32

/-- The blocks as the first point initializes them. -/
def blk0 (P0 : Vec F S1024x2048 .f32) : Blk F := ⟨P0, k0_pay12 P0, k0_pay13, k0_pay14⟩

/-- The loop's state on entry and on exit. -/
def entry (zb : Vec F S64x2048 .f32) (b : Blk F) : KS F := ⟨b.n2, k0_pay16 zb b.p, b.p⟩
def exit (zb : Vec F S64x2048 .f32) (gb : Vec F S64x1 .f32) (b : Blk F) : KS F :=
  kiter iotaK iotaJ zb gb (k0_pay17 zb) (entry zb b) k0_t1_loop.trips

/-- One grid point: what the blocks hold after it. -/
def blkStep (zb : Vec F S64x2048 .f32) (gb : Vec F S64x1 .f32) (b : Blk F) : Blk F where
  p := (exit zb gb b).p
  n2 := (exit zb gb b).n2
  za := k0_pay18 zb gb b.za
  cnt := k0_pay1 (k0_pay19 b.cnt) (k0_pay20 gb)

/-- What the body leaves: its inputs as they were, the four blocks at `blkStep`, the two scratch tables at something. -/
def blkAfter (c : Dev nD) (arg1 : Memref sig .tc .vmem S64x2048 .f32) (arg2 : Memref sig .tc .vmem S64x1 .f32) (arg3 : Memref sig .tc .vmem S1024x2048 .f32) (arg4 : Memref sig .tc .vmem S1024x2048 .f32) (arg5 : Memref sig .tc .vmem S1x1024 .f32) (arg6 : Memref sig .tc .vmem S1x2048 .f32) (arg7 : Memref sig .tc .vmem S1x1 .f32) (arg8 : Memref sig .tc .vmem S64x1024 .f32) (arg9 : Memref sig .tc .vmem S64x64 .f32)
    (f1 : Bf (F := F) c arg1) (f2 : Bf (F := F) c arg2) (f3 : Bf (F := F) c arg3) (b : Blk F) : sProp 𝕄 :=
  iprop(pt c arg1 f1 ∗ pt c arg2 f2 ∗ pt c arg3 f3 ∗ (∃ f, pt c arg8 f) ∗ (∃ f, pt c arg9 f)
    ∗ ∃ g4 g5 g6 g7, pt c arg4 g4 ∗ pt c arg5 g5 ∗ pt c arg6 g6 ∗ pt c arg7 g7
      ∗ ⌜rd c arg4 g4 = (blkStep (rd c arg1 f1) (rd c arg2 f2) b).p ∧ rd c arg5 g5 = (blkStep (rd c arg1 f1) (rd c arg2 f2) b).n2
            ∧ rd c arg6 g6 = (blkStep (rd c arg1 f1) (rd c arg2 f2) b).za ∧ rd c arg7 g7 = (blkStep (rd c arg1 f1) (rd c arg2 f2) b).cnt⌝)

theorem scanRun_later (c : Dev nD) (i : grid0.Coords) (hi : ¬ Scalar.cmpi .ne (Scalar.extui (Scalar.cmpi .eq (BitVec.ofNat 32 (i 0).val) 0#32)) 0#32 = 1#1)
    (hc : ChoiceOk F iotaK)
    (arg1 : Memref sig .tc .vmem S64x2048 .f32) (harg1 : arg1.IsWhole) (arg2 : Memref sig .tc .vmem S64x1 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x2048 .f32) (harg6 : arg6.IsWhole) (arg7 : Memref sig .tc .vmem S1x1 .f32) (harg7 : arg7.IsWhole) (arg8 : Memref sig .tc .vmem S64x1024 .f32) (harg8 : arg8.IsWhole) (arg9 : Memref sig .tc .vmem S64x64 .f32) (harg9 : arg9.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (b : Blk F) (h4 : rd c arg4 f4 = b.p) (h5 : rd c arg5 f5 = b.n2) (h6 : rd c arg6 f6 = b.za) (h7 : rd c arg7 f7 = b.cnt)
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (blkAfter c arg1 arg2 arg3 arg4 arg5 arg6 arg7 arg8 arg9 f1 f2 f3 b -∗ Q ⟨⟩))
    ⊢ wp Idealize.ShloMosaic.frame (wpE (defs₀ (F := F)) 𝒱₀ c none) Set.univ
        (cc0__scan_kernel i arg1 harg1 arg2 harg2 arg3 harg3 arg4 harg4 arg5 harg5 arg6 harg6 arg7 harg7 arg8 harg8 arg9 harg9) Q := by
  iintro ⟨H1, H2, H3, H4, H5, H6, H7, H8, H9, Hk⟩
  sl_exec
  have e8 : rd c arg8 (arg8.view.writes (Elt F) arg8.view.junk (scanRun_later.sl.H8_1 c arg1 arg4 f1 f4)) = k0_pay16 (rd c arg1 f1) b.p := by
    rw [← h4]
    refine (View.read_writes_full _ _ _ _ _).trans ?_
    unfold rd; rw [← View.readAt_full arg1.view f1 inb_S64x2048_S64x2048_0_0, ← View.readAt_full arg4.view f4 inb_S1024x2048_S1024x2048_0_0]; rfl
  have e9 : rd c arg9 (arg9.view.writes (Elt F) arg9.view.junk (scanRun_later.sl.H9_1 c arg1 f1)) = k0_pay17 (rd c arg1 f1) := by
    refine (View.read_writes_full _ _ _ _ _).trans ?_
    unfold rd; rw [← View.readAt_full arg1.view f1 inb_S64x2048_S64x2048_0_0]; rfl
  have e6 : rd c arg6 (arg6.view.writes (Elt F) arg6.view.junk (scanRun_later.sl.H6_1 c arg1 arg2 arg6 f1 f2 f6)) = k0_pay18 (rd c arg1 f1) (rd c arg2 f2) b.za := by
    rw [← h6]
    refine (View.read_writes_full _ _ _ _ _).trans ?_
    unfold rd; rw [← View.readAt_full arg1.view f1 inb_S64x2048_S64x2048_0_0, ← View.readAt_full arg2.view f2 inb_S64x1_S64x1_0_0, ← View.readAt_full arg6.view f6 inb_S1x2048_S1x2048_0_0]; rfl
  have e7 : rd c arg7 (arg7.view.writes (Elt F) arg7.view.junk (scanRun_later.sl.H7_1 c arg2 arg7 f2 f7)) = k0_pay1 (k0_pay19 b.cnt) (k0_pay20 (rd c arg2 f2)) := by
    rw [← h7]
    refine (View.read_writes_full _ _ _ _ _).trans ?_
    unfold rd; rw [← View.readAt_full arg2.view f2 inb_S64x1_S64x1_0_0, ← View.readAt_full arg7.view f7 inb_S1x1_S1x1_0_0]; rfl
  sl_for (scanInv c arg1 arg2 arg4 arg5 arg8 arg9 iotaK iotaJ f1 f2
    (arg9.view.writes (Elt F) arg9.view.junk (scanRun_later.sl.H9_1 c arg1 f1)) (entry (rd c arg1 f1) b)) $$ [H1 H2 H9 H4 H5 H8]
  case region =>
    intro k acc
    exact scanInv_step _ _ _ _ _ _ _ _ _ _ _ _ _ _ _ _ _ _ _ _ _ _ hc _ _ _ _ k acc
  · unfold scanInv
    isplitl [H1]; · iexact H1
    isplitl [H2]; · iexact H2
    isplitl [H9]; · iexact H9
    iexists _, _, _
    isplitl [H4]; · iexact H4
    isplitl [H5]; · iexact H5
    isplitl [H8]; · iexact H8
    ipureintro
    exact ⟨h4, h5, e8⟩
  unfold scanInv
  iintro %_ ⟨H1, H2, H9, %g4, %g5, %g8, H4, H5, H8, %hg⟩
  rw [e9] at hg
  sl_exec
  sl_step
  iapply Hk
  unfold blkAfter
  isplitl [H1]; · iexact H1
  isplitl [H2]; · iexact H2
  isplitl [H3]; · iexact H3
  isplitl [H8]; · iexists _; iexact H8
  isplitl [H9]; · iexists _; iexact H9
  iexists _, _, _, _
  isplitl [H4]; · iexact H4
  isplitl [H5]; · iexact H5
  isplitl [H6]; · iexact H6
  isplitl [H7]; · iexact H7
  ipureintro
  exact ⟨hg.1, hg.2.1, e6, e7⟩

theorem scanRun_first (c : Dev nD) (i : grid0.Coords) (hi : Scalar.cmpi .ne (Scalar.extui (Scalar.cmpi .eq (BitVec.ofNat 32 (i 0).val) 0#32)) 0#32 = 1#1)
    (hc : ChoiceOk F iotaK)
    (arg1 : Memref sig .tc .vmem S64x2048 .f32) (harg1 : arg1.IsWhole) (arg2 : Memref sig .tc .vmem S64x1 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x2048 .f32) (harg6 : arg6.IsWhole) (arg7 : Memref sig .tc .vmem S1x1 .f32) (harg7 : arg7.IsWhole) (arg8 : Memref sig .tc .vmem S64x1024 .f32) (harg8 : arg8.IsWhole) (arg9 : Memref sig .tc .vmem S64x64 .f32) (harg9 : arg9.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (blkAfter c arg1 arg2 arg3 arg4 arg5 arg6 arg7 arg8 arg9 f1 f2 f3 (blk0 (rd c arg3 f3)) -∗ Q ⟨⟩))
    ⊢ wp Idealize.ShloMosaic.frame (wpE (defs₀ (F := F)) 𝒱₀ c none) Set.univ
        (cc0__scan_kernel i arg1 harg1 arg2 harg2 arg3 harg3 arg4 harg4 arg5 harg5 arg6 harg6 arg7 harg7 arg8 harg8 arg9 harg9) Q := by
  iintro ⟨H1, H2, H3, H4, H5, H6, H7, H8, H9, Hk⟩
  sl_exec
  have q3 := View.readAt_full arg3.view f3 inb_S1024x2048_S1024x2048_0_0
  have q1 := View.readAt_full arg1.view f1 inb_S64x2048_S64x2048_0_0
  have q2 := View.readAt_full arg2.view f2 inb_S64x1_S64x1_0_0
  have e4 : rd c arg4 (arg4.view.writes (Elt F) arg4.view.junk (scanRun_first.sl.H4_1 c arg3 f3)) = (blk0 (rd c arg3 f3)).p :=
    (View.read_writes_full _ _ _ _ _).trans q3
  have e5 : rd c arg5 (arg5.view.writes (Elt F) arg5.view.junk (scanRun_first.sl.H5_1 c arg3 f3)) = (blk0 (rd c arg3 f3)).n2 :=
    (View.read_writes_full _ _ _ _ _).trans (congrArg k0_pay12 q3)
  have e8 : rd c arg8 (arg8.view.writes (Elt F) arg8.view.junk (scanRun_first.sl.H8_1 c arg1 arg3 arg4 f1 f3)) = k0_pay16 (rd c arg1 f1) (blk0 (rd c arg3 f3)).p :=
    (View.read_writes_full _ _ _ _ _).trans (congrArg₂ k0_pay16 q1 ((View.readCov_full _ _ _ _ _).trans q3))
  have e9 : rd c arg9 (arg9.view.writes (Elt F) arg9.view.junk (scanRun_first.sl.H9_1 c arg1 f1)) = k0_pay17 (rd c arg1 f1) :=
    (View.read_writes_full _ _ _ _ _).trans (congrArg k0_pay17 q1)
  have e6 : rd c arg6 (arg6.view.writes (Elt F) arg6.view.junk (scanRun_first.sl.H6_2 c arg1 arg2 arg6 f1 f2)) = k0_pay18 (rd c arg1 f1) (rd c arg2 f2) (k0_pay13 (F := F)) :=
    (View.read_writes_full _ _ _ _ _).trans (congr (congrArg₂ k0_pay18 q1 q2) (View.readCov_full _ _ _ _ _))
  have e7 : rd c arg7 (arg7.view.writes (Elt F) arg7.view.junk (scanRun_first.sl.H7_2 c arg2 arg7 f2)) = k0_pay1 (k0_pay19 (k0_pay14 (F := F))) (k0_pay20 (rd c arg2 f2)) :=
    (View.read_writes_full _ _ _ _ _).trans (congrArg₂ k0_pay1 (congrArg k0_pay19 (View.readCov_full _ _ _ _ _)) (congrArg k0_pay20 q2))
  sl_for (scanInv c arg1 arg2 arg4 arg5 arg8 arg9 iotaK iotaJ f1 f2
    (arg9.view.writes (Elt F) arg9.view.junk (scanRun_first.sl.H9_1 c arg1 f1)) (entry (rd c arg1 f1) (blk0 (rd c arg3 f3)))) $$ [H1 H2 H9 H4 H5 H8]
  case region =>
    intro k acc
    exact scanInv_step _ _ _ _ _ _ _ _ _ _ _ _ _ _ _ _ _ _ _ _ _ _ hc _ _ _ _ k acc
  · unfold scanInv
    isplitl [H1]; · iexact H1
    isplitl [H2]; · iexact H2
    isplitl [H9]; · iexact H9
    iexists _, _, _
    isplitl [H4]; · iexact H4
    isplitl [H5]; · iexact H5
    isplitl [H8]; · iexact H8
    ipureintro
    exact ⟨e4, e5, e8⟩
  unfold scanInv
  iintro %_ ⟨H1, H2, H9, %g4, %g5, %g8, H4, H5, H8, %hg⟩
  rw [e9] at hg
  sl_exec
  sl_step
  iapply Hk
  unfold blkAfter
  isplitl [H1]; · iexact H1
  isplitl [H2]; · iexact H2
  isplitl [H3]; · iexact H3
  isplitl [H8]; · iexists _; iexact H8
  isplitl [H9]; · iexists _; iexact H9
  iexists _, _, _, _
  isplitl [H4]; · iexact H4
  isplitl [H5]; · iexact H5
  isplitl [H6]; · iexact H6
  isplitl [H7]; · iexact H7
  ipureintro
  exact ⟨hg.1, hg.2.1, e6, e7⟩

end Cert.Proof.Scan

end
-- ==== Proof.LossRun.lean ====
/- The loss kernel's body run once at symbolic operands, at the grid's first point and at the others. -/
module

public import proofs.«01_k».proof.Proof.ScanRun

@[expose] public section

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- One grid point of the loss: the accumulated scalar after it. -/
def lossStep (zb : Vec F S256x2048 .f32) (b : Blk F) (acc : Vec F S1x1 .f32) : Vec F S1x1 .f32 :=
  k1_pay10 zb (k1_pay3 zb) (k1_pay8 zb (k1_pay2 b.p) iotaK (k1_pay6 zb b.p b.n2) (k1_pay7 zb b.p b.n2)) (k1_pay9 b.cnt) b.za acc

/-- What the body leaves. -/
def lossAfter (c : Dev nD) (arg1 : Memref sig .tc .vmem S256x2048 .f32) (arg2 : Memref sig .tc .vmem S1024x2048 .f32) (arg3 : Memref sig .tc .vmem S1x1024 .f32) (arg4 : Memref sig .tc .vmem S1x2048 .f32) (arg5 : Memref sig .tc .vmem S1x1 .f32) (arg6 : Memref sig .tc .vmem S1x1 .f32)
    (f1 : Bf (F := F) c arg1) (f2 : Bf (F := F) c arg2) (f3 : Bf (F := F) c arg3) (f4 : Bf (F := F) c arg4) (f5 : Bf (F := F) c arg5) (acc : Vec F S1x1 .f32) : sProp 𝕄 :=
  iprop(pt c arg1 f1 ∗ pt c arg2 f2 ∗ pt c arg3 f3 ∗ pt c arg4 f4 ∗ pt c arg5 f5
    ∗ ∃ g6, pt c arg6 g6 ∗ ⌜rd c arg6 g6 = lossStep (rd c arg1 f1) ⟨rd c arg2 f2, rd c arg3 f3, rd c arg4 f4, rd c arg5 f5⟩ acc⌝)

theorem lossRun_later (c : Dev nD) (i : grid1.Coords) (hi : ¬ Scalar.cmpi .ne (Scalar.extui (Scalar.cmpi .eq (BitVec.ofNat 32 (i 0).val) 0#32)) 0#32 = 1#1)
    (arg1 : Memref sig .tc .vmem S256x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole)
    (f1 : Bf (F := F) c arg1) (f2 : Bf (F := F) c arg2) (f3 : Bf (F := F) c arg3) (f4 : Bf (F := F) c arg4) (f5 : Bf (F := F) c arg5)
    (f6 : Bf (F := F) c arg6) (Q : PUnit → sProp 𝕄) :
    iprop(pt c arg1 f1 ∗ pt c arg2 f2 ∗ pt c arg3 f3 ∗ pt c arg4 f4 ∗ pt c arg5 f5 ∗ pt c arg6 f6
      ∗ (lossAfter c arg1 arg2 arg3 arg4 arg5 arg6 f1 f2 f3 f4 f5 (rd c arg6 f6) -∗ Q ⟨⟩))
    ⊢ wp Idealize.ShloMosaic.frame (wpE (defs₀ (F := F)) 𝒱₀ c none) Set.univ
        (cc1__loss_kernel i arg1 harg1 arg2 harg2 arg3 harg3 arg4 harg4 arg5 harg5 arg6 harg6) Q := by
  iintro ⟨H1, H2, H3, H4, H5, H6, Hk⟩
  sl_exec
  sl_step
  iapply Hk
  unfold lossAfter
  isplitl [H1]; · iexact H1
  isplitl [H2]; · iexact H2
  isplitl [H3]; · iexact H3
  isplitl [H4]; · iexact H4
  isplitl [H5]; · iexact H5
  iexists _
  isplitl [H6]; · iexact H6
  ipureintro
  refine (View.read_writes_full _ _ _ _ _).trans ?_
  unfold rd
  rw [← View.readAt_full arg1.view f1 inb_S256x2048_S256x2048_0_0, ← View.readAt_full arg2.view f2 inb_S1024x2048_S1024x2048_0_0,
    ← View.readAt_full arg3.view f3 inb_S1x1024_S1x1024_0_0, ← View.readAt_full arg4.view f4 inb_S1x2048_S1x2048_0_0,
    ← View.readAt_full arg5.view f5 inb_S1x1_S1x1_0_0, ← View.readAt_full arg6.view f6 inb_S1x1_S1x1_0_0]
  rfl

theorem lossRun_first (c : Dev nD) (i : grid1.Coords) (hi : Scalar.cmpi .ne (Scalar.extui (Scalar.cmpi .eq (BitVec.ofNat 32 (i 0).val) 0#32)) 0#32 = 1#1)
    (arg1 : Memref sig .tc .vmem S256x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole)
    (f1 : Bf (F := F) c arg1) (f2 : Bf (F := F) c arg2) (f3 : Bf (F := F) c arg3) (f4 : Bf (F := F) c arg4) (f5 : Bf (F := F) c arg5)
    (f6 : Bf (F := F) c arg6) (Q : PUnit → sProp 𝕄) :
    iprop(pt c arg1 f1 ∗ pt c arg2 f2 ∗ pt c arg3 f3 ∗ pt c arg4 f4 ∗ pt c arg5 f5 ∗ pt c arg6 f6
      ∗ (lossAfter c arg1 arg2 arg3 arg4 arg5 arg6 f1 f2 f3 f4 f5 (k1_pay1 (F := F)) -∗ Q ⟨⟩))
    ⊢ wp Idealize.ShloMosaic.frame (wpE (defs₀ (F := F)) 𝒱₀ c none) Set.univ
        (cc1__loss_kernel i arg1 harg1 arg2 harg2 arg3 harg3 arg4 harg4 arg5 harg5 arg6 harg6) Q := by
  iintro ⟨H1, H2, H3, H4, H5, H6, Hk⟩
  sl_exec
  sl_step
  iapply Hk
  unfold lossAfter
  isplitl [H1]; · iexact H1
  isplitl [H2]; · iexact H2
  isplitl [H3]; · iexact H3
  isplitl [H4]; · iexact H4
  isplitl [H5]; · iexact H5
  iexists _
  isplitl [H6]; · iexact H6
  ipureintro
  refine (View.read_writes_full _ _ _ _ _).trans ?_
  unfold rd
  rw [← View.readAt_full arg1.view f1 inb_S256x2048_S256x2048_0_0, ← View.readAt_full arg2.view f2 inb_S1024x2048_S1024x2048_0_0,
    ← View.readAt_full arg3.view f3 inb_S1x1024_S1x1024_0_0, ← View.readAt_full arg4.view f4 inb_S1x2048_S1x2048_0_0,
    ← View.readAt_full arg5.view f5 inb_S1x1_S1x1_0_0]
  exact congrArg (k1_pay10 _ _ _ _ _) (View.readCov_full arg6.view inb_S1x1_S1x1_0_0 inb_S1x1_S1x1_0_0 _ _)

end Cert.Proof.Scan

end
-- ==== Proof.ScanData.lean ====
/- The scan's pipeline data: what its windows hold point by point, and the body's obligation at every point. -/
module

public import proofs.«01_k».proof.Proof.LossRun
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Frame

@[expose] public section

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UU nD τ) ℕ

omit [FloatOps F] [Named F] in
/-- Owning a whole staging buffer at what it reads. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜rd c M f = X⌝ ∗ pt c M f) := by
  obtain ⟨b, rfl, rfl, rfl, h⟩ := h
  cases h
  unfold owns; simp only [Memref.view_whole, View.set_whole]

/-- A valuation's contents of region 0's arrays. -/
abbrev Val0 : Type := Dev nD → Valuation τ sig (Elt F)

section R0

variable (V : Val0 (F := F))

/-- The blocks the scan's three inputs are fetched in. -/
def zb0 (c : Dev nD) (t : Fin cfg0.N) : Vec F S64x2048 .f32 := ((cfg0.win 0).blk t).view.read (Elt F) (V c (Proc.devRef .tc (Pipeline.arrRef spec0 0)))
def gb0 (c : Dev nD) (t : Fin cfg0.N) : Vec F S64x1 .f32 := ((cfg0.win 1).blk t).view.read (Elt F) (V c (Proc.devRef .tc (Pipeline.arrRef spec0 1)))
def pb0 (c : Dev nD) (t : Fin cfg0.N) : Vec F S1024x2048 .f32 := ((cfg0.win 2).blk t).view.read (Elt F) (V c (Proc.devRef .tc (Pipeline.arrRef spec0 2)))

theorem N0_eq : cfg0.N = 32 := N_0

/-- The four blocks before point `n`. -/
def blkAt (c : Dev nD) : ℕ → Blk F
  | 0 => blk0 (pb0 V c ⟨0, by rw [N0_eq]; decide⟩)
  | n + 1 => if h : n < cfg0.N then blkStep (zb0 V c ⟨n, h⟩) (gb0 V c ⟨n, h⟩) (blkAt c n) else blkAt c n

theorem blkAt_succ (c : Dev nD) (t : Fin cfg0.N) : blkAt V c (t.val + 1) = blkStep (zb0 V c t) (gb0 V c t) (blkAt V c t.val) := by
  rw [blkAt, dif_pos t.isLt]

/-- The scan's proof data. -/
def dat0 (c : Dev nD) : Dat τ (Elt F) Unit ℕ (UU nD τ) ℕ cfg0 c where
  A w := V c (Proc.devRef .tc (Pipeline.arrRef spec0 w))
  after w t := match w with
    | ⟨0, _⟩ => zb0 V c t
    | ⟨1, _⟩ => gb0 V c t
    | ⟨2, _⟩ => pb0 V c t
    | ⟨3, _⟩ => (blkAt V c (t.val + 1)).p
    | ⟨4, _⟩ => (blkAt V c (t.val + 1)).n2
    | ⟨5, _⟩ => (blkAt V c (t.val + 1)).za
    | ⟨6, _⟩ => (blkAt V c (t.val + 1)).cnt
    | ⟨_ + 7, h⟩ => absurd h (Nat.not_lt.2 (Nat.le_add_left _ _))
  Φ _ := Pipeline.scopedRest (Ix := Unit) (Name := ℕ) (U := UU nD τ) (Lvl := ℕ) (Val := Elt F) spec0 c
  q _ := fullShare
  owed _ := 0

theorem A0_eq (c : Dev nD) (w : Fin cfg0.W) : (dat0 V c).A w = V c (Proc.devRef .tc (Pipeline.arrRef spec0 w)) := by
  dsimp only [dat0]

theorem before0_0 (c : Dev nD) (t : Fin cfg0.N) (d) : (dat0 V c).before 0 t d = zb0 V c t := by
  rw [(dat0 V c).before_fetched 0 t (fetch0_0 t) d]
  unfold Dat.fetched Dat.blockOf; dsimp only [dat0]; rfl
theorem before0_1 (c : Dev nD) (t : Fin cfg0.N) (d) : (dat0 V c).before 1 t d = gb0 V c t := by
  rw [(dat0 V c).before_fetched 1 t (fetch0_1 t) d]
  unfold Dat.fetched Dat.blockOf; dsimp only [dat0]; rfl
theorem before0_2 (c : Dev nD) (t : Fin cfg0.N) (d) : (dat0 V c).before 2 t d = pb0 V c t := by
  rw [(dat0 V c).before_in_eq_fetched 2 rfl (fun _ => rfl) (fun _ _ _ => rfl) (fun _ => rfl) t d]
  unfold Dat.fetched Dat.blockOf; dsimp only [dat0]; rfl

theorem flush0_ne (t : Fin cfg0.N) (h0 : t.val ≠ 0) : ¬ ((t.val - 1) % 32 = 31) := by
  have := t.isLt; have h : cfg0.N = 32 := N_0; omega

theorem before0_3 (c : Dev nD) (t : Fin cfg0.N) (h0 : t.val ≠ 0) (d) : (dat0 V c).before 3 t d = (blkAt V c t.val).p := by
  rw [(dat0 V c).before_out_kept 3 rfl t h0 (by rw [← Bool.not_eq_true, flush0_3]; exact flush0_ne t h0) (fun _ => rfl) (fun _ _ => rfl) d]
  dsimp only [dat0]; rw [Nat.sub_add_cancel (Nat.pos_of_ne_zero h0)]
theorem before0_4 (c : Dev nD) (t : Fin cfg0.N) (h0 : t.val ≠ 0) (d) : (dat0 V c).before 4 t d = (blkAt V c t.val).n2 := by
  rw [(dat0 V c).before_out_kept 4 rfl t h0 (by rw [← Bool.not_eq_true, flush0_4]; exact flush0_ne t h0) (fun _ => rfl) (fun _ _ => rfl) d]
  dsimp only [dat0]; rw [Nat.sub_add_cancel (Nat.pos_of_ne_zero h0)]
theorem before0_5 (c : Dev nD) (t : Fin cfg0.N) (h0 : t.val ≠ 0) (d) : (dat0 V c).before 5 t d = (blkAt V c t.val).za := by
  rw [(dat0 V c).before_out_kept 5 rfl t h0 (by rw [← Bool.not_eq_true, flush0_5]; exact flush0_ne t h0) (fun _ => rfl) (fun _ _ => rfl) d]
  dsimp only [dat0]; rw [Nat.sub_add_cancel (Nat.pos_of_ne_zero h0)]
theorem before0_6 (c : Dev nD) (t : Fin cfg0.N) (h0 : t.val ≠ 0) (d) : (dat0 V c).before 6 t d = (blkAt V c t.val).cnt := by
  rw [(dat0 V c).before_out_kept 6 rfl t h0 (by rw [← Bool.not_eq_true, flush0_6]; exact flush0_ne t h0) (fun _ => rfl) (fun _ _ => rfl) d]
  dsimp only [dat0]; rw [Nat.sub_add_cancel (Nat.pos_of_ne_zero h0)]

theorem first0_iff : ∀ t : Fin grid0.N, Iff (Scalar.cmpi .ne (Scalar.extui (Scalar.cmpi .eq (BitVec.ofNat 32 (grid0.coords t 0).val) 0#32)) 0#32 = 1#1) (t.val = 0) := by
  decide

set_option maxHeartbeats 2000000 in
theorem body0 (hc : ChoiceOk F iotaK) (c : Dev nD) : BodyObligation (dat0 V c) (defs₀ (F := F)) 𝒱₀ () Set.univ := fun t => by
  rw [bigSep_W0, bigSep_W0]
  rw [show (dat0 V c).Φ t.castSucc = Pipeline.scopedRest spec0 c from rfl, show (dat0 V c).Φ t.succ = Pipeline.scopedRest spec0 c from rfl]
  unfold Dat.owesAt Pipeline.owesWithin
  rw [scopedRest0_eq, show (dat0 V c).owed t.castSucc = 0 from rfl, show (dat0 V c).owed t.succ = 0 from rfl]
  have w0 := hstage0_0 ((cfg0.slots t 0).cast nbuf0_0)
  have w1 := hstage0_1 ((cfg0.slots t 1).cast nbuf0_1)
  have w2 := hstage0_2 ((cfg0.slots t 2).cast nbuf0_2)
  have w3 := hstage0_3 ((cfg0.slots t 3).cast nbuf0_3)
  have w4 := hstage0_4 ((cfg0.slots t 4).cast nbuf0_4)
  have w5 := hstage0_5 ((cfg0.slots t 5).cast nbuf0_5)
  have w6 := hstage0_6 ((cfg0.slots t 6).cast nbuf0_6)
  simp only [before0_0, before0_1, before0_2]
  iintro ⟨⟨⟨%f8, H8⟩, ⟨%f9, H9⟩, Hr⟩, ⟨%W, %hW, HO⟩, ⟨%d0, H0⟩, ⟨%d1, H1⟩, ⟨%d2, H2⟩, ⟨%d3, H3⟩, ⟨%d4, H4⟩, ⟨%d5, H5⟩, ⟨%d6, H6⟩⟩
  ihave H0 := (Entails.of_eq (owns_pt c (st0_0 t) w0 _)) $$ H0
  ihave H1 := (Entails.of_eq (owns_pt c (st0_1 t) w1 _)) $$ H1
  ihave H2 := (Entails.of_eq (owns_pt c (st0_2 t) w2 _)) $$ H2
  ihave H3 := (Entails.of_eq (owns_pt c (st0_3 t) w3 _)) $$ H3
  ihave H4 := (Entails.of_eq (owns_pt c (st0_4 t) w4 _)) $$ H4
  ihave H5 := (Entails.of_eq (owns_pt c (st0_5 t) w5 _)) $$ H5
  ihave H6 := (Entails.of_eq (owns_pt c (st0_6 t) w6 _)) $$ H6
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  have hk : ∀ b : Blk F, b = blkAt V c t.val →
      blkAfter c (st0_0 t) (st0_1 t) (st0_2 t) (st0_3 t) (st0_4 t) (st0_5 t) (st0_6 t) (Memref.whole cc0_scratch0) (Memref.whole cc0_scratch1) f0 f1 f2 b
      ⊢ (iprop((∃ f, pt c (Memref.whole cc0_scratch0) f) ∗ (∃ f, pt c (Memref.whole cc0_scratch1) f)
          ∗ owns (c : Thread nD τ) (st0_0 t) fullShare ((dat0 V c).after 0 t) ∗ owns (c : Thread nD τ) (st0_1 t) fullShare ((dat0 V c).after 1 t)
          ∗ owns (c : Thread nD τ) (st0_2 t) fullShare ((dat0 V c).after 2 t) ∗ owns (c : Thread nD τ) (st0_3 t) fullShare ((dat0 V c).after 3 t)
          ∗ owns (c : Thread nD τ) (st0_4 t) fullShare ((dat0 V c).after 4 t) ∗ owns (c : Thread nD τ) (st0_5 t) fullShare ((dat0 V c).after 5 t)
          ∗ owns (c : Thread nD τ) (st0_6 t) fullShare ((dat0 V c).after 6 t)) : sProp 𝕄) := by
    intro b hb
    have hs : blkStep (rd c (st0_0 t) f0) (rd c (st0_1 t) f1) b = blkAt V c (t.val + 1) := by
      rw [blkAt_succ, hb, e0, e1]
    unfold blkAfter
    rw [hs]
    rw [owns_pt c (st0_0 t) w0, owns_pt c (st0_1 t) w1, owns_pt c (st0_2 t) w2, owns_pt c (st0_3 t) w3, owns_pt c (st0_4 t) w4, owns_pt c (st0_5 t) w5, owns_pt c (st0_6 t) w6]
    dsimp only [dat0]
    iintro ⟨H0, H1, H2, H8, H9, %g3, %g4, %g5, %g6, H3, H4, H5, H6, %hg⟩
    isplitl [H8]; · iexact H8
    isplitl [H9]; · iexact H9
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists g3; isplitr; · ipureintro; exact hg.1
                    iexact H3
    isplitl [H4]; · iexists g4; isplitr; · ipureintro; exact hg.2.1
                    iexact H4
    isplitl [H5]; · iexists g5; isplitr; · ipureintro; exact hg.2.2.1
                    iexact H5
    iexists g6; isplitr; · ipureintro; exact hg.2.2.2
    iexact H6
  by_cases h0 : t.val = 0
  · iapply (scanRun_first c (grid0.coords t) ((first0_iff t).mpr h0) hc (st0_0 t) w0 (st0_1 t) w1 (st0_2 t) w2 (st0_3 t) w3 (st0_4 t) w4 (st0_5 t) w5 (st0_6 t) w6
      (Memref.whole cc0_scratch0) (Memref.isWhole_whole _) (Memref.whole cc0_scratch1) (Memref.isWhole_whole _) f0 f1 f2 f3 f4 f5 f6 f8 f9)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    iintro Hp
    ihave Hp := (hk _ (by
      have ht : t = ⟨0, by rw [N0_eq]; decide⟩ := Fin.ext h0
      rw [h0, e2, ht]; rfl)) $$ Hp
    icases Hp with ⟨H8, H9, Hw⟩
    isplitl [H8 H9 Hr]
    · isplitl [H8]; · iexact H8
      isplitl [H9]; · iexact H9
      iexact Hr
    isplitl [HO]
    · iexists W; isplitr; · ipureintro; exact fun _ _ => Or.inl trivial
      iexact HO
    iexact Hw
  · simp only [before0_3 V c t h0] at e3
    simp only [before0_4 V c t h0] at e4
    simp only [before0_5 V c t h0] at e5
    simp only [before0_6 V c t h0] at e6
    iapply (scanRun_later c (grid0.coords t) (fun h => h0 ((first0_iff t).mp h)) hc (st0_0 t) w0 (st0_1 t) w1 (st0_2 t) w2 (st0_3 t) w3 (st0_4 t) w4 (st0_5 t) w5 (st0_6 t) w6
      (Memref.whole cc0_scratch0) (Memref.isWhole_whole _) (Memref.whole cc0_scratch1) (Memref.isWhole_whole _) f0 f1 f2 f3 f4 f5 f6 f8 f9
      (blkAt V c t.val) e3 e4 e5 e6)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    iintro Hp
    ihave Hp := (hk _ rfl) $$ Hp
    icases Hp with ⟨H8, H9, Hw⟩
    isplitl [H8 H9 Hr]
    · isplitl [H8]; · iexact H8
      isplitl [H9]; · iexact H9
      iexact Hr
    isplitl [HO]
    · iexists W; isplitr; · ipureintro; exact fun _ _ => Or.inl trivial
      iexact HO
    iexact Hw

end R0

end Cert.Proof.Scan

end
-- ==== Proof.LossData.lean ====
/- The loss's pipeline data: what its windows hold point by point, and the body's obligation at every point. -/
module

public import proofs.«01_k».proof.Proof.ScanData
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Frame

@[expose] public section

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UU nD τ) ℕ

section R1

variable (V : Val0 (F := F))

/-- The blocks the loss's five inputs are fetched in. -/
def zb1 (c : Dev nD) (t : Fin cfg1.N) : Vec F S256x2048 .f32 := ((cfg1.win 0).blk t).view.read (Elt F) (V c (Proc.devRef .tc (Pipeline.arrRef spec1 0)))
def in1 (c : Dev nD) (t : Fin cfg1.N) : Blk F where
  p := ((cfg1.win 1).blk t).view.read (Elt F) (V c (Proc.devRef .tc (Pipeline.arrRef spec1 1)))
  n2 := ((cfg1.win 2).blk t).view.read (Elt F) (V c (Proc.devRef .tc (Pipeline.arrRef spec1 2)))
  za := ((cfg1.win 3).blk t).view.read (Elt F) (V c (Proc.devRef .tc (Pipeline.arrRef spec1 3)))
  cnt := ((cfg1.win 4).blk t).view.read (Elt F) (V c (Proc.devRef .tc (Pipeline.arrRef spec1 4)))

theorem N1_eq : cfg1.N = 8 := N_1

/-- The accumulated scalar before point `n`. -/
def accAt (c : Dev nD) : ℕ → Vec F S1x1 .f32
  | 0 => k1_pay1
  | n + 1 => if h : n < cfg1.N then lossStep (zb1 V c ⟨n, h⟩) (in1 V c ⟨n, h⟩) (accAt c n) else accAt c n

theorem accAt_succ (c : Dev nD) (t : Fin cfg1.N) : accAt V c (t.val + 1) = lossStep (zb1 V c t) (in1 V c t) (accAt V c t.val) := by
  rw [accAt, dif_pos t.isLt]

/-- The loss's proof data. -/
def dat1 (c : Dev nD) : Dat τ (Elt F) Unit ℕ (UU nD τ) ℕ cfg1 c where
  A w := V c (Proc.devRef .tc (Pipeline.arrRef spec1 w))
  after w t := match w with
    | ⟨0, _⟩ => zb1 V c t
    | ⟨1, _⟩ => (in1 V c t).p
    | ⟨2, _⟩ => (in1 V c t).n2
    | ⟨3, _⟩ => (in1 V c t).za
    | ⟨4, _⟩ => (in1 V c t).cnt
    | ⟨5, _⟩ => accAt V c (t.val + 1)
    | ⟨_ + 6, h⟩ => absurd h (Nat.not_lt.2 (Nat.le_add_left _ _))
  Φ _ := Pipeline.scopedRest (Ix := Unit) (Name := ℕ) (U := UU nD τ) (Lvl := ℕ) (Val := Elt F) spec1 c
  q _ := fullShare
  owed _ := 0

theorem A1_eq (c : Dev nD) (w : Fin cfg1.W) : (dat1 V c).A w = V c (Proc.devRef .tc (Pipeline.arrRef spec1 w)) := by
  dsimp only [dat1]

theorem before1_0 (c : Dev nD) (t : Fin cfg1.N) (d) : (dat1 V c).before 0 t d = zb1 V c t := by
  rw [(dat1 V c).before_in_eq_fetched 0 rfl (fun _ => rfl) (fun _ _ _ => rfl) (fun _ => rfl) t d]
  unfold Dat.fetched Dat.blockOf; dsimp only [dat1]; rfl
theorem before1_1 (c : Dev nD) (t : Fin cfg1.N) (d) : (dat1 V c).before 1 t d = (in1 V c t).p := by
  rw [(dat1 V c).before_in_eq_fetched 1 rfl (fun _ => rfl) (fun _ _ _ => rfl) (fun _ => rfl) t d]
  unfold Dat.fetched Dat.blockOf; dsimp only [dat1]; rfl
theorem before1_2 (c : Dev nD) (t : Fin cfg1.N) (d) : (dat1 V c).before 2 t d = (in1 V c t).n2 := by
  rw [(dat1 V c).before_in_eq_fetched 2 rfl (fun _ => rfl) (fun _ _ _ => rfl) (fun _ => rfl) t d]
  unfold Dat.fetched Dat.blockOf; dsimp only [dat1]; rfl
theorem before1_3 (c : Dev nD) (t : Fin cfg1.N) (d) : (dat1 V c).before 3 t d = (in1 V c t).za := by
  rw [(dat1 V c).before_in_eq_fetched 3 rfl (fun _ => rfl) (fun _ _ _ => rfl) (fun _ => rfl) t d]
  unfold Dat.fetched Dat.blockOf; dsimp only [dat1]; rfl
theorem before1_4 (c : Dev nD) (t : Fin cfg1.N) (d) : (dat1 V c).before 4 t d = (in1 V c t).cnt := by
  rw [(dat1 V c).before_in_eq_fetched 4 rfl (fun _ => rfl) (fun _ _ _ => rfl) (fun _ => rfl) t d]
  unfold Dat.fetched Dat.blockOf; dsimp only [dat1]; rfl

theorem flush1_ne (t : Fin cfg1.N) (h0 : t.val ≠ 0) : ¬ ((t.val - 1) % 8 = 7) := by
  have := t.isLt; have h : cfg1.N = 8 := N_1; omega

theorem before1_5 (c : Dev nD) (t : Fin cfg1.N) (h0 : t.val ≠ 0) (d) : (dat1 V c).before 5 t d = accAt V c t.val := by
  rw [(dat1 V c).before_out_kept 5 rfl t h0 (by rw [← Bool.not_eq_true, flush1_5]; exact flush1_ne t h0) (fun _ => rfl) (fun _ _ => rfl) d]
  dsimp only [dat1]; rw [Nat.sub_add_cancel (Nat.pos_of_ne_zero h0)]

theorem first1_iff : ∀ t : Fin grid1.N, Iff (Scalar.cmpi .ne (Scalar.extui (Scalar.cmpi .eq (BitVec.ofNat 32 (grid1.coords t 0).val) 0#32)) 0#32 = 1#1) (t.val = 0) := by
  decide

set_option maxHeartbeats 2000000 in
theorem body1 (c : Dev nD) : BodyObligation (dat1 V c) (defs₀ (F := F)) 𝒱₀ () Set.univ := fun t => by
  rw [bigSep_W1, bigSep_W1]
  rw [show (dat1 V c).Φ t.castSucc = Pipeline.scopedRest spec1 c from rfl, show (dat1 V c).Φ t.succ = Pipeline.scopedRest spec1 c from rfl]
  unfold Dat.owesAt Pipeline.owesWithin
  rw [show (dat1 V c).owed t.castSucc = 0 from rfl, show (dat1 V c).owed t.succ = 0 from rfl]
  have w0 := hstage1_0 ((cfg1.slots t 0).cast nbuf1_0)
  have w1 := hstage1_1 ((cfg1.slots t 1).cast nbuf1_1)
  have w2 := hstage1_2 ((cfg1.slots t 2).cast nbuf1_2)
  have w3 := hstage1_3 ((cfg1.slots t 3).cast nbuf1_3)
  have w4 := hstage1_4 ((cfg1.slots t 4).cast nbuf1_4)
  have w5 := hstage1_5 ((cfg1.slots t 5).cast nbuf1_5)
  simp only [before1_0, before1_1, before1_2, before1_3, before1_4]
  iintro ⟨Hr, ⟨%W, %hW, HO⟩, ⟨%d0, H0⟩, ⟨%d1, H1⟩, ⟨%d2, H2⟩, ⟨%d3, H3⟩, ⟨%d4, H4⟩, ⟨%d5, H5⟩⟩
  ihave H0 := (Entails.of_eq (owns_pt c (st1_0 t) w0 _)) $$ H0
  ihave H1 := (Entails.of_eq (owns_pt c (st1_1 t) w1 _)) $$ H1
  ihave H2 := (Entails.of_eq (owns_pt c (st1_2 t) w2 _)) $$ H2
  ihave H3 := (Entails.of_eq (owns_pt c (st1_3 t) w3 _)) $$ H3
  ihave H4 := (Entails.of_eq (owns_pt c (st1_4 t) w4 _)) $$ H4
  ihave H5 := (Entails.of_eq (owns_pt c (st1_5 t) w5 _)) $$ H5
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  have hk : ∀ a : Vec F S1x1 .f32, a = accAt V c t.val →
      lossAfter c (st1_0 t) (st1_1 t) (st1_2 t) (st1_3 t) (st1_4 t) (st1_5 t) f0 f1 f2 f3 f4 a
      ⊢ (iprop(owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t)
          ∗ owns (c : Thread nD τ) (st1_5 t) fullShare ((dat1 V c).after 5 t)) : sProp 𝕄) := by
    intro a ha
    have hs : lossStep (rd c (st1_0 t) f0) ⟨rd c (st1_1 t) f1, rd c (st1_2 t) f2, rd c (st1_3 t) f3, rd c (st1_4 t) f4⟩ a = accAt V c (t.val + 1) := by
      rw [accAt_succ, ha, e0, e1, e2, e3, e4]
    unfold lossAfter
    rw [hs]
    rw [owns_pt c (st1_0 t) w0, owns_pt c (st1_1 t) w1, owns_pt c (st1_2 t) w2, owns_pt c (st1_3 t) w3, owns_pt c (st1_4 t) w4, owns_pt c (st1_5 t) w5]
    dsimp only [dat1]
    iintro ⟨H0, H1, H2, H3, H4, %g5, H5, %hg⟩
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    iexists g5; isplitr; · ipureintro; exact hg
    iexact H5
  by_cases h0 : t.val = 0
  · iapply (lossRun_first c (grid1.coords t) ((first1_iff t).mpr h0) (st1_0 t) w0 (st1_1 t) w1 (st1_2 t) w2 (st1_3 t) w3 (st1_4 t) w4 (st1_5 t) w5 f0 f1 f2 f3 f4 f5)
    isplitl [H0]; · iexact H0
    isplitl [H1]; · iexact H1
    isplitl [H2]; · iexact H2
    isplitl [H3]; · iexact H3
    isplitl [H4]; · iexact H4
    isplitl [H5]; · iexact H5
    iintro Hp
    ihave Hp := (hk _ (by rw [h0]; rfl)) $$ Hp
    isplitl [Hr]; · iexact Hr
    isplitl [HO]
    · iexists W; isplitr; · ipureintro; exact fun _ _ => Or.inl trivial
      iexact HO
    iexact Hp
  · simp only [before1_5 V c t h0] at e5
    iapply (lossRun_later c (grid1.coords t) (fun h => h0 ((first1_iff t).mp h)) (st1_0 t) w0 (st1_1 t) w1 (st1_2 t) w2 (st1_3 t) w3 (st1_4 t) w4 (st1_5 t) w5 f0 f1 f2 f3 f4 f5)
    isplitl [H0]; · iexact H0
    isplitl [H1]; · iexact H1
    isplitl [H2]; · iexact H2
    isplitl [H3]; · iexact H3
    isplitl [H4]; · iexact H4
    isplitl [H5]; · iexact H5
    iintro Hp
    ihave Hp := (hk _ e5) $$ Hp
    isplitl [Hr]; · iexact Hr
    isplitl [HO]
    · iexists W; isplitr; · ipureintro; exact fun _ _ => Or.inl trivial
      iexact HO
    iexact Hp

end R1

end Cert.Proof.Scan

end
-- ==== Proof.KernelRun.lean ====
/- The launch: @main as two host stretches around the two kernel regions, and what every final memory holds. -/
module

public import proofs.«01_k».proof.Proof.LossData
public import proofs.«01_k».proof.Proof.Gen.KernelIdeal.Points
public import proofs.«01_k».proof.Proof.Gen.KernelIdeal.Launch
public import Idealize.ShloMosaic.Lib.Pipeline.FrameBody
public import proofs.«01_k».proof.Proof.Gen.KernelIdeal.Regions
public import Idealize.ShloMosaic.Lib.Pipeline.FrameTail
public import Idealize.ShloMosaic.Lib.Pipeline.RegionsLoop
public import Idealize.ShloMosaic.Lib.Pipeline.Regions

@[expose] public section

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation HostSeg RegionSeg Seg)
open Idealize.ShloMosaic.Rounds

variable {F : FTy → Type} [FloatOps F] [Named F]

local notation "𝕄" => MT nD τ sig Unit (Elt F) ℕ (UU nD τ) ℕ

abbrev EP : Emb (UR sig nD τ) (MT nD τ sig Unit (Elt F) ℕ (UU nD τ) ℕ) := emb₁

variable (m : (ℓ : Loc nD τ sig) → Buf (Elt F) ℓ)

/-- The buffers' contents between @main's items. -/
def W1 : Val0 (F := F) := fun c => StableHlo.after hostOps0 (V0 m c)
def W2 : Val0 (F := F) := fun c => Pipeline.afterRegion (dat0 (W1 m) c) (W1 m c)
def W3 : Val0 (F := F) := fun c => Pipeline.afterRegion (dat1 (W2 m) c) (W2 m c)
def W4 : Val0 (F := F) := fun c => StableHlo.after hostOps2 (W3 m c)

def dats : (p : Fin 2) → (c : Dev nD) → Dat τ (Elt F) Unit ℕ (UU nD τ) ℕ (cfgs p) c
  | 0 => dat0 (W1 m)
  | 1 => dat1 (W2 m)
  | ⟨_ + 2, h⟩ => absurd h (Nat.not_lt.2 (Nat.le_add_left _ _))

abbrev L : GSem nD τ sig → Finset Unit := fun _ => ∅
abbrev lv : GSem nD τ sig → Unit → ℕ := fun _ _ => 0

/-- What rides beside the buffers: the core owing nothing. -/
abbrev R (c : Dev nD) : sProp 𝕄 := iprop(∃ W, owes (c : Thread nD τ) (0 : CellTallies nD τ sig Unit) W)

/-- What a core holds between two items. -/
abbrev St (V : Val0 (F := F)) (c : Dev nD) : sProp 𝕄 := iprop(StableHlo.held (c : Thread nD τ) (Pipeline.ucRefs τ sig) (V c) ∗ R c)

def stretch0 : HostSeg (Ix := Unit) (Name := ℕ) (U := UU nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c => V0 m c) R
def stretch2 : HostSeg (Ix := Unit) (Name := ℕ) (U := UU nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) R

set_option backward.isDefEq.respectTransparency.types false in
def reg0 (hc : ChoiceOk F iotaK) : RegionSeg (pcfgs (F := F)) adm (dats m) () defs₀ 𝒱₀ L lv 0 where
  win := launch0.win.to₀
  block_pos := launch0.block_pos
  stage_whole := launch0.stage_whole
  K := PEmpty
  osem k := k.elim
  ho := Pipeline.OwnSemFacts.none _
  hbody c := (body0 (W1 m) hc c).loose
  hwaits := Pipeline.hwaits_of_owed_zero _ _ _ _ L lv 0 fun _ _ => rfl
  pre := St (W1 m)
  post := St (W2 m)
  X _ := iprop(emp)
  Y _ := iprop(emp)
  Z c := Pipeline.unscopedRest (Ix := Unit) (Name := ℕ) (U := UU nD τ) (Lvl := ℕ) spec0 c (fun b => W1 m c (Proc.devRef .tc b))
  hentry c := by
    dsimp only [St]
    rw [Pipeline.ownSems0_none,
      show StableHlo.held (c : Thread nD τ) (Pipeline.ucRefs τ sig) (W1 m c) = unscopedBufs c (fun b => W1 m c (Proc.devRef .tc b))
        from (Pipeline.unscopedBufs_held (Ix := Unit) (Name := ℕ) (U := UU nD τ) (Lvl := ℕ) c (W1 m c)).symm]
    have hsplit := Pipeline.arrays_of_unscopedBufs (p := 0) (pcfgs (F := F)) adm (dats m) launch0.win launch0.arr_whole c
      ((dats m 0 c).share_full fun _ => rfl) (fun b => W1 m c (Proc.devRef .tc b)) (A0_eq (W1 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest spec0 c from rfl]
    iintro ⟨-, -, Hr⟩
    iexact Hr
  hout c := by
    rw [Pipeline.ownSems0_none, show (dats m 0 c).Φ (Fin.last (Pipeline.pin (pcfgs (F := F)) adm 0).N) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU nD τ) (Lvl := ℕ)
      launch0.win launch0.arr_whole c (dats m) ((dats m 0 c).share_full fun _ => rfl)
      (fun b => W1 m c (Proc.devRef .tc b)) (fun b => W2 m c (Proc.devRef .tc b)) ((dats m 0 c).arrAt · cfg0.N)
      (fun w => (Pipeline.afterRegion_arr (dat0 (W1 m) c) (W1 m c) launch0.win.arr_inj w).symm)
      (fun b hb => Pipeline.afterRegion_of_not_arr (dat0 (W1 m) c) (W1 m c)
        fun w h => hb (h ▸ Finset.mem_image.mpr ⟨w, Finset.mem_univ _, rfl⟩))
    dsimp only [St]
    rw [show StableHlo.held (c : Thread nD τ) (Pipeline.ucRefs τ sig) (W2 m c) = unscopedBufs c (fun b => W2 m c (Proc.devRef .tc b))
        from (Pipeline.unscopedBufs_held (Ix := Unit) (Name := ℕ) (U := UU nD τ) (Lvl := ℕ) c (W2 m c)).symm]
    iintro ⟨Ha, HO, -, Hrest⟩
    imodintro
    isplitl [Ha Hrest]
    · iapply hjoin
      isplitl [Ha] <;> iassumption
    unfold Pipeline.Dat.owesAt Pipeline.owesWithin
    icases HO with ⟨%W, -, HO⟩; iexists W; iexact HO

set_option backward.isDefEq.respectTransparency.types false in
def reg1 : RegionSeg (pcfgs (F := F)) adm (dats m) () defs₀ 𝒱₀ L lv 1 where
  win := launch1.win.to₀
  block_pos := launch1.block_pos
  stage_whole := launch1.stage_whole
  K := PEmpty
  osem k := k.elim
  ho := Pipeline.OwnSemFacts.none _
  hbody c := (body1 (W2 m) c).loose
  hwaits := Pipeline.hwaits_of_owed_zero _ _ _ _ L lv 1 fun _ _ => rfl
  pre := St (W2 m)
  post := St (W3 m)
  X _ := iprop(emp)
  Y _ := iprop(emp)
  Z c := Pipeline.unscopedRest (Ix := Unit) (Name := ℕ) (U := UU nD τ) (Lvl := ℕ) spec1 c (fun b => W2 m c (Proc.devRef .tc b))
  hentry c := by
    dsimp only [St]
    rw [Pipeline.ownSems0_none,
      show StableHlo.held (c : Thread nD τ) (Pipeline.ucRefs τ sig) (W2 m c) = unscopedBufs c (fun b => W2 m c (Proc.devRef .tc b))
        from (Pipeline.unscopedBufs_held (Ix := Unit) (Name := ℕ) (U := UU nD τ) (Lvl := ℕ) c (W2 m c)).symm]
    have hsplit := Pipeline.arrays_of_unscopedBufs (p := 1) (pcfgs (F := F)) adm (dats m) launch1.win launch1.arr_whole c
      ((dats m 1 c).share_full fun _ => rfl) (fun b => W2 m c (Proc.devRef .tc b)) (A1_eq (W2 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 1 c).Φ 0 = Pipeline.scopedRest spec1 c from rfl]
    iintro ⟨-, -, Hr⟩
    iexact Hr
  hout c := by
    rw [Pipeline.ownSems0_none, show (dats m 1 c).Φ (Fin.last (Pipeline.pin (pcfgs (F := F)) adm 1).N) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU nD τ) (Lvl := ℕ)
      launch1.win launch1.arr_whole c (dats m) ((dats m 1 c).share_full fun _ => rfl)
      (fun b => W2 m c (Proc.devRef .tc b)) (fun b => W3 m c (Proc.devRef .tc b)) ((dats m 1 c).arrAt · cfg1.N)
      (fun w => (Pipeline.afterRegion_arr (dat1 (W2 m) c) (W2 m c) launch1.win.arr_inj w).symm)
      (fun b hb => Pipeline.afterRegion_of_not_arr (dat1 (W2 m) c) (W2 m c)
        fun w h => hb (h ▸ Finset.mem_image.mpr ⟨w, Finset.mem_univ _, rfl⟩))
    dsimp only [St]
    rw [show StableHlo.held (c : Thread nD τ) (Pipeline.ucRefs τ sig) (W3 m c) = unscopedBufs c (fun b => W3 m c (Proc.devRef .tc b))
        from (Pipeline.unscopedBufs_held (Ix := Unit) (Name := ℕ) (U := UU nD τ) (Lvl := ℕ) c (W3 m c)).symm]
    iintro ⟨Ha, HO, -, Hrest⟩
    imodintro
    isplitl [Ha Hrest]
    · iapply hjoin
      isplitl [Ha] <;> iassumption
    unfold Pipeline.Dat.owesAt Pipeline.owesWithin
    icases HO with ⟨%W, -, HO⟩; iexists W; iexact HO

set_option backward.isDefEq.respectTransparency.types false in
/-- Every weakly fair execution of @main terminates with every unscoped buffer at `W4`. -/
theorem run_main (hc : ChoiceOk F iotaK) (ρ : Dev nD → PrngReg) :
    θ_run defs (onTc (τ := τ) (main (F := F))) ⟨m, fun _ => 0, ρ⟩ (fun r => (∀ c : Dev nD, ∀ b ∈ Pipeline.ucRefs τ sig,
      r.2.mem ((c : Dev nD), b) = W4 m c b) ∧ r.2.sem = fun _ => 0) := by
  refine Pipeline.θ_run_regions_kit_dev_sems (pcfgs (F := F)) adm (dats m) () cellOf_inj EP defs₀ 𝒱₀ L lv m ρ main
    (fun _ => [.host (stretch0 m), .region (reg0 m hc), .region (reg1 m), .host (stretch2 m)])
    (fun c Q => by rw [main_segs adm (dats m) () 𝒱₀ L lv (stretch0 m) (stretch2 m) (reg0 m hc) (reg1 m) rfl rfl c])
    (fun c => by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (fun c => V0 m c))
    (Tₙ := fun c => StableHlo.held (c : Thread nD τ) (Pipeline.ucRefs τ sig) (W4 m c))
    (hch := fun c => ⟨.rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = W4 m c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W4 m c) s') $$ [Hh HSI]
  · isplitl [Hh] <;> iassumption
  icases Hr with ⟨%h, HSI⟩
  imodintro
  isplitr
  · ipureintro; exact h
  iexact HSI

end Cert.Proof.Scan

end
-- ==== Proof.KernelValue.lean ====
/- What the launch leaves in its result and its arguments, as functions of the launch memory. -/
module

public import proofs.«01_k».proof.Proof.KernelRun
public import Idealize.ShloMosaic.Lib.Pipeline.Value
public import Idealize.ShloMosaic.Lib.Pointwise
public import Idealize.ShloMosaic.Lib.Pipeline.ValueKit.Geometry
public import Idealize.ShloMosaic.Lib.Pipeline.RegionArraysS

@[expose] public section

noncomputable section

namespace Cert.Proof.Scan

open Cert.KernelIdeal Cert.KernelIdeal.Gen
open Idealize.ShloMosaic Idealize.ShloMosaic.TcCoe Idealize.ShloMosaic.Tactic
open Idealize.SL Idealize.SL.Sem

variable {F : FTy → Type} [FloatOps F] [Named F]

section Arrays
variable (V : Val0 (F := F)) (c : Dev nD)

theorem arr0_3 : (dat0 V c).arrAt 3 cfg0.N = (blkAt V c 32).p := by
  funext i
  exact ((dat0 V c).arrAt_emb_eq_after_last 3 ⟨31, by rw [N0_eq]; decide⟩ (by decide +kernel) i).trans (by dsimp only [dat0]; rfl)
theorem arr0_4 : (dat0 V c).arrAt 4 cfg0.N = (blkAt V c 32).n2 := by
  funext i
  exact ((dat0 V c).arrAt_emb_eq_after_last 4 ⟨31, by rw [N0_eq]; decide⟩ (by decide +kernel) i).trans (by dsimp only [dat0]; rfl)
theorem arr0_5 : (dat0 V c).arrAt 5 cfg0.N = (blkAt V c 32).za := by
  funext i
  exact ((dat0 V c).arrAt_emb_eq_after_last 5 ⟨31, by rw [N0_eq]; decide⟩ (by decide +kernel) i).trans (by dsimp only [dat0]; rfl)
theorem arr0_6 : (dat0 V c).arrAt 6 cfg0.N = (blkAt V c 32).cnt := by
  funext i
  exact ((dat0 V c).arrAt_emb_eq_after_last 6 ⟨31, by rw [N0_eq]; decide⟩ (by decide +kernel) i).trans (by dsimp only [dat0]; rfl)
theorem arr1_5 : (dat1 V c).arrAt 5 cfg1.N = accAt V c 8 := by
  funext i
  exact ((dat1 V c).arrAt_emb_eq_after_last 5 ⟨7, by rw [N1_eq]; decide⟩ (by decide +kernel) i).trans (by dsimp only [dat1]; rfl)

theorem pb0_eq (t : Fin cfg0.N) : pb0 V c t = V c (Proc.devRef .tc main_arg2) := by
  funext y
  refine congrArg (V c (Proc.devRef .tc main_arg2)) (funext fun a => Fin.ext ?_)
  exact Pipeline.Window.rect_emb_val_of_index_zero (cfg0.win 2) t a (by revert a; exact fun | 0 => rfl | 1 => rfl) y

theorem ix0_0 : ∀ t : Fin grid0.N, win0_0.index t = ![t.val, 0] := by decide +kernel
theorem ix0_1 : ∀ t : Fin grid0.N, win0_1.index t = ![t.val, 0] := by decide +kernel
theorem ix1_0 : ∀ t : Fin grid1.N, win1_0.index t = ![t.val, 0] := by decide +kernel

theorem zb0_apply (t : Fin cfg0.N) (j : Fin 64) (d : Fin 2048) (h : 64 * t.val + j.val < 2048) :
    zb0 V c t (ix2 j d) = (V c (Proc.devRef .tc main_arg0) : Vec F S2048x2048 .f32) (ix2 ⟨64 * t.val + j.val, h⟩ d) := by
  refine congrArg (V c (Proc.devRef .tc main_arg0) : Vec F S2048x2048 .f32) (funext fun a => Fin.ext ?_)
  refine (Pipeline.Window.rect_emb_val (cfg0.win 0) t (ix2 j d) a).trans ?_
  show win0_0.index t a * S64x2048.size a + (ix2 j d a).val = _
  rw [ix0_0 t]
  revert a
  refine fun | 0 => ?_ | 1 => ?_
  · show t.val * 64 + j.val = 64 * t.val + j.val
    omega
  · show 0 * 2048 + d.val = d.val
    omega

theorem gb0_apply (t : Fin cfg0.N) (j : Fin 64) (d : Fin 1) (h : 64 * t.val + j.val < 2048) :
    gb0 V c t (ix2 j d) = (V c (Proc.devRef .tc main_call0_v0) : Vec F S2048x1 .f32) (ix2 ⟨64 * t.val + j.val, h⟩ d) := by
  refine congrArg (V c (Proc.devRef .tc main_call0_v0) : Vec F S2048x1 .f32) (funext fun a => Fin.ext ?_)
  refine (Pipeline.Window.rect_emb_val (cfg0.win 1) t (ix2 j d) a).trans ?_
  show win0_1.index t a * S64x1.size a + (ix2 j d a).val = _
  rw [ix0_1 t]
  revert a
  refine fun | 0 => ?_ | 1 => ?_
  · show t.val * 64 + j.val = 64 * t.val + j.val
    omega
  · show 0 * 1 + d.val = d.val
    omega

theorem zb1_apply (t : Fin cfg1.N) (j : Fin 256) (d : Fin 2048) (h : 256 * t.val + j.val < 2048) :
    zb1 V c t (ix2 j d) = (V c (Proc.devRef .tc main_arg0) : Vec F S2048x2048 .f32) (ix2 ⟨256 * t.val + j.val, h⟩ d) := by
  refine congrArg (V c (Proc.devRef .tc main_arg0) : Vec F S2048x2048 .f32) (funext fun a => Fin.ext ?_)
  refine (Pipeline.Window.rect_emb_val (cfg1.win 0) t (ix2 j d) a).trans ?_
  show win1_0.index t a * S256x2048.size a + (ix2 j d a).val = _
  rw [ix1_0 t]
  revert a
  refine fun | 0 => ?_ | 1 => ?_
  · show t.val * 256 + j.val = 256 * t.val + j.val
    omega
  · show 0 * 2048 + d.val = d.val
    omega

theorem in1_p (t : Fin cfg1.N) : (in1 V c t).p = V c (Proc.devRef .tc (Pipeline.arrRef spec1 1)) := by
  funext y
  refine congrArg (V c (Proc.devRef .tc (Pipeline.arrRef spec1 1))) (funext fun a => Fin.ext ?_)
  exact Pipeline.Window.rect_emb_val_of_index_zero (cfg1.win 1) t a (by revert a; exact fun | 0 => rfl | 1 => rfl) y
theorem in1_n2 (t : Fin cfg1.N) : (in1 V c t).n2 = V c (Proc.devRef .tc (Pipeline.arrRef spec1 2)) := by
  funext y
  refine congrArg (V c (Proc.devRef .tc (Pipeline.arrRef spec1 2))) (funext fun a => Fin.ext ?_)
  exact Pipeline.Window.rect_emb_val_of_index_zero (cfg1.win 2) t a (by revert a; exact fun | 0 => rfl | 1 => rfl) y
theorem in1_za (t : Fin cfg1.N) : (in1 V c t).za = V c (Proc.devRef .tc (Pipeline.arrRef spec1 3)) := by
  funext y
  refine congrArg (V c (Proc.devRef .tc (Pipeline.arrRef spec1 3))) (funext fun a => Fin.ext ?_)
  exact Pipeline.Window.rect_emb_val_of_index_zero (cfg1.win 3) t a (by revert a; exact fun | 0 => rfl | 1 => rfl) y
theorem in1_cnt (t : Fin cfg1.N) : (in1 V c t).cnt = V c (Proc.devRef .tc (Pipeline.arrRef spec1 4)) := by
  funext y
  refine congrArg (V c (Proc.devRef .tc (Pipeline.arrRef spec1 4))) (funext fun a => Fin.ext ?_)
  exact Pipeline.Window.rect_emb_val_of_index_zero (cfg1.win 4) t a (by revert a; exact fun | 0 => rfl | 1 => rfl) y

end Arrays

theorem one_idx (a b : S1x1.Idx) : a = b := by
  rw [eq_ix2 a, eq_ix2 b]
  exact congrArg₂ ix2 (Subsingleton.elim (α := Fin 1) _ _) (Subsingleton.elim (α := Fin 1) _ _)

section Launch
variable (m : (ℓ : Loc nD τ sig) → Buf (Elt F) ℓ) (c : Dev nD)

theorem W1_arg0 : W1 m c (Proc.devRef .tc main_arg0) = m ((c.tc : Thread nD τ).loc main_arg0) := V1_of m c main_arg0 (by decide)
theorem W1_arg1 : W1 m c (Proc.devRef .tc main_arg1) = m ((c.tc : Thread nD τ).loc main_arg1) := V1_of m c main_arg1 (by decide)
theorem W1_arg2 : W1 m c (Proc.devRef .tc main_arg2) = m ((c.tc : Thread nD τ).loc main_arg2) := V1_of m c main_arg2 (by decide)

theorem W1_gate (r : Fin 2048) : (W1 m c (Proc.devRef .tc main_call0_v0) : Vec F S2048x1 .f32) (ix2 r 0)
    = (m ((c.tc : Thread nD τ).loc main_arg1) : Vec F S2048 .f32) (ix1 r) := by
  have h : (W1 m c (Proc.devRef .tc main_call0_v0) : Vec F S2048x1 .f32)
      = shapeCast S2048x1 (m ((c.tc : Thread nD τ).loc main_arg1) : Vec F S2048 .f32) shapeCasts_S2048_S2048x1 := by
    unfold W1
    after_results
    rfl
  rw [h]
  pointwise

theorem W2_keep (r : Ref sig .tc) (h : ∀ w, Pipeline.arrRef spec0 w = r → (cfg0.win w).isOut = false) :
    W2 m c (Proc.devRef .tc r) = W1 m c (Proc.devRef .tc r) :=
  Pipeline.afterRegion_keeps (dat0 (W1 m) c) (W1 m c) launch0.win.arr_inj (A0_eq (W1 m) c) r h
theorem W3_keep (r : Ref sig .tc) (h : ∀ w, Pipeline.arrRef spec1 w = r → (cfg1.win w).isOut = false) :
    W3 m c (Proc.devRef .tc r) = W2 m c (Proc.devRef .tc r) :=
  Pipeline.afterRegion_keeps (dat1 (W2 m) c) (W2 m c) launch1.win.arr_inj (A1_eq (W2 m) c) r h

theorem W2_arg0 : W2 m c (Proc.devRef .tc main_arg0) = m ((c.tc : Thread nD τ).loc main_arg0) :=
  (W2_keep m c main_arg0 (by decide)).trans (W1_arg0 m c)

theorem in1_eq (t : Fin cfg1.N) : in1 (W2 m) c t = blkAt (W1 m) c 32 := by
  have h3 : (in1 (W2 m) c t).p = (blkAt (W1 m) c 32).p :=
    (in1_p _ c t).trans ((Pipeline.afterRegion_arr (dat0 (W1 m) c) (W1 m c) launch0.win.arr_inj 3).trans (arr0_3 _ c))
  have h4 : (in1 (W2 m) c t).n2 = (blkAt (W1 m) c 32).n2 :=
    (in1_n2 _ c t).trans ((Pipeline.afterRegion_arr (dat0 (W1 m) c) (W1 m c) launch0.win.arr_inj 4).trans (arr0_4 _ c))
  have h5 : (in1 (W2 m) c t).za = (blkAt (W1 m) c 32).za :=
    (in1_za _ c t).trans ((Pipeline.afterRegion_arr (dat0 (W1 m) c) (W1 m c) launch0.win.arr_inj 5).trans (arr0_5 _ c))
  have h6 : (in1 (W2 m) c t).cnt = (blkAt (W1 m) c 32).cnt :=
    (in1_cnt _ c t).trans ((Pipeline.afterRegion_arr (dat0 (W1 m) c) (W1 m c) launch0.win.arr_inj 6).trans (arr0_6 _ c))
  calc in1 (W2 m) c t = ⟨(in1 (W2 m) c t).p, (in1 (W2 m) c t).n2, (in1 (W2 m) c t).za, (in1 (W2 m) c t).cnt⟩ := rfl
    _ = _ := by rw [h3, h4, h5, h6]

theorem W4_arg0 : W4 m c (Proc.devRef .tc main_arg0) = m ((c.tc : Thread nD τ).loc main_arg0) :=
  (StableHlo.after_of_writes_sub hostOps2 _ hostOps2_writes (by decide)).trans
    ((W3_keep m c main_arg0 (by decide)).trans (W2_arg0 m c))
theorem W4_arg1 : W4 m c (Proc.devRef .tc main_arg1) = m ((c.tc : Thread nD τ).loc main_arg1) :=
  (StableHlo.after_of_writes_sub hostOps2 _ hostOps2_writes (by decide)).trans
    ((W3_keep m c main_arg1 (by decide)).trans ((W2_keep m c main_arg1 (by decide)).trans (W1_arg1 m c)))
theorem W4_arg2 : W4 m c (Proc.devRef .tc main_arg2) = m ((c.tc : Thread nD τ).loc main_arg2) :=
  (StableHlo.after_of_writes_sub hostOps2 _ hostOps2_writes (by decide)).trans
    ((W3_keep m c main_arg2 (by decide)).trans ((W2_keep m c main_arg2 (by decide)).trans (W1_arg2 m c)))

theorem W4_out (y : S_.Idx) : (W4 m c (Proc.devRef .tc main_v0) : Vec F S_ .f32) y = accAt (W2 m) c 8 (ix2 0 0) := by
  have h : (W4 m c (Proc.devRef .tc main_v0) : Vec F S_ .f32)
      = shapeCast S_ (W3 m c (Proc.devRef .tc main_call0_v2) : Vec F S1x1 .f32) shapeCasts_S1x1_S_ := by
    unfold W4
    after_results
    rfl
  have h' : (W3 m c (Proc.devRef .tc main_call0_v2) : Vec F S1x1 .f32) = accAt (W2 m) c 8 :=
    (Pipeline.afterRegion_arr (dat1 (W2 m) c) (W2 m c) launch1.win.arr_inj 5).trans (arr1_5 _ c)
  rw [h, h']
  generalize accAt (W2 m) c 8 = X
  unfold shapeCast
  exact congrArg X (one_idx _ _)

end Launch

end Cert.Proof.Scan

end
-- ==== Proof.FirstLeast.lean ====
/- The first place at which a finite family is least, and the word a kernel computes for it. -/
module

public import Idealize.ShloMosaic.Lib.Pointwise
public import Idealize.ShloMosaic.Lib.SortNet.Extract

@[expose] public section

noncomputable section

namespace Cert.Proof.FirstLeast

open Idealize.ShloMosaic

variable {n : ℕ} {α β : Type} [LinearOrder α] [LinearOrder β]

/-- `k` is the first place where `f` is least. -/
def IsFirst (f : Fin n → α) (k : Fin n) : Prop := (∀ j, f k ≤ f j) ∧ ∀ j, j < k → f k < f j

theorem IsFirst.unique {f : Fin n → α} {k k' : Fin n} (h : IsFirst f k) (h' : IsFirst f k') : k = k' := by
  rcases lt_trichotomy k k' with hlt | he | hlt
  · exact absurd (h.1 k') (not_le.mpr (h'.2 k hlt))
  · exact he
  · exact absurd (h'.1 k) (not_le.mpr (h.2 k' hlt))

theorem exists_isFirst [NeZero n] (f : Fin n → α) : ∃ k, IsFirst f k := by
  classical
  obtain ⟨m, -, hm⟩ := Finset.exists_min_image Finset.univ f ⟨(0 : Fin n), Finset.mem_univ _⟩
  let S := Finset.univ.filter fun k => ∀ j, f k ≤ f j
  have hS : S.Nonempty := ⟨m, by simpa [S] using fun j => hm j (Finset.mem_univ _)⟩
  refine ⟨S.min' hS, ?_, fun j hj => ?_⟩
  · exact (Finset.mem_filter.mp (S.min'_mem hS)).2
  · refine lt_of_not_ge fun hle => ?_
    have hjS : j ∈ S := Finset.mem_filter.mpr ⟨Finset.mem_univ _, fun i =>
      hle.trans ((Finset.mem_filter.mp (S.min'_mem hS)).2 i)⟩
    exact absurd (S.min'_le j hjS) (not_le.mpr hj)

/-- Only the order of the values counts. -/
theorem IsFirst.of_le_iff {f : Fin n → α} {g : Fin n → β} (h : ∀ i j, Iff (f i ≤ f j) (g i ≤ g j)) {k : Fin n} (hf : IsFirst f k) :
    IsFirst g k :=
  ⟨fun j => (h k j).mp (hf.1 j), fun j hj => lt_of_not_ge fun hle => absurd ((h j k).mpr hle) (not_le.mpr (hf.2 j hj))⟩

/-- The first place where `f` is least. -/
def least [NeZero n] (f : Fin n → α) : Fin n := (exists_isFirst f).choose
theorem least_isFirst [NeZero n] (f : Fin n → α) : IsFirst f (least f) := (exists_isFirst f).choose_spec
theorem IsFirst.eq_least [NeZero n] {f : Fin n → α} {k : Fin n} (h : IsFirst f k) : k = least f := h.unique (least_isFirst f)
theorem least_congr [NeZero n] {f : Fin n → α} {g : Fin n → β} (h : ∀ i j, Iff (f i ≤ f j) (g i ≤ g j)) : least f = least g :=
  ((least_isFirst f).of_le_iff h).eq_least

/-! ### The word -/

/-- The least of the places, as words, at which `f` has its least value. -/
def pick (f : Fin 1024 → EReal) : BitVec 32 :=
  Finset.univ.fold IntOp.minsi 2147483647#32 fun k : Fin 1024 =>
    if f k = Finset.univ.fold min ⊤ f then BitVec.ofNat 32 k.val else 1024#32

theorem fold_min_top {ι : Type} [Fintype ι] (f : ι → EReal) {k : ι} (h : ∀ j, f k ≤ f j) : Finset.univ.fold min ⊤ f = f k := by
  refine le_antisymm ?_ ?_
  · exact Finset.fold_min_le _ |>.mpr (Or.inr ⟨k, Finset.mem_univ _, le_rfl⟩)
  · exact Finset.le_fold_min _ |>.mpr ⟨le_top, fun j _ => h j⟩

theorem toInt_small {k : ℕ} (h : k < 2048) : (BitVec.ofNat 32 k).toInt = k := by
  rw [BitVec.toInt_eq_toNat_cond, BitVec.toNat_ofNat, Nat.mod_eq_of_lt (by omega)]
  rw [if_pos (by omega)]

theorem toInt_fold {ι : Type} (s : Finset ι) (g : ι → BitVec 32) (b : BitVec 32) :
    (s.fold IntOp.minsi b g).toInt = s.fold min b.toInt fun i => (g i).toInt :=
  (Finset.fold_hom (op := IntOp.minsi) (op' := min) (m := BitVec.toInt) (fun x y => SortNet.toInt_minsi x y)).symm

theorem pick_fold {ι : Type} [Fintype ι] (e : ι → Fin 1024) (he : Function.Surjective e) (f : Fin 1024 → EReal) {k : Fin 1024} (h : IsFirst f k) :
    (Finset.univ.fold IntOp.minsi 2147483647#32 fun i : ι =>
      if f (e i) = Finset.univ.fold min ⊤ (fun i => f (e i)) then BitVec.ofNat 32 (e i).val else 1024#32) = BitVec.ofNat 32 k.val := by
  obtain ⟨i₀, hi₀⟩ := he k
  have hm : Finset.univ.fold min ⊤ (fun i => f (e i)) = f k := by
    rw [fold_min_top (fun i => f (e i)) (k := i₀) (fun j => by rw [hi₀]; exact h.1 _), hi₀]
  rw [hm]
  apply BitVec.eq_of_toInt_eq
  have hk := k.isLt
  rw [toInt_fold, toInt_small (k := k.val) (by omega)]
  refine le_antisymm ?_ ?_
  · refine Finset.fold_min_le _ |>.mpr (Or.inr ⟨i₀, Finset.mem_univ _, ?_⟩)
    show (if f (e i₀) = f k then BitVec.ofNat 32 (e i₀).val else 1024#32).toInt ≤ _
    rw [hi₀, if_pos rfl, toInt_small (k := k.val) (by omega)]
  · refine Finset.le_fold_min _ |>.mpr ⟨?_, fun i _ => ?_⟩
    · have : (2147483647#32 : BitVec 32).toInt = 2147483647 := by decide
      exact (show (k.val : ℤ) ≤ 2147483647 by omega).trans_eq this.symm
    · split
      · rename_i hv
        have hi := (e i).isLt
        rw [toInt_small (k := (e i).val) (by omega)]
        rcases lt_or_ge (e i) k with hlt | hge
        · exact absurd hv (ne_of_gt (h.2 _ hlt))
        · exact_mod_cast hge
      · have : (1024#32 : BitVec 32).toInt = 1024 := by decide
        exact (show (k.val : ℤ) ≤ 1024 by omega).trans_eq this.symm

theorem pick_eq {f : Fin 1024 → EReal} {k : Fin 1024} (h : IsFirst f k) : pick f = BitVec.ofNat 32 k.val :=
  pick_fold id Function.surjective_id f h

/-- One where the word is the place, zero elsewhere. -/
def hot {m : ℕ} (w : BitVec 32) (k : Fin m) : EReal :=
  FloatOps.sitofp (F := Ideal) .f32 (BitVec.setWidth 32 (IntOp.cmpi .eq (BitVec.ofNat 32 k.val) w))

theorem hot_ofNat {m : ℕ} {j : ℕ} (k : Fin m) (hm : m ≤ 2048) (hj : j < 2048) :
    hot (BitVec.ofNat 32 j) k = (((if k.val = j then 1 else 0 : ℝ)) : EReal) := by
  have hk := k.isLt
  have he : Iff (BitVec.ofNat 32 k.val = BitVec.ofNat 32 j) (k.val = j) := by
    constructor
    · intro h
      have := congrArg BitVec.toNat h
      simp only [BitVec.toNat_ofNat] at this
      omega
    · intro h; rw [h]
  show (((BitVec.setWidth 32 (IntOp.cmpi .eq (BitVec.ofNat 32 k.val) (BitVec.ofNat 32 j))).toInt : ℝ) : EReal) = _
  by_cases h : k.val = j
  · rw [if_pos h, h]
    simp [IntOp.cmpi]
  · rw [if_neg h]
    have h' : (BitVec.ofNat 32 k.val == BitVec.ofNat 32 j) = false := beq_eq_false_iff_ne.mpr fun e => h (he.mp e)
    simp [IntOp.cmpi, h']

theorem ofBits_top : Ideal.ofBits .f32 0x7F800000#32 = ⊤ := by simp [Ideal.ofBits, Ideal.ieee]
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_half : Ideal.ofBits .f32 0x3F000000#32 = ((1/2 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_pull : Ideal.ofBits .f32 0x34800000#32 = ((1/4194304 : ℝ) : EReal) := by
  simp [Ideal.ofBits, Ideal.ieee, -EReal.coe_mul]; norm_num
theorem ofBits_push : Ideal.ofBits .f32 0x39800000#32 = ((1/4096 : ℝ) : EReal) := by
  simp [Ideal.ofBits, Ideal.ieee, -EReal.coe_mul]; norm_num
theorem ofBits_all : Ideal.ofBits .f32 0x4A800000#32 = ((4194304 : ℝ) : EReal) := by
  simp [Ideal.ofBits, Ideal.ieee, -EReal.coe_mul]; norm_num

end Cert.Proof.FirstLeast

end
-- ==== Proof.Choice.lean ====
/- The row the scan chooses, at the extended reals. -/
module

public import proofs.«01_k».proof.Proof.ScanRun
public import proofs.«01_k».proof.Proof.FirstLeast

@[expose] public section

noncomputable section

namespace Cert.Proof.Scan

open Cert.KernelIdeal Cert.KernelIdeal.Gen Cert.Proof.FirstLeast
open Idealize.ShloMosaic Idealize.ShloMosaic.TcCoe Idealize.ShloMosaic.Tactic

/-- The word a trip extracts is the first row at which the score is least. -/
theorem word_of_first (n2 dr : Vec Ideal S1x1024 .f32) {k : Fin 1024}
    (h : IsFirst (fun k : Fin 1024 => n2 (ix2 0 k) - ((2 : ℝ) : EReal) * dr (ix2 0 k)) k) :
    k0_pay6 iotaK n2 dr (ix3 0 0 0) = BitVec.ofNat 32 k.val := by
  pointwise [k0_pay6, k0_pay5, iotaK]
  rw [ofBits_two, ofBits_top]
  exact pick_fold (fun x : Fin 1 × Fin 1024 => x.2) (fun k => ⟨(0, k), rfl⟩)
    (fun k : Fin 1024 => n2 (ix2 0 k) - ((2 : ℝ) : EReal) * dr (ix2 0 k)) h

theorem word_extract (n2 dr : Vec Ideal S1x1024 .f32) :
    extractAt ![0, 0, 0] (k0_pay6 iotaK n2 dr) inpos_S1x1x1_p0_0_0 = k0_pay6 iotaK n2 dr (ix3 0 0 0) := by
  pointwise

theorem chk_of_lt {k : ℕ} (h : k < 1024) : k0_chk1 (BitVec.ofNat 32 k) := by
  intro a
  have hk : (BitVec.ofNat 32 k).toNat = k := by rw [BitVec.toNat_ofNat, Nat.mod_eq_of_lt (by omega)]
  revert a
  refine fun | 0 => ?_ | 1 => ?_
  · show (BitVec.ofNat 32 k).toNat + 1 ≤ 1024
    omega
  · show 0 + 2048 ≤ 2048
    omega

theorem choiceOk : ChoiceOk Ideal iotaK := fun n2 dr => by
  obtain ⟨k, hk⟩ := exists_isFirst fun k : Fin 1024 => n2 (ix2 0 k) - ((2 : ℝ) : EReal) * dr (ix2 0 k)
  rw [word_extract, word_of_first n2 dr hk]
  exact chk_of_lt k.isLt

end Cert.Proof.Scan

end
-- ==== Proof.RefOps.lean ====
/- The reference as stretches of host operations around one counted loop, and its run as a fold. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1656

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 9 host operations of @main, in order. -/
abbrev hostOps0 : List (HloOp τ sig (Elt F)) :=
  [ StableHlo.nullary main_cst (constant S_ .f32 0x00000000#32),
    StableHlo.unary main_cst main_v0 (broadcastInDim S2048 ![] bcast_S_S2048 : (⟨S_, .f32⟩ : BufTy).Contents (Elt F) → (⟨S2048, .f32⟩ : BufTy).Contents (Elt F)),
    StableHlo.binary main_arg1 main_v0 main_v1 (cmpf .une : (⟨S2048, .f32⟩ : BufTy).Contents (Elt F) → (⟨S2048, .f32⟩ : BufTy).Contents (Elt F) → (⟨S2048, .i1⟩ : BufTy).Contents (Elt F)),
    StableHlo.unary main_v1 main_v2 (id : (⟨S2048, .i1⟩ : BufTy).Contents (Elt F) → (⟨S2048, .i1⟩ : BufTy).Contents (Elt F)),
    StableHlo.nullary main_c (constantI S_ 32 0#32),
    StableHlo.unary main_arg0 main_v3_0 id,
    StableHlo.unary main_v2 main_v3_1 id,
    StableHlo.unary main_c main_v3_2 id,
    StableHlo.unary main_arg2 main_v3_3 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub ..⟩
set_option maxHeartbeats 40000000 in  -- a long stretch: its list (or the term over it) exceeds the default budget
/-- 66 host operations of @main, in order. -/
abbrev hostOps0_1 : List (HloOp τ sig (Elt F)) :=
  ( StableHlo.nullary main_cst_0 (constant S_ .f32 0x00000000#32)
  :: StableHlo.unary main_cst_0 main_v4 (broadcastInDim S2048 ![] bcast_S_S2048 : (⟨S_, .f32⟩ : BufTy).Contents (Elt F) → (⟨S2048, .f32⟩ : BufTy).Contents (Elt F))
  :: StableHlo.binary main_arg1 main_v4 main_v5 (cmpf .une : (⟨S2048, .f32⟩ : BufTy).Contents (Elt F) → (⟨S2048, .f32⟩ : BufTy).Contents (Elt F) → (⟨S2048, .i1⟩ : BufTy).Contents (Elt F))
  :: StableHlo.unary main_v5 main_v6 (id : (⟨S2048, .i1⟩ : BufTy).Contents (Elt F) → (⟨S2048, .i1⟩ : BufTy).Contents (Elt F))
  :: StableHlo.unary main_v6 main_v7 (noti : (⟨S2048, .i1⟩ : BufTy).Contents (Elt F) → (⟨S2048, .i1⟩ : BufTy).Contents (Elt F))
  :: StableHlo.unary main_v7 main_v8 (uitofp .f32 : (⟨S2048, .i1⟩ : BufTy).Contents (Elt F) → (⟨S2048, .f32⟩ : BufTy).Contents (Elt F))
  :: StableHlo.nullary main_cst_1 (constant S_ .f32 0x00000000#32)
  :: StableHlo.binary main_v8 main_cst_1 main_v9 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))
  :: StableHlo.unary main_v8 main_v10 (broadcastInDim S2048x1 ![0] bcast_S2048_S2048x1_0 : (⟨S2048, .f32⟩ : BufTy).Contents (Elt F) → (⟨S2048x1, .f32⟩ : BufTy).Contents (Elt F))
  :: StableHlo.unary main_v10 main_v11 (broadcastInDim S2048x2048 ![0, 1] bcast_S2048x1_S2048x2048_0_1 : (⟨S2048x1, .f32⟩ : BufTy).Contents (Elt F) → (⟨S2048x2048, .f32⟩ : BufTy).Contents (Elt F))
  :: StableHlo.binary main_arg0 main_v11 main_v12 (mulf : (⟨S2048x2048, .f32⟩ : BufTy).Contents (Elt F) → (⟨S2048x2048, .f32⟩ : BufTy).Contents (Elt F) → (⟨S2048x2048, .f32⟩ : BufTy).Contents (Elt F))
  :: StableHlo.nullary main_cst_2 (constant S_ .f32 0x00000000#32)
  :: StableHlo.binary main_v12 main_cst_2 main_v13 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F))
  :: StableHlo.nullary main_cst_3 (constant S_ .f32 0x3F800000#32)
  :: StableHlo.binary main_v9 main_cst_3 main_v14 (maximumf : (⟨S_, .f32⟩ : BufTy).Contents (Elt F) → (⟨S_, .f32⟩ : BufTy).Contents (Elt F) → (⟨S_, .f32⟩ : BufTy).Contents (Elt F))
  :: StableHlo.unary main_v14 main_v15 (broadcastInDim S2048 ![] bcast_S_S2048 : (⟨S_, .f32⟩ : BufTy).Contents (Elt F) → (⟨S2048, .f32⟩ : BufTy).Contents (Elt F))
  :: StableHlo.binary main_v13 main_v15 main_v16 (Host.divf : (⟨S2048, .f32⟩ : BufTy).Contents (Elt F) → (⟨S2048, .f32⟩ : BufTy).Contents (Elt F) → (⟨S2048, .f32⟩ : BufTy).Contents (Elt F))
  :: StableHlo.nullary main_cst_4 (constant S_ .f32 0x00000000#32)
  :: StableHlo.binary main_v9 main_cst_4 main_v17 (cmpf .ogt : (⟨S_, .f32⟩ : BufTy).Contents (Elt F) → (⟨S_, .f32⟩ : BufTy).Contents (Elt F) → (⟨S_, .i1⟩ : BufTy).Contents (Elt F))
  :: StableHlo.binary main_arg0 main_arg0 main_v18 (mulf : (⟨S2048x2048, .f32⟩ : BufTy).Contents (Elt F) → (⟨S2048x2048, .f32⟩ : BufTy).Contents (Elt F) → (⟨S2048x2048, .f32⟩ : BufTy).Contents (Elt F))
  :: StableHlo.nullary main_cst_5 (constant S_ .f32 0x00000000#32)
  :: StableHlo.binary main_v18 main_cst_5 main_v19 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F))
  :: StableHlo.unary main_v19 main_v20 (broadcastInDim S2048x1 ![0] bcast_S2048_S2048x1_0 : (⟨S2048, .f32⟩ : BufTy).Contents (Elt F) → (⟨S2048x1, .f32⟩ : BufTy).Contents (Elt F))
  :: StableHlo.binary main_v3_3 main_v3_3 main_v21 (mulf : (⟨S1024x2048, .f32⟩ : BufTy).Contents (Elt F) → (⟨S1024x2048, .f32⟩ : BufTy).Contents (Elt F) → (⟨S1024x2048, .f32⟩ : BufTy).Contents (Elt F))
  :: StableHlo.nullary main_cst_6 (constant S_ .f32 0x00000000#32)
  :: StableHlo.binary main_v21 main_cst_6 main_v22 ((fun x v => Host.reduceAdd x v reducesTo_S1024x2048_S1024_d1 h_S_) : (⟨S1024x2048, .f32⟩ : BufTy).Contents (Elt F) → (⟨S_, .f32⟩ : BufTy).Contents (Elt F) → (⟨S1024, .f32⟩ : BufTy).Contents (Elt F))
  :: StableHlo.unary main_v22 main_v23 (broadcastInDim S1x1024 ![1] bcast_S1024_S1x1024_1 : (⟨S1024, .f32⟩ : BufTy).Contents (Elt F) → (⟨S1x1024, .f32⟩ : BufTy).Contents (Elt F))
  :: StableHlo.unary main_v20 main_v24 (broadcastInDim S2048x1024 ![0, 1] bcast_S2048x1_S2048x1024_0_1 : (⟨S2048x1, .f32⟩ : BufTy).Contents (Elt F) → (⟨S2048x1024, .f32⟩ : BufTy).Contents (Elt F))
  :: StableHlo.unary main_v23 main_v25 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v24 main_v25 main_v26 (addf : (⟨S2048x1024, .f32⟩ : BufTy).Contents (Elt F) → (⟨S2048x1024, .f32⟩ : BufTy).Contents (Elt F) → (⟨S2048x1024, .f32⟩ : BufTy).Contents (Elt F))
  :: StableHlo.unary main_v3_3 main_v27 ((transpose S2048x1024 [1, 0] · transposes_S1024x2048_S2048x1024_1_0) : (⟨S1024x2048, .f32⟩ : BufTy).Contents (Elt F) → (⟨S2048x1024, .f32⟩ : BufTy).Contents (Elt F))
  :: StableHlo.binary main_arg0 main_v27 main_v28 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F))
  :: StableHlo.nullary main_cst_7 (constant S_ .f32 0x40000000#32)
  :: StableHlo.unary main_cst_7 main_v29 (broadcastInDim S2048x1024 ![] bcast_S_S2048x1024 : (⟨S_, .f32⟩ : BufTy).Contents (Elt F) → (⟨S2048x1024, .f32⟩ : BufTy).Contents (Elt F))
  :: StableHlo.binary main_v29 main_v28 main_v30 (mulf : (⟨S2048x1024, .f32⟩ : BufTy).Contents (Elt F) → (⟨S2048x1024, .f32⟩ : BufTy).Contents (Elt F) → (⟨S2048x1024, .f32⟩ : BufTy).Contents (Elt F))
  :: StableHlo.binary main_v26 main_v30 main_v31 (subf : (⟨S2048x1024, .f32⟩ : BufTy).Contents (Elt F) → (⟨S2048x1024, .f32⟩ : BufTy).Contents (Elt F) → (⟨S2048x1024, .f32⟩ : BufTy).Contents (Elt F))
  :: StableHlo.nullary main_cst_8 (constant S_ .f32 0x00000000#32)
  :: StableHlo.unary main_cst_8 main_v32 (broadcastInDim S2048x1024 ![] bcast_S_S2048x1024 : (⟨S_, .f32⟩ : BufTy).Contents (Elt F) → (⟨S2048x1024, .f32⟩ : BufTy).Contents (Elt F))
  :: StableHlo.binary main_v31 main_v32 main_v33 (maximumf : (⟨S2048x1024, .f32⟩ : BufTy).Contents (Elt F) → (⟨S2048x1024, .f32⟩ : BufTy).Contents (Elt F) → (⟨S2048x1024, .f32⟩ : BufTy).Contents (Elt F))
  :: StableHlo.unary main_v33 main_v34 (Host.sqrt : (⟨S2048x1024, .f32⟩ : BufTy).Contents (Elt F) → (⟨S2048x1024, .f32⟩ : BufTy).Contents (Elt F))
  :: StableHlo.unary main_v34 main_v35 (Host.negf : (⟨S2048x1024, .f32⟩ : BufTy).Contents (Elt F) → (⟨S2048x1024, .f32⟩ : BufTy).Contents (Elt F))
  :: StableHlo.unary main_v35 main_values ((fun x => (Host.topK S2048x3 1 (FloatOps.cmpfTotal .gt) x sliceFits_S2048x1024_S2048x3).1) : (⟨S2048x1024, .f32⟩ : BufTy).Contents (Elt F) → (⟨S2048x3, .f32⟩ : BufTy).Contents (Elt F))
  :: StableHlo.unary main_v35 main_indices ((fun x => (Host.topK S2048x3 1 (FloatOps.cmpfTotal .gt) x sliceFits_S2048x1024_S2048x3).2) : (⟨S2048x1024, .f32⟩ : BufTy).Contents (Elt F) → (⟨S2048x3, .i32⟩ : BufTy).Contents (Elt F))
  :: StableHlo.nullary main_c_9 (constantI S_ 32 0#32)
  :: StableHlo.unary main_c_9 main_v36 (broadcastInDim S2048x3 ![] bcast_S_S2048x3 : (⟨S_, .i32⟩ : BufTy).Contents (Elt F) → (⟨S2048x3, .i32⟩ : BufTy).Contents (Elt F))
  :: StableHlo.binary main_indices main_v36 main_v37 (cmpi .slt : (⟨S2048x3, .i32⟩ : BufTy).Contents (Elt F) → (⟨S2048x3, .i32⟩ : BufTy).Contents (Elt F) → (⟨S2048x3, .i1⟩ : BufTy).Contents (Elt F))
  :: StableHlo.nullary main_c_10 (constantI S_ 32 1024#32)
  :: StableHlo.unary main_c_10 main_v38 (broadcastInDim S2048x3 ![] bcast_S_S2048x3 : (⟨S_, .i32⟩ : BufTy).Contents (Elt F) → (⟨S2048x3, .i32⟩ : BufTy).Contents (Elt F))
  :: StableHlo.binary main_indices main_v38 main_v39 (addi : (⟨S2048x3, .i32⟩ : BufTy).Contents (Elt F) → (⟨S2048x3, .i32⟩ : BufTy).Contents (Elt F) → (⟨S2048x3, .i32⟩ : BufTy).Contents (Elt F))
  :: StableHlo.ternary main_v37 main_v39 main_indices main_v40 (select : (⟨S2048x3, .i1⟩ : BufTy).Contents (Elt F) → (⟨S2048x3, .i32⟩ : BufTy).Contents (Elt F) → (⟨S2048x3, .i32⟩ : BufTy).Contents (Elt F) → (⟨S2048x3, .i32⟩ : BufTy).Contents (Elt F))
  :: StableHlo.unary main_v40 main_v41 (broadcastInDim S2048x3x1 ![0, 1] bcast_S2048x3_S2048x3x1_0_1 : (⟨S2048x3, .i32⟩ : BufTy).Contents (Elt F) → (⟨S2048x3x1, .i32⟩ : BufTy).Contents (Elt F))
  :: StableHlo.binary main_v3_3 main_v41 main_v42 ((fun x i => Host.gather gather_S1024x2048_S2048x3x1_S2048x3x2048_2_0_n_n_0_2_12048 x i) : (⟨S1024x2048, .f32⟩ : BufTy).Contents (Elt F) → (⟨S2048x3x1, .i32⟩ : BufTy).Contents (Elt F) → (⟨S2048x3x2048, .f32⟩ : BufTy).Contents (Elt F))
  :: StableHlo.nullary main_cst_11 (constant S_ .f32 0x00000000#32)
  :: StableHlo.binary main_v42 main_cst_11 main_v43 ((fun x v => Host.reduceAdd x v reducesTo_S2048x3x2048_S2048x2048_d1 h_S_) : (⟨S2048x3x2048, .f32⟩ : BufTy).Contents (Elt F) → (⟨S_, .f32⟩ : BufTy).Contents (Elt F) → (⟨S2048x2048, .f32⟩ : BufTy).Contents (Elt F))
  :: StableHlo.nullary main_cst_12 (constant S_ .f32 0x40400000#32)
  :: StableHlo.unary main_cst_12 main_v44 (broadcastInDim S2048x2048 ![] bcast_S_S2048x2048 : (⟨S_, .f32⟩ : BufTy).Contents (Elt F) → (⟨S2048x2048, .f32⟩ : BufTy).Contents (Elt F))
  :: StableHlo.binary main_v43 main_v44 main_v45 (Host.divf : (⟨S2048x2048, .f32⟩ : BufTy).Contents (Elt F) → (⟨S2048x2048, .f32⟩ : BufTy).Contents (Elt F) → (⟨S2048x2048, .f32⟩ : BufTy).Contents (Elt F))
  :: StableHlo.binary main_arg0 main_v45 main_v46 (subf : (⟨S2048x2048, .f32⟩ : BufTy).Contents (Elt F) → (⟨S2048x2048, .f32⟩ : BufTy).Contents (Elt F) → (⟨S2048x2048, .f32⟩ : BufTy).Contents (Elt F))
  :: StableHlo.binary main_v46 main_v46 main_v47 (mulf : (⟨S2048x2048, .f32⟩ : BufTy).Contents (Elt F) → (⟨S2048x2048, .f32⟩ : BufTy).Contents (Elt F) → (⟨S2048x2048, .f32⟩ : BufTy).Contents (Elt F))
  :: StableHlo.nullary main_cst_13 (constant S_ .f32 0x00000000#32)
  :: StableHlo.binary main_v47 main_cst_13 main_v48 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F))
  :: StableHlo.nullary main_cst_14 (constant S_ .f32 0x4A800000#32)
  :: StableHlo.binary main_v48 main_cst_14 main_v49 (Host.divf : (⟨S_, .f32⟩ : BufTy).Contents (Elt F) → (⟨S_, .f32⟩ : BufTy).Contents (Elt F) → (⟨S_, .f32⟩ : BufTy).Contents (Elt F))
  :: StableHlo.unary main_v16 main_v50 (broadcastInDim S1x2048 ![1] bcast_S2048_S1x2048_1 : (⟨S2048, .f32⟩ : BufTy).Contents (Elt F) → (⟨S1x2048, .f32⟩ : BufTy).Contents (Elt F))
  :: StableHlo.unary main_v50 main_v51 (broadcastInDim S2048x2048 ![0, 1] bcast_S1x2048_S2048x2048_0_1 : (⟨S1x2048, .f32⟩ : BufTy).Contents (Elt F) → (⟨S2048x2048, .f32⟩ : BufTy).Contents (Elt F))
  :: StableHlo.binary main_arg0 main_v51 main_v52 (subf : (⟨S2048x2048, .f32⟩ : BufTy).Contents (Elt F) → (⟨S2048x2048, .f32⟩ : BufTy).Contents (Elt F) → (⟨S2048x2048, .f32⟩ : BufTy).Contents (Elt F))
  :: [] )
set_option maxHeartbeats 40000000 in  -- a long stretch: its list (or the term over it) exceeds the default budget
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub ..⟩
/-- 4 host operations of @norm_1 (main_call5), in order. -/
abbrev hostOps0_2 : List (HloOp τ sig (Elt F)) :=
  [ StableHlo.TRef.binary (.of main_v52 : StableHlo.TRef sig ⟨S2048x2048, .f32⟩) (.of main_v52 : StableHlo.TRef sig ⟨S2048x2048, .f32⟩) (.of main_call5_v0 : StableHlo.TRef sig ⟨S2048x2048, .f32⟩) mulf,
    StableHlo.TRef.nullary (.of main_call5_cst : StableHlo.TRef sig ⟨S_, .f32⟩) (constant S_ .f32 0x00000000#32),
    StableHlo.TRef.binary (.of main_call5_v0 : StableHlo.TRef sig ⟨S2048x2048, .f32⟩) (.of main_call5_cst : StableHlo.TRef sig ⟨S_, .f32⟩) (.of main_call5_v1 : StableHlo.TRef sig ⟨S2048, .f32⟩) (fun x v => Host.reduceAdd x v reducesTo_S2048x2048_S2048_d1 h_S_),
    StableHlo.TRef.unary (.of main_call5_v1 : StableHlo.TRef sig ⟨S2048, .f32⟩) (.of main_v53 : StableHlo.TRef sig ⟨S2048, .f32⟩) Host.sqrt ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- 11 host operations of @main, in order. -/
abbrev hostOps0_3 : List (HloOp τ sig (Elt F)) :=
  [ StableHlo.nullary main_cst_15 (constant S_ .f32 0x3F800000#32),
    StableHlo.unary main_cst_15 main_v54 (broadcastInDim S2048 ![] bcast_S_S2048 : (⟨S_, .f32⟩ : BufTy).Contents (Elt F) → (⟨S2048, .f32⟩ : BufTy).Contents (Elt F)),
    StableHlo.binary main_v54 main_v53 main_v55 (subf : (⟨S2048, .f32⟩ : BufTy).Contents (Elt F) → (⟨S2048, .f32⟩ : BufTy).Contents (Elt F) → (⟨S2048, .f32⟩ : BufTy).Contents (Elt F)),
    StableHlo.nullary main_cst_16 (constant S_ .f32 0x00000000#32),
    StableHlo.unary main_cst_16 main_v56 (broadcastInDim S2048 ![] bcast_S_S2048 : (⟨S_, .f32⟩ : BufTy).Contents (Elt F) → (⟨S2048, .f32⟩ : BufTy).Contents (Elt F)),
    StableHlo.binary main_v55 main_v56 main_v57 (maximumf : (⟨S2048, .f32⟩ : BufTy).Contents (Elt F) → (⟨S2048, .f32⟩ : BufTy).Contents (Elt F) → (⟨S2048, .f32⟩ : BufTy).Contents (Elt F)),
    StableHlo.nullary main_cst_17 (constant S_ .f32 0x00000000#32),
    StableHlo.binary main_v57 main_cst_17 main_v58 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_18 (constant S_ .f32 0x45000000#32),
    StableHlo.binary main_v58 main_cst_18 main_v59 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x00000000#32) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub ..⟩
/-- 2 host operations of @_where_2 (main_call6), in order. -/
abbrev hostOps0_4 : List (HloOp τ sig (Elt F)) :=
  [ StableHlo.TRef.unary (.of main_cst_19 : StableHlo.TRef sig ⟨S_, .f32⟩) (.of main_call6_v0 : StableHlo.TRef sig ⟨S_, .f32⟩) id,
    StableHlo.TRef.ternary (.of main_v17 : StableHlo.TRef sig ⟨S_, .i1⟩) (.of main_v59 : StableHlo.TRef sig ⟨S_, .f32⟩) (.of main_call6_v0 : StableHlo.TRef sig ⟨S_, .f32⟩) (.of main_v60 : StableHlo.TRef sig ⟨S_, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.ternary_bufs_sub ..⟩
/-- 5 host operations of @main, in order. -/
abbrev hostOps0_5 : List (HloOp τ sig (Elt F)) :=
  [ StableHlo.nullary main_cst_20 (constant S_ .f32 0x3F800000#32),
    StableHlo.binary main_cst_20 main_v49 main_v61 (mulf : (⟨S_, .f32⟩ : BufTy).Contents (Elt F) → (⟨S_, .f32⟩ : BufTy).Contents (Elt F) → (⟨S_, .f32⟩ : BufTy).Contents (Elt F)),
    StableHlo.nullary main_cst_21 (constant S_ .f32 0x3F000000#32),
    StableHlo.binary main_cst_21 main_v60 main_v62 (mulf : (⟨S_, .f32⟩ : BufTy).Contents (Elt F) → (⟨S_, .f32⟩ : BufTy).Contents (Elt F) → (⟨S_, .f32⟩ : BufTy).Contents (Elt F)),
    StableHlo.binary main_v61 main_v62 main_v63 (addf : (⟨S_, .f32⟩ : BufTy).Contents (Elt F) → (⟨S_, .f32⟩ : BufTy).Contents (Elt F) → (⟨S_, .f32⟩ : BufTy).Contents (Elt F)) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub ..⟩
/-- 9 host operations of @main, window 0 (statements 1 … 60), in order. -/
abbrev main_part0_ops0 : List (HloOp τ sig (Elt F)) :=
  [ StableHlo.nullary main_cst (constant S_ .f32 0x00000000#32),
    StableHlo.unary main_cst main_v0 (broadcastInDim S2048 ![] bcast_S_S2048 : (⟨S_, .f32⟩ : BufTy).Contents (Elt F) → (⟨S2048, .f32⟩ : BufTy).Contents (Elt F)),
    StableHlo.binary main_arg1 main_v0 main_v1 (cmpf .une : (⟨S2048, .f32⟩ : BufTy).Contents (Elt F) → (⟨S2048, .f32⟩ : BufTy).Contents (Elt F) → (⟨S2048, .i1⟩ : BufTy).Contents (Elt F)),
    StableHlo.unary main_v1 main_v2 (id : (⟨S2048, .i1⟩ : BufTy).Contents (Elt F) → (⟨S2048, .i1⟩ : BufTy).Contents (Elt F)),
    StableHlo.nullary main_c (constantI S_ 32 0#32),
    StableHlo.unary main_arg0 main_v3_0 id,
    StableHlo.unary main_v2 main_v3_1 id,
    StableHlo.unary main_c main_v3_2 id,
    StableHlo.unary main_arg2 main_v3_3 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub ..⟩
/-- 50 host operations of @main, window 0 (statements 1 … 60), in order. -/
abbrev main_part0_ops1 : List (HloOp τ sig (Elt F)) :=
  ( StableHlo.nullary main_cst_0 (constant S_ .f32 0x00000000#32)
  :: StableHlo.unary main_cst_0 main_v4 (broadcastInDim S2048 ![] bcast_S_S2048 : (⟨S_, .f32⟩ : BufTy).Contents (Elt F) → (⟨S2048, .f32⟩ : BufTy).Contents (Elt F))
  :: StableHlo.binary main_arg1 main_v4 main_v5 (cmpf .une : (⟨S2048, .f32⟩ : BufTy).Contents (Elt F) → (⟨S2048, .f32⟩ : BufTy).Contents (Elt F) → (⟨S2048, .i1⟩ : BufTy).Contents (Elt F))
  :: StableHlo.unary main_v5 main_v6 (id : (⟨S2048, .i1⟩ : BufTy).Contents (Elt F) → (⟨S2048, .i1⟩ : BufTy).Contents (Elt F))
  :: StableHlo.unary main_v6 main_v7 (noti : (⟨S2048, .i1⟩ : BufTy).Contents (Elt F) → (⟨S2048, .i1⟩ : BufTy).Contents (Elt F))
  :: StableHlo.unary main_v7 main_v8 (uitofp .f32 : (⟨S2048, .i1⟩ : BufTy).Contents (Elt F) → (⟨S2048, .f32⟩ : BufTy).Contents (Elt F))
  :: StableHlo.nullary main_cst_1 (constant S_ .f32 0x00000000#32)
  :: StableHlo.binary main_v8 main_cst_1 main_v9 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))
  :: StableHlo.unary main_v8 main_v10 (broadcastInDim S2048x1 ![0] bcast_S2048_S2048x1_0 : (⟨S2048, .f32⟩ : BufTy).Contents (Elt F) → (⟨S2048x1, .f32⟩ : BufTy).Contents (Elt F))
  :: StableHlo.unary main_v10 main_v11 (broadcastInDim S2048x2048 ![0, 1] bcast_S2048x1_S2048x2048_0_1 : (⟨S2048x1, .f32⟩ : BufTy).Contents (Elt F) → (⟨S2048x2048, .f32⟩ : BufTy).Contents (Elt F))
  :: StableHlo.binary main_arg0 main_v11 main_v12 (mulf : (⟨S2048x2048, .f32⟩ : BufTy).Contents (Elt F) → (⟨S2048x2048, .f32⟩ : BufTy).Contents (Elt F) → (⟨S2048x2048, .f32⟩ : BufTy).Contents (Elt F))
  :: StableHlo.nullary main_cst_2 (constant S_ .f32 0x00000000#32)
  :: StableHlo.binary main_v12 main_cst_2 main_v13 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F))
  :: StableHlo.nullary main_cst_3 (constant S_ .f32 0x3F800000#32)
  :: StableHlo.binary main_v9 main_cst_3 main_v14 (maximumf : (⟨S_, .f32⟩ : BufTy).Contents (Elt F) → (⟨S_, .f32⟩ : BufTy).Contents (Elt F) → (⟨S_, .f32⟩ : BufTy).Contents (Elt F))
  :: StableHlo.unary main_v14 main_v15 (broadcastInDim S2048 ![] bcast_S_S2048 : (⟨S_, .f32⟩ : BufTy).Contents (Elt F) → (⟨S2048, .f32⟩ : BufTy).Contents (Elt F))
  :: StableHlo.binary main_v13 main_v15 main_v16 (Host.divf : (⟨S2048, .f32⟩ : BufTy).Contents (Elt F) → (⟨S2048, .f32⟩ : BufTy).Contents (Elt F) → (⟨S2048, .f32⟩ : BufTy).Contents (Elt F))
  :: StableHlo.nullary main_cst_4 (constant S_ .f32 0x00000000#32)
  :: StableHlo.binary main_v9 main_cst_4 main_v17 (cmpf .ogt : (⟨S_, .f32⟩ : BufTy).Contents (Elt F) → (⟨S_, .f32⟩ : BufTy).Contents (Elt F) → (⟨S_, .i1⟩ : BufTy).Contents (Elt F))
  :: StableHlo.binary main_arg0 main_arg0 main_v18 (mulf : (⟨S2048x2048, .f32⟩ : BufTy).Contents (Elt F) → (⟨S2048x2048, .f32⟩ : BufTy).Contents (Elt F) → (⟨S2048x2048, .f32⟩ : BufTy).Contents (Elt F))
  :: StableHlo.nullary main_cst_5 (constant S_ .f32 0x00000000#32)
  :: StableHlo.binary main_v18 main_cst_5 main_v19 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F))
  :: StableHlo.unary main_v19 main_v20 (broadcastInDim S2048x1 ![0] bcast_S2048_S2048x1_0 : (⟨S2048, .f32⟩ : BufTy).Contents (Elt F) → (⟨S2048x1, .f32⟩ : BufTy).Contents (Elt F))
  :: StableHlo.binary main_v3_3 main_v3_3 main_v21 (mulf : (⟨S1024x2048, .f32⟩ : BufTy).Contents (Elt F) → (⟨S1024x2048, .f32⟩ : BufTy).Contents (Elt F) → (⟨S1024x2048, .f32⟩ : BufTy).Contents (Elt F))
  :: StableHlo.nullary main_cst_6 (constant S_ .f32 0x00000000#32)
  :: StableHlo.binary main_v21 main_cst_6 main_v22 ((fun x v => Host.reduceAdd x v reducesTo_S1024x2048_S1024_d1 h_S_) : (⟨S1024x2048, .f32⟩ : BufTy).Contents (Elt F) → (⟨S_, .f32⟩ : BufTy).Contents (Elt F) → (⟨S1024, .f32⟩ : BufTy).Contents (Elt F))
  :: StableHlo.unary main_v22 main_v23 (broadcastInDim S1x1024 ![1] bcast_S1024_S1x1024_1 : (⟨S1024, .f32⟩ : BufTy).Contents (Elt F) → (⟨S1x1024, .f32⟩ : BufTy).Contents (Elt F))
  :: StableHlo.unary main_v20 main_v24 (broadcastInDim S2048x1024 ![0, 1] bcast_S2048x1_S2048x1024_0_1 : (⟨S2048x1, .f32⟩ : BufTy).Contents (Elt F) → (⟨S2048x1024, .f32⟩ : BufTy).Contents (Elt F))
  :: StableHlo.unary main_v23 main_v25 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v24 main_v25 main_v26 (addf : (⟨S2048x1024, .f32⟩ : BufTy).Contents (Elt F) → (⟨S2048x1024, .f32⟩ : BufTy).Contents (Elt F) → (⟨S2048x1024, .f32⟩ : BufTy).Contents (Elt F))
  :: StableHlo.unary main_v3_3 main_v27 ((transpose S2048x1024 [1, 0] · transposes_S1024x2048_S2048x1024_1_0) : (⟨S1024x2048, .f32⟩ : BufTy).Contents (Elt F) → (⟨S2048x1024, .f32⟩ : BufTy).Contents (Elt F))
  :: StableHlo.binary main_arg0 main_v27 main_v28 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F))
  :: StableHlo.nullary main_cst_7 (constant S_ .f32 0x40000000#32)
  :: StableHlo.unary main_cst_7 main_v29 (broadcastInDim S2048x1024 ![] bcast_S_S2048x1024 : (⟨S_, .f32⟩ : BufTy).Contents (Elt F) → (⟨S2048x1024, .f32⟩ : BufTy).Contents (Elt F))
  :: StableHlo.binary main_v29 main_v28 main_v30 (mulf : (⟨S2048x1024, .f32⟩ : BufTy).Contents (Elt F) → (⟨S2048x1024, .f32⟩ : BufTy).Contents (Elt F) → (⟨S2048x1024, .f32⟩ : BufTy).Contents (Elt F))
  :: StableHlo.binary main_v26 main_v30 main_v31 (subf : (⟨S2048x1024, .f32⟩ : BufTy).Contents (Elt F) → (⟨S2048x1024, .f32⟩ : BufTy).Contents (Elt F) → (⟨S2048x1024, .f32⟩ : BufTy).Contents (Elt F))
  :: StableHlo.nullary main_cst_8 (constant S_ .f32 0x00000000#32)
  :: StableHlo.unary main_cst_8 main_v32 (broadcastInDim S2048x1024 ![] bcast_S_S2048x1024 : (⟨S_, .f32⟩ : BufTy).Contents (Elt F) → (⟨S2048x1024, .f32⟩ : BufTy).Contents (Elt F))
  :: StableHlo.binary main_v31 main_v32 main_v33 (maximumf : (⟨S2048x1024, .f32⟩ : BufTy).Contents (Elt F) → (⟨S2048x1024, .f32⟩ : BufTy).Contents (Elt F) → (⟨S2048x1024, .f32⟩ : BufTy).Contents (Elt F))
  :: StableHlo.unary main_v33 main_v34 (Host.sqrt : (⟨S2048x1024, .f32⟩ : BufTy).Contents (Elt F) → (⟨S2048x1024, .f32⟩ : BufTy).Contents (Elt F))
  :: StableHlo.unary main_v34 main_v35 (Host.negf : (⟨S2048x1024, .f32⟩ : BufTy).Contents (Elt F) → (⟨S2048x1024, .f32⟩ : BufTy).Contents (Elt F))
  :: StableHlo.unary main_v35 main_values ((fun x => (Host.topK S2048x3 1 (FloatOps.cmpfTotal .gt) x sliceFits_S2048x1024_S2048x3).1) : (⟨S2048x1024, .f32⟩ : BufTy).Contents (Elt F) → (⟨S2048x3, .f32⟩ : BufTy).Contents (Elt F))
  :: StableHlo.unary main_v35 main_indices ((fun x => (Host.topK S2048x3 1 (FloatOps.cmpfTotal .gt) x sliceFits_S2048x1024_S2048x3).2) : (⟨S2048x1024, .f32⟩ : BufTy).Contents (Elt F) → (⟨S2048x3, .i32⟩ : BufTy).Contents (Elt F))
  :: StableHlo.nullary main_c_9 (constantI S_ 32 0#32)
  :: StableHlo.unary main_c_9 main_v36 (broadcastInDim S2048x3 ![] bcast_S_S2048x3 : (⟨S_, .i32⟩ : BufTy).Contents (Elt F) → (⟨S2048x3, .i32⟩ : BufTy).Contents (Elt F))
  :: StableHlo.binary main_indices main_v36 main_v37 (cmpi .slt : (⟨S2048x3, .i32⟩ : BufTy).Contents (Elt F) → (⟨S2048x3, .i32⟩ : BufTy).Contents (Elt F) → (⟨S2048x3, .i1⟩ : BufTy).Contents (Elt F))
  :: StableHlo.nullary main_c_10 (constantI S_ 32 1024#32)
  :: StableHlo.unary main_c_10 main_v38 (broadcastInDim S2048x3 ![] bcast_S_S2048x3 : (⟨S_, .i32⟩ : BufTy).Contents (Elt F) → (⟨S2048x3, .i32⟩ : BufTy).Contents (Elt F))
  :: StableHlo.binary main_indices main_v38 main_v39 (addi : (⟨S2048x3, .i32⟩ : BufTy).Contents (Elt F) → (⟨S2048x3, .i32⟩ : BufTy).Contents (Elt F) → (⟨S2048x3, .i32⟩ : BufTy).Contents (Elt F))
  :: StableHlo.ternary main_v37 main_v39 main_indices main_v40 (select : (⟨S2048x3, .i1⟩ : BufTy).Contents (Elt F) → (⟨S2048x3, .i32⟩ : BufTy).Contents (Elt F) → (⟨S2048x3, .i32⟩ : BufTy).Contents (Elt F) → (⟨S2048x3, .i32⟩ : BufTy).Contents (Elt F))
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 16 host operations of @main, window 1 (statements 61 … 95), in order. -/
abbrev main_part1_ops0 : List (HloOp τ sig (Elt F)) :=
  [ StableHlo.unary main_v40 main_v41 (broadcastInDim S2048x3x1 ![0, 1] bcast_S2048x3_S2048x3x1_0_1 : (⟨S2048x3, .i32⟩ : BufTy).Contents (Elt F) → (⟨S2048x3x1, .i32⟩ : BufTy).Contents (Elt F)),
    StableHlo.binary main_v3_3 main_v41 main_v42 ((fun x i => Host.gather gather_S1024x2048_S2048x3x1_S2048x3x2048_2_0_n_n_0_2_12048 x i) : (⟨S1024x2048, .f32⟩ : BufTy).Contents (Elt F) → (⟨S2048x3x1, .i32⟩ : BufTy).Contents (Elt F) → (⟨S2048x3x2048, .f32⟩ : BufTy).Contents (Elt F)),
    StableHlo.nullary main_cst_11 (constant S_ .f32 0x00000000#32),
    StableHlo.binary main_v42 main_cst_11 main_v43 ((fun x v => Host.reduceAdd x v reducesTo_S2048x3x2048_S2048x2048_d1 h_S_) : (⟨S2048x3x2048, .f32⟩ : BufTy).Contents (Elt F) → (⟨S_, .f32⟩ : BufTy).Contents (Elt F) → (⟨S2048x2048, .f32⟩ : BufTy).Contents (Elt F)),
    StableHlo.nullary main_cst_12 (constant S_ .f32 0x40400000#32),
    StableHlo.unary main_cst_12 main_v44 (broadcastInDim S2048x2048 ![] bcast_S_S2048x2048 : (⟨S_, .f32⟩ : BufTy).Contents (Elt F) → (⟨S2048x2048, .f32⟩ : BufTy).Contents (Elt F)),
    StableHlo.binary main_v43 main_v44 main_v45 (Host.divf : (⟨S2048x2048, .f32⟩ : BufTy).Contents (Elt F) → (⟨S2048x2048, .f32⟩ : BufTy).Contents (Elt F) → (⟨S2048x2048, .f32⟩ : BufTy).Contents (Elt F)),
    StableHlo.binary main_arg0 main_v45 main_v46 (subf : (⟨S2048x2048, .f32⟩ : BufTy).Contents (Elt F) → (⟨S2048x2048, .f32⟩ : BufTy).Contents (Elt F) → (⟨S2048x2048, .f32⟩ : BufTy).Contents (Elt F)),
    StableHlo.binary main_v46 main_v46 main_v47 (mulf : (⟨S2048x2048, .f32⟩ : BufTy).Contents (Elt F) → (⟨S2048x2048, .f32⟩ : BufTy).Contents (Elt F) → (⟨S2048x2048, .f32⟩ : BufTy).Contents (Elt F)),
    StableHlo.nullary main_cst_13 (constant S_ .f32 0x00000000#32),
    StableHlo.binary main_v47 main_cst_13 main_v48 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.nullary main_cst_14 (constant S_ .f32 0x4A800000#32),
    StableHlo.binary main_v48 main_cst_14 main_v49 (Host.divf : (⟨S_, .f32⟩ : BufTy).Contents (Elt F) → (⟨S_, .f32⟩ : BufTy).Contents (Elt F) → (⟨S_, .f32⟩ : BufTy).Contents (Elt F)),
    StableHlo.unary main_v16 main_v50 (broadcastInDim S1x2048 ![1] bcast_S2048_S1x2048_1 : (⟨S2048, .f32⟩ : BufTy).Contents (Elt F) → (⟨S1x2048, .f32⟩ : BufTy).Contents (Elt F)),
    StableHlo.unary main_v50 main_v51 (broadcastInDim S2048x2048 ![0, 1] bcast_S1x2048_S2048x2048_0_1 : (⟨S1x2048, .f32⟩ : BufTy).Contents (Elt F) → (⟨S2048x2048, .f32⟩ : BufTy).Contents (Elt F)),
    StableHlo.binary main_arg0 main_v51 main_v52 (subf : (⟨S2048x2048, .f32⟩ : BufTy).Contents (Elt F) → (⟨S2048x2048, .f32⟩ : BufTy).Contents (Elt F) → (⟨S2048x2048, .f32⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub ..⟩
/-- 4 host operations of @norm_1 (main_call5), window 1 (statements 61 … 95), in order. -/
abbrev main_part1_ops1 : List (HloOp τ sig (Elt F)) :=
  [ StableHlo.TRef.binary (.of main_v52 : StableHlo.TRef sig ⟨S2048x2048, .f32⟩) (.of main_v52 : StableHlo.TRef sig ⟨S2048x2048, .f32⟩) (.of main_call5_v0 : StableHlo.TRef sig ⟨S2048x2048, .f32⟩) mulf,
    StableHlo.TRef.nullary (.of main_call5_cst : StableHlo.TRef sig ⟨S_, .f32⟩) (constant S_ .f32 0x00000000#32),
    StableHlo.TRef.binary (.of main_call5_v0 : StableHlo.TRef sig ⟨S2048x2048, .f32⟩) (.of main_call5_cst : StableHlo.TRef sig ⟨S_, .f32⟩) (.of main_call5_v1 : StableHlo.TRef sig ⟨S2048, .f32⟩) (fun x v => Host.reduceAdd x v reducesTo_S2048x2048_S2048_d1 h_S_),
    StableHlo.TRef.unary (.of main_call5_v1 : StableHlo.TRef sig ⟨S2048, .f32⟩) (.of main_v53 : StableHlo.TRef sig ⟨S2048, .f32⟩) Host.sqrt ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- 11 host operations of @main, window 1 (statements 61 … 95), in order. -/
abbrev main_part1_ops2 : List (HloOp τ sig (Elt F)) :=
  [ StableHlo.nullary main_cst_15 (constant S_ .f32 0x3F800000#32),
    StableHlo.unary main_cst_15 main_v54 (broadcastInDim S2048 ![] bcast_S_S2048 : (⟨S_, .f32⟩ : BufTy).Contents (Elt F) → (⟨S2048, .f32⟩ : BufTy).Contents (Elt F)),
    StableHlo.binary main_v54 main_v53 main_v55 (subf : (⟨S2048, .f32⟩ : BufTy).Contents (Elt F) → (⟨S2048, .f32⟩ : BufTy).Contents (Elt F) → (⟨S2048, .f32⟩ : BufTy).Contents (Elt F)),
    StableHlo.nullary main_cst_16 (constant S_ .f32 0x00000000#32),
    StableHlo.unary main_cst_16 main_v56 (broadcastInDim S2048 ![] bcast_S_S2048 : (⟨S_, .f32⟩ : BufTy).Contents (Elt F) → (⟨S2048, .f32⟩ : BufTy).Contents (Elt F)),
    StableHlo.binary main_v55 main_v56 main_v57 (maximumf : (⟨S2048, .f32⟩ : BufTy).Contents (Elt F) → (⟨S2048, .f32⟩ : BufTy).Contents (Elt F) → (⟨S2048, .f32⟩ : BufTy).Contents (Elt F)),
    StableHlo.nullary main_cst_17 (constant S_ .f32 0x00000000#32),
    StableHlo.binary main_v57 main_cst_17 main_v58 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_18 (constant S_ .f32 0x45000000#32),
    StableHlo.binary main_v58 main_cst_18 main_v59 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x00000000#32) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub ..⟩
/-- 2 host operations of @_where_2 (main_call6), window 1 (statements 61 … 95), in order. -/
abbrev main_part1_ops3 : List (HloOp τ sig (Elt F)) :=
  [ StableHlo.TRef.unary (.of main_cst_19 : StableHlo.TRef sig ⟨S_, .f32⟩) (.of main_call6_v0 : StableHlo.TRef sig ⟨S_, .f32⟩) id,
    StableHlo.TRef.ternary (.of main_v17 : StableHlo.TRef sig ⟨S_, .i1⟩) (.of main_v59 : StableHlo.TRef sig ⟨S_, .f32⟩) (.of main_call6_v0 : StableHlo.TRef sig ⟨S_, .f32⟩) (.of main_v60 : StableHlo.TRef sig ⟨S_, .f32⟩) select ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.unary_bufs_sub .., StableHlo.ternary_bufs_sub ..⟩
/-- 5 host operations of @main, window 1 (statements 61 … 95), in order. -/
abbrev main_part1_ops4 : List (HloOp τ sig (Elt F)) :=
  [ StableHlo.nullary main_cst_20 (constant S_ .f32 0x3F800000#32),
    StableHlo.binary main_cst_20 main_v49 main_v61 (mulf : (⟨S_, .f32⟩ : BufTy).Contents (Elt F) → (⟨S_, .f32⟩ : BufTy).Contents (Elt F) → (⟨S_, .f32⟩ : BufTy).Contents (Elt F)),
    StableHlo.nullary main_cst_21 (constant S_ .f32 0x3F000000#32),
    StableHlo.binary main_cst_21 main_v60 main_v62 (mulf : (⟨S_, .f32⟩ : BufTy).Contents (Elt F) → (⟨S_, .f32⟩ : BufTy).Contents (Elt F) → (⟨S_, .f32⟩ : BufTy).Contents (Elt F)),
    StableHlo.binary main_v61 main_v62 main_v63 (addf : (⟨S_, .f32⟩ : BufTy).Contents (Elt F) → (⟨S_, .f32⟩ : BufTy).Contents (Elt F) → (⟨S_, .f32⟩ : BufTy).Contents (Elt F)) ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub ..⟩
/-- The last window of `main` (`main_part1`, statements 61 … 95) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1, main_part1_ops0],
    .ops [main_part1_ops1],
    .ops [main_part1_ops2],
    .ops [main_part1_ops3],
    .ops [main_part1_ops4] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 3 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.unaryIndexed (.of main_v3_0 : StableHlo.TRef sig ⟨S2048x2048, .f32⟩) ![(.of main_v3_2 : StableHlo.TRef sig ⟨S_, .i32⟩), (.of main_while0b_call0_c : StableHlo.TRef sig ⟨S_, .i32⟩)] (.of main_while0b_call0_v0 : StableHlo.TRef sig ⟨S1x2048, .f32⟩) (fun x i => Host.dynamicSlice S1x2048 x (fun k => (i k (Shape.Idx.first h_S_)).toInt) sliceFits_S2048x2048_S1x2048),
    StableHlo.TRef.reshape (.of main_while0b_call0_v0 : StableHlo.TRef sig ⟨S1x2048, .f32⟩) (.of main_while0b_v64 : StableHlo.TRef sig ⟨S2048, .f32⟩) (rfl : (.f32 : EltTy) = .f32) shapeCasts_S1x2048_S2048 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 2 host operations of @dynamic_index_in_dim_0 (main_while0b_call1), in order. -/
abbrev while0Ops0_1 : List (HloOp τ sig (Elt F)) :=
  [ StableHlo.TRef.unaryIndexed (.of main_v3_1 : StableHlo.TRef sig ⟨S2048, .i1⟩) ![(.of main_v3_2 : StableHlo.TRef sig ⟨S_, .i32⟩)] (.of main_while0b_call1_v0 : StableHlo.TRef sig ⟨S1, .i1⟩) (fun x i => Host.dynamicSlice S1 x (fun k => (i k (Shape.Idx.first h_S_)).toInt) sliceFits_S2048_S1),
    StableHlo.TRef.reshape (.of main_while0b_call1_v0 : StableHlo.TRef sig ⟨S1, .i1⟩) (.of main_while0b_v65 : StableHlo.TRef sig ⟨S_, .i1⟩) (rfl : (.i1 : EltTy) = .i1) shapeCasts_S1_S_ ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unaryIndexed_bufs_sub .., StableHlo.reshape_bufs_sub ..⟩
/-- 3 host operations of host loop 0's body region, in order. -/
abbrev while0Ops0_2 : List (HloOp τ sig (Elt F)) :=
  [ StableHlo.unary main_while0b_v64 main_while0b_v66 (broadcastInDim S1x2048 ![1] bcast_S2048_S1x2048_1 : (⟨S2048, .f32⟩ : BufTy).Contents (Elt F) → (⟨S1x2048, .f32⟩ : BufTy).Contents (Elt F)),
    StableHlo.unary main_while0b_v66 main_while0b_v67 (broadcastInDim S1024x2048 ![0, 1] bcast_S1x2048_S1024x2048_0_1 : (⟨S1x2048, .f32⟩ : BufTy).Contents (Elt F) → (⟨S1024x2048, .f32⟩ : BufTy).Contents (Elt F)),
    StableHlo.binary main_v3_3 main_while0b_v67 main_while0b_v68 (subf : (⟨S1024x2048, .f32⟩ : BufTy).Contents (Elt F) → (⟨S1024x2048, .f32⟩ : BufTy).Contents (Elt F) → (⟨S1024x2048, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.binary_bufs_sub ..⟩
/-- 4 host operations of @norm (main_while0b_call2), in order. -/
abbrev while0Ops0_3 : List (HloOp τ sig (Elt F)) :=
  [ StableHlo.TRef.binary (.of main_while0b_v68 : StableHlo.TRef sig ⟨S1024x2048, .f32⟩) (.of main_while0b_v68 : StableHlo.TRef sig ⟨S1024x2048, .f32⟩) (.of main_while0b_call2_v0 : StableHlo.TRef sig ⟨S1024x2048, .f32⟩) mulf,
    StableHlo.TRef.nullary (.of main_while0b_call2_cst : StableHlo.TRef sig ⟨S_, .f32⟩) (constant S_ .f32 0x00000000#32),
    StableHlo.TRef.binary (.of main_while0b_call2_v0 : StableHlo.TRef sig ⟨S1024x2048, .f32⟩) (.of main_while0b_call2_cst : StableHlo.TRef sig ⟨S_, .f32⟩) (.of main_while0b_call2_v1 : StableHlo.TRef sig ⟨S1024, .f32⟩) (fun x v => Host.reduceAdd x v reducesTo_S1024x2048_S1024_d1 h_S_),
    StableHlo.TRef.unary (.of main_while0b_call2_v1 : StableHlo.TRef sig ⟨S1024, .f32⟩) (.of main_while0b_v69 : StableHlo.TRef sig ⟨S1024, .f32⟩) Host.sqrt ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- 5 host operations of @argmin (main_while0b_call3), in order. -/
abbrev while0Ops0_4 : List (HloOp τ sig (Elt F)) :=
  [ StableHlo.TRef.nullary (.of main_while0b_call3_v0 : StableHlo.TRef sig ⟨S1024, .i32⟩) (iotaInDim S1024 32 0),
    StableHlo.TRef.nullary (.of main_while0b_call3_cst : StableHlo.TRef sig ⟨S_, .f32⟩) (constant S_ .f32 0x7F800000#32),
    StableHlo.TRef.nullary (.of main_while0b_call3_c : StableHlo.TRef sig ⟨S_, .i32⟩) (constantI S_ 32 0#32),
    StableHlo.TRef.quaternary (.of main_while0b_v69 : StableHlo.TRef sig ⟨S1024, .f32⟩) (.of main_while0b_call3_v0 : StableHlo.TRef sig ⟨S1024, .i32⟩) (.of main_while0b_call3_cst : StableHlo.TRef sig ⟨S_, .f32⟩) (.of main_while0b_call3_c : StableHlo.TRef sig ⟨S_, .i32⟩) (.of main_while0b_call3_v1_0 : StableHlo.TRef sig ⟨S_, .f32⟩) (fun x y u v j => (Host.argReduce reducer_argmin_f32_i32 x y u v reducesTo_S1024_S_d0 h_S_ j).1),
    StableHlo.TRef.quaternary (.of main_while0b_v69 : StableHlo.TRef sig ⟨S1024, .f32⟩) (.of main_while0b_call3_v0 : StableHlo.TRef sig ⟨S1024, .i32⟩) (.of main_while0b_call3_cst : StableHlo.TRef sig ⟨S_, .f32⟩) (.of main_while0b_call3_c : StableHlo.TRef sig ⟨S_, .i32⟩) (.of main_while0b_v70 : StableHlo.TRef sig ⟨S_, .i32⟩) (fun x y u v j => (Host.argReduce reducer_argmin_f32_i32 x y u v reducesTo_S1024_S_d0 h_S_ j).2) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 32 host operations of host loop 0's body region, in order. -/
abbrev while0Ops0_5 : List (HloOp τ sig (Elt F)) :=
  [ StableHlo.nullary main_while0b_cst_25 (constant S_ .f32 0x41100000#32),
    StableHlo.nullary main_while0b_cst_26 (constant S_ .f32 0x41200000#32),
    StableHlo.binary main_while0b_cst_25 main_while0b_cst_26 main_while0b_v71 (Host.divf : (⟨S_, .f32⟩ : BufTy).Contents (Elt F) → (⟨S_, .f32⟩ : BufTy).Contents (Elt F) → (⟨S_, .f32⟩ : BufTy).Contents (Elt F)),
    StableHlo.nullary main_while0b_c_27 (constantI S_ 32 0#32),
    StableHlo.binary main_while0b_v70 main_while0b_c_27 main_while0b_v72 (cmpi .slt : (⟨S_, .i32⟩ : BufTy).Contents (Elt F) → (⟨S_, .i32⟩ : BufTy).Contents (Elt F) → (⟨S_, .i1⟩ : BufTy).Contents (Elt F)),
    StableHlo.nullary main_while0b_c_28 (constantI S_ 32 1024#32),
    StableHlo.binary main_while0b_v70 main_while0b_c_28 main_while0b_v73 (addi : (⟨S_, .i32⟩ : BufTy).Contents (Elt F) → (⟨S_, .i32⟩ : BufTy).Contents (Elt F) → (⟨S_, .i32⟩ : BufTy).Contents (Elt F)),
    StableHlo.ternary main_while0b_v72 main_while0b_v73 main_while0b_v70 main_while0b_v74 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_29 (constantI S_ 32 0#32),
    StableHlo.nullary main_while0b_c_30 (constantI S_ 32 0#32),
    StableHlo.binary main_while0b_c_29 main_while0b_c_30 main_while0b_v75 (cmpi .slt : (⟨S_, .i32⟩ : BufTy).Contents (Elt F) → (⟨S_, .i32⟩ : BufTy).Contents (Elt F) → (⟨S_, .i1⟩ : BufTy).Contents (Elt F)),
    StableHlo.nullary main_while0b_c_31 (constantI S_ 32 0#32),
    StableHlo.nullary main_while0b_c_32 (constantI S_ 32 2048#32),
    StableHlo.binary main_while0b_c_31 main_while0b_c_32 main_while0b_v76 (addi : (⟨S_, .i32⟩ : BufTy).Contents (Elt F) → (⟨S_, .i32⟩ : BufTy).Contents (Elt F) → (⟨S_, .i32⟩ : BufTy).Contents (Elt F)),
    StableHlo.nullary main_while0b_c_33 (constantI S_ 32 0#32),
    StableHlo.ternary main_while0b_v75 main_while0b_v76 main_while0b_c_33 main_while0b_v77 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v3_3 ![main_while0b_v74, main_while0b_v77] ⟨S_, .i32⟩ main_while0b_v78 ((fun x i => Host.dynamicSlice S1x2048 x (fun k => (i k (Shape.Idx.first h_S_)).toInt) sliceFits_S1024x2048_S1x2048) : (⟨S1024x2048, .f32⟩ : BufTy).Contents (Elt F) → (Fin 2 → (⟨S_, .i32⟩ : BufTy).Contents (Elt F)) → (⟨S1x2048, .f32⟩ : BufTy).Contents (Elt F)),
    StableHlo.reshape main_while0b_v78 main_while0b_v79 (rfl : (.f32 : EltTy) = .f32) shapeCasts_S1x2048_S2048,
    StableHlo.unary main_while0b_v71 main_while0b_v80 (broadcastInDim S2048 ![] bcast_S_S2048 : (⟨S_, .f32⟩ : BufTy).Contents (Elt F) → (⟨S2048, .f32⟩ : BufTy).Contents (Elt F)),
    StableHlo.binary main_while0b_v80 main_while0b_v79 main_while0b_v81 (mulf : (⟨S2048, .f32⟩ : BufTy).Contents (Elt F) → (⟨S2048, .f32⟩ : BufTy).Contents (Elt F) → (⟨S2048, .f32⟩ : BufTy).Contents (Elt F)),
    StableHlo.nullary main_while0b_cst_34 (constant S_ .f32 0x3F800000#32),
    StableHlo.binary main_while0b_cst_34 main_while0b_v71 main_while0b_v82 (subf : (⟨S_, .f32⟩ : BufTy).Contents (Elt F) → (⟨S_, .f32⟩ : BufTy).Contents (Elt F) → (⟨S_, .f32⟩ : BufTy).Contents (Elt F)),
    StableHlo.unary main_while0b_v82 main_while0b_v83 (broadcastInDim S2048 ![] bcast_S_S2048 : (⟨S_, .f32⟩ : BufTy).Contents (Elt F) → (⟨S2048, .f32⟩ : BufTy).Contents (Elt F)),
    StableHlo.binary main_while0b_v83 main_while0b_v64 main_while0b_v84 (mulf : (⟨S2048, .f32⟩ : BufTy).Contents (Elt F) → (⟨S2048, .f32⟩ : BufTy).Contents (Elt F) → (⟨S2048, .f32⟩ : BufTy).Contents (Elt F)),
    StableHlo.binary main_while0b_v81 main_while0b_v84 main_while0b_v85 (addf : (⟨S2048, .f32⟩ : BufTy).Contents (Elt F) → (⟨S2048, .f32⟩ : BufTy).Contents (Elt F) → (⟨S2048, .f32⟩ : BufTy).Contents (Elt F)),
    StableHlo.nullary main_while0b_c_35 (constantI S_ 32 0#32),
    StableHlo.binary main_while0b_v70 main_while0b_c_35 main_while0b_v86 (cmpi .slt : (⟨S_, .i32⟩ : BufTy).Contents (Elt F) → (⟨S_, .i32⟩ : BufTy).Contents (Elt F) → (⟨S_, .i1⟩ : BufTy).Contents (Elt F)),
    StableHlo.nullary main_while0b_c_36 (constantI S_ 32 1024#32),
    StableHlo.binary main_while0b_v70 main_while0b_c_36 main_while0b_v87 (addi : (⟨S_, .i32⟩ : BufTy).Contents (Elt F) → (⟨S_, .i32⟩ : BufTy).Contents (Elt F) → (⟨S_, .i32⟩ : BufTy).Contents (Elt F)),
    StableHlo.ternary main_while0b_v86 main_while0b_v87 main_while0b_v70 main_while0b_v88 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v88 main_while0b_v89 (broadcastInDim S1 ![] bcast_S_S1 : (⟨S_, .i32⟩ : BufTy).Contents (Elt F) → (⟨S1, .i32⟩ : BufTy).Contents (Elt F)),
    StableHlo.ternary main_v3_3 main_while0b_v89 main_while0b_v85 main_while0b_v90 ((fun x i u => Host.scatter scatter_S1024x2048_S1_S2048_0_0_0_0 (fun _ b => b) x i u) : (⟨S1024x2048, .f32⟩ : BufTy).Contents (Elt F) → (⟨S1, .i32⟩ : BufTy).Contents (Elt F) → (⟨S2048, .f32⟩ : BufTy).Contents (Elt F) → (⟨S1024x2048, .f32⟩ : BufTy).Contents (Elt F)) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub ..⟩
/-- 1 host operation of @_where (main_while0b_call4), in order. -/
abbrev while0Ops0_6 : List (HloOp τ sig (Elt F)) :=
  [ StableHlo.TRef.ternary (.of main_while0b_v65 : StableHlo.TRef sig ⟨S_, .i1⟩) (.of main_while0b_v90 : StableHlo.TRef sig ⟨S1024x2048, .f32⟩) (.of main_v3_3 : StableHlo.TRef sig ⟨S1024x2048, .f32⟩) (.of main_while0b_v91 : StableHlo.TRef sig ⟨S1024x2048, .f32⟩) (fun p a b => select (broadcastInDim S1024x2048 ![] bcast_S_S1024x2048 p) a b) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  StableHlo.ternary_bufs_sub ..
/-- 4 host operations of host loop 0's body region, in order. -/
abbrev while0Ops0_7 : List (HloOp τ sig (Elt F)) :=
  [ StableHlo.nullary main_while0b_c_37 (constantI S_ 32 1#32),
    StableHlo.binary main_v3_2 main_while0b_c_37 main_while0b_v92 (addi : (⟨S_, .i32⟩ : BufTy).Contents (Elt F) → (⟨S_, .i32⟩ : BufTy).Contents (Elt F) → (⟨S_, .i32⟩ : BufTy).Contents (Elt F)),
    StableHlo.unary main_while0b_v92 main_v3_2 id,
    StableHlo.unary main_while0b_v91 main_v3_3 id ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7 ] : Prog (TpuEff nD τ sig (Elt F) (HostLoop.Sig (Pipeline.Sig Λ₀ (Fin 0) fun p => (pcfgs (F := F) p).Adm) 1) .tc) PUnit) := by
  rewrite [Pipeline.chain_cons, Pipeline.chain_cons, StableHlo.chain_seq_cons, Pipeline.chain_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_v1, main_v2, main_c, main_v3_0, main_v3_1, main_v3_2, main_v3_3]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_v0, main_while0b_v64]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call1_v0, main_while0b_v65]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v66, main_while0b_v67, main_while0b_v68]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_v0, main_while0b_call2_cst, main_while0b_call2_v1, main_while0b_v69]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call3_v0, main_while0b_call3_cst, main_while0b_call3_c, main_while0b_call3_v1_0, main_while0b_v70]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_cst_25, main_while0b_cst_26, main_while0b_v71, main_while0b_c_27, main_while0b_v72, main_while0b_c_28, main_while0b_v73, main_while0b_v74, main_while0b_c_29, main_while0b_c_30, main_while0b_v75, main_while0b_c_31, main_while0b_c_32, main_while0b_v76, main_while0b_c_33, main_while0b_v77, main_while0b_v78, main_while0b_v79, main_while0b_v80, main_while0b_v81, main_while0b_cst_34, main_while0b_v82, main_while0b_v83, main_while0b_v84, main_while0b_v85, main_while0b_c_35, main_while0b_v86, main_while0b_c_36, main_while0b_v87, main_while0b_v88, main_while0b_v89, main_while0b_v90]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_v91]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_c_37, main_while0b_v92, main_v3_2, main_v3_3]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_1` writes, in order. -/
abbrev hostOps0_1_W : List (Ref sig .tc) := [main_cst_0, main_v4, main_v5, main_v6, main_v7, main_v8, main_cst_1, main_v9, main_v10, main_v11, main_v12, main_cst_2, main_v13, main_cst_3, main_v14, main_v15, main_v16, main_cst_4, main_v17, main_v18, main_cst_5, main_v19, main_v20, main_v21, main_cst_6, main_v22, main_v23, main_v24, main_v25, main_v26, main_v27, main_v28, main_cst_7, main_v29, main_v30, main_v31, main_cst_8, main_v32, main_v33, main_v34, main_v35, main_values, main_indices, main_c_9, main_v36, main_v37, main_c_10, main_v38, main_v39, main_v40, main_v41, main_v42, main_cst_11, main_v43, main_cst_12, main_v44, main_v45, main_v46, main_v47, main_cst_13, main_v48, main_cst_14, main_v49, main_v50, main_v51, main_v52]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call5_v0, main_call5_cst, main_call5_v1, main_v53]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_cst_15, main_v54, main_v55, main_cst_16, main_v56, main_v57, main_cst_17, main_v58, main_cst_18, main_v59, main_cst_19]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call6_v0, main_v60]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_cst_20, main_v61, main_cst_21, main_v62, main_v63]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_25 (constantI S_ 32 2048#32),
    StableHlo.binary main_v3_2 main_while0c_c_25 main_while0c_v64 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7]
abbrev postI : List (List (HloOp τ sig (Elt F))) := [hostOps0_1, hostOps0_2, hostOps0_3, hostOps0_4, hostOps0_5]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.nil))))))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))))

/-- The reference each operation of `condOps` writes, in order. -/
abbrev condOps_W : List (Ref sig .tc) := [main_while0c_c_25, main_while0c_v64]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v3_2`) is written by one stretch of the body, `while0Ops0_7`: not by the condition, nor by the
    body's other stretches. -/
theorem ctr_cond (V : Valuation τ sig (Elt F)) : after condOps V (Proc.devRef .tc main_v3_2) = V (Proc.devRef .tc main_v3_2) :=
  after_of_writes_sub condOps V condOps_writes (by decide +kernel)
theorem ctr_while0Ops0 (V : Valuation τ sig (Elt F)) : after while0Ops0 V (Proc.devRef .tc main_v3_2) = V (Proc.devRef .tc main_v3_2) :=
  after_of_writes_sub while0Ops0 V while0Ops0_writes (by decide +kernel)
theorem ctr_while0Ops0_1 (V : Valuation τ sig (Elt F)) : after while0Ops0_1 V (Proc.devRef .tc main_v3_2) = V (Proc.devRef .tc main_v3_2) :=
  after_of_writes_sub while0Ops0_1 V while0Ops0_1_writes (by decide +kernel)
theorem ctr_while0Ops0_2 (V : Valuation τ sig (Elt F)) : after while0Ops0_2 V (Proc.devRef .tc main_v3_2) = V (Proc.devRef .tc main_v3_2) :=
  after_of_writes_sub while0Ops0_2 V while0Ops0_2_writes (by decide +kernel)
theorem ctr_while0Ops0_3 (V : Valuation τ sig (Elt F)) : after while0Ops0_3 V (Proc.devRef .tc main_v3_2) = V (Proc.devRef .tc main_v3_2) :=
  after_of_writes_sub while0Ops0_3 V while0Ops0_3_writes (by decide +kernel)
theorem ctr_while0Ops0_4 (V : Valuation τ sig (Elt F)) : after while0Ops0_4 V (Proc.devRef .tc main_v3_2) = V (Proc.devRef .tc main_v3_2) :=
  after_of_writes_sub while0Ops0_4 V while0Ops0_4_writes (by decide +kernel)
theorem ctr_while0Ops0_5 (V : Valuation τ sig (Elt F)) : after while0Ops0_5 V (Proc.devRef .tc main_v3_2) = V (Proc.devRef .tc main_v3_2) :=
  after_of_writes_sub while0Ops0_5 V while0Ops0_5_writes (by decide +kernel)
theorem ctr_while0Ops0_6 (V : Valuation τ sig (Elt F)) : after while0Ops0_6 V (Proc.devRef .tc main_v3_2) = V (Proc.devRef .tc main_v3_2) :=
  after_of_writes_sub while0Ops0_6 V while0Ops0_6_writes (by decide +kernel)

set_option maxRecDepth 100000 in
/-- `while0Ops0_7` leaves the counter one step on. -/
theorem ctr_step (X : Valuation τ sig (Elt F)) :
    after while0Ops0_7 X (Proc.devRef .tc main_v3_2) = addi (X (Proc.devRef .tc main_v3_2)) (constantI S_ 32 1#32) := by
  after_results
  rfl

/-- The counter is the loop's lower bound at the loop's entry: its last writer before the loop read back. -/
theorem ctr_entry (c : Dev nD) : entryContents preI m c (Proc.devRef .tc main_v3_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v3_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 2048 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_2 HostLoop.idx0)
        (HloOp.result _ (atK m k c) main_while0c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 2048 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 2048 m ρ (cond_spec m)

end Cert.ReferenceIdeal.Value

end
-- ==== Proof.RefRun.lean ====
/- One trip's values from any contents, and the run as one trip iterated. -/
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1656

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)
/-! ## One trip's values -/

/-- The body's operations 1 … 2 of 54. -/
abbrev trip_w0 : List (HloOp τ sig (Elt F)) :=
  [ StableHlo.TRef.nullary (.of main_while0b_call0_c : StableHlo.TRef sig ⟨S_, .i32⟩) (constantI S_ 32 0#32),
    StableHlo.TRef.unaryIndexed (.of main_v3_0 : StableHlo.TRef sig ⟨S2048x2048, .f32⟩) ![(.of main_v3_2 : StableHlo.TRef sig ⟨S_, .i32⟩), (.of main_while0b_call0_c : StableHlo.TRef sig ⟨S_, .i32⟩)] (.of main_while0b_call0_v0 : StableHlo.TRef sig ⟨S1x2048, .f32⟩) (fun x i => Host.dynamicSlice S1x2048 x (fun k => (i k (Shape.Idx.first h_S_)).toInt) sliceFits_S2048x2048_S1x2048) ]

/-- The body's operations 3 … 3 of 54. -/
abbrev trip_w1 : List (HloOp τ sig (Elt F)) :=
  [ StableHlo.TRef.reshape (.of main_while0b_call0_v0 : StableHlo.TRef sig ⟨S1x2048, .f32⟩) (.of main_while0b_v64 : StableHlo.TRef sig ⟨S2048, .f32⟩) (rfl : (.f32 : EltTy) = .f32) shapeCasts_S1x2048_S2048 ]

/-- The body's operations 4 … 4 of 54. -/
abbrev trip_w2 : List (HloOp τ sig (Elt F)) :=
  [ StableHlo.TRef.unaryIndexed (.of main_v3_1 : StableHlo.TRef sig ⟨S2048, .i1⟩) ![(.of main_v3_2 : StableHlo.TRef sig ⟨S_, .i32⟩)] (.of main_while0b_call1_v0 : StableHlo.TRef sig ⟨S1, .i1⟩) (fun x i => Host.dynamicSlice S1 x (fun k => (i k (Shape.Idx.first h_S_)).toInt) sliceFits_S2048_S1) ]

/-- The body's operations 5 … 5 of 54. -/
abbrev trip_w3 : List (HloOp τ sig (Elt F)) :=
  [ StableHlo.TRef.reshape (.of main_while0b_call1_v0 : StableHlo.TRef sig ⟨S1, .i1⟩) (.of main_while0b_v65 : StableHlo.TRef sig ⟨S_, .i1⟩) (rfl : (.i1 : EltTy) = .i1) shapeCasts_S1_S_ ]

/-- The body's operations 6 … 8 of 54. -/
abbrev trip_w4 : List (HloOp τ sig (Elt F)) :=
  [ StableHlo.unary main_while0b_v64 main_while0b_v66 (broadcastInDim S1x2048 ![1] bcast_S2048_S1x2048_1 : (⟨S2048, .f32⟩ : BufTy).Contents (Elt F) → (⟨S1x2048, .f32⟩ : BufTy).Contents (Elt F)),
    StableHlo.unary main_while0b_v66 main_while0b_v67 (broadcastInDim S1024x2048 ![0, 1] bcast_S1x2048_S1024x2048_0_1 : (⟨S1x2048, .f32⟩ : BufTy).Contents (Elt F) → (⟨S1024x2048, .f32⟩ : BufTy).Contents (Elt F)),
    StableHlo.binary main_v3_3 main_while0b_v67 main_while0b_v68 (subf : (⟨S1024x2048, .f32⟩ : BufTy).Contents (Elt F) → (⟨S1024x2048, .f32⟩ : BufTy).Contents (Elt F) → (⟨S1024x2048, .f32⟩ : BufTy).Contents (Elt F)) ]

/-- The body's operations 9 … 12 of 54. -/
abbrev trip_w5 : List (HloOp τ sig (Elt F)) :=
  [ StableHlo.TRef.binary (.of main_while0b_v68 : StableHlo.TRef sig ⟨S1024x2048, .f32⟩) (.of main_while0b_v68 : StableHlo.TRef sig ⟨S1024x2048, .f32⟩) (.of main_while0b_call2_v0 : StableHlo.TRef sig ⟨S1024x2048, .f32⟩) mulf,
    StableHlo.TRef.nullary (.of main_while0b_call2_cst : StableHlo.TRef sig ⟨S_, .f32⟩) (constant S_ .f32 0x00000000#32),
    StableHlo.TRef.binary (.of main_while0b_call2_v0 : StableHlo.TRef sig ⟨S1024x2048, .f32⟩) (.of main_while0b_call2_cst : StableHlo.TRef sig ⟨S_, .f32⟩) (.of main_while0b_call2_v1 : StableHlo.TRef sig ⟨S1024, .f32⟩) (fun x v => Host.reduceAdd x v reducesTo_S1024x2048_S1024_d1 h_S_),
    StableHlo.TRef.unary (.of main_while0b_call2_v1 : StableHlo.TRef sig ⟨S1024, .f32⟩) (.of main_while0b_v69 : StableHlo.TRef sig ⟨S1024, .f32⟩) Host.sqrt ]

/-- The body's operations 13 … 17 of 54. -/
abbrev trip_w6 : List (HloOp τ sig (Elt F)) :=
  [ StableHlo.TRef.nullary (.of main_while0b_call3_v0 : StableHlo.TRef sig ⟨S1024, .i32⟩) (iotaInDim S1024 32 0),
    StableHlo.TRef.nullary (.of main_while0b_call3_cst : StableHlo.TRef sig ⟨S_, .f32⟩) (constant S_ .f32 0x7F800000#32),
    StableHlo.TRef.nullary (.of main_while0b_call3_c : StableHlo.TRef sig ⟨S_, .i32⟩) (constantI S_ 32 0#32),
    StableHlo.TRef.quaternary (.of main_while0b_v69 : StableHlo.TRef sig ⟨S1024, .f32⟩) (.of main_while0b_call3_v0 : StableHlo.TRef sig ⟨S1024, .i32⟩) (.of main_while0b_call3_cst : StableHlo.TRef sig ⟨S_, .f32⟩) (.of main_while0b_call3_c : StableHlo.TRef sig ⟨S_, .i32⟩) (.of main_while0b_call3_v1_0 : StableHlo.TRef sig ⟨S_, .f32⟩) (fun x y u v j => (Host.argReduce reducer_argmin_f32_i32 x y u v reducesTo_S1024_S_d0 h_S_ j).1),
    StableHlo.TRef.quaternary (.of main_while0b_v69 : StableHlo.TRef sig ⟨S1024, .f32⟩) (.of main_while0b_call3_v0 : StableHlo.TRef sig ⟨S1024, .i32⟩) (.of main_while0b_call3_cst : StableHlo.TRef sig ⟨S_, .f32⟩) (.of main_while0b_call3_c : StableHlo.TRef sig ⟨S_, .i32⟩) (.of main_while0b_v70 : StableHlo.TRef sig ⟨S_, .i32⟩) (fun x y u v j => (Host.argReduce reducer_argmin_f32_i32 x y u v reducesTo_S1024_S_d0 h_S_ j).2) ]

/-- The body's operations 18 … 34 of 54. -/
abbrev trip_w7 : List (HloOp τ sig (Elt F)) :=
  [ StableHlo.nullary main_while0b_cst_25 (constant S_ .f32 0x41100000#32),
    StableHlo.nullary main_while0b_cst_26 (constant S_ .f32 0x41200000#32),
    StableHlo.binary main_while0b_cst_25 main_while0b_cst_26 main_while0b_v71 (Host.divf : (⟨S_, .f32⟩ : BufTy).Contents (Elt F) → (⟨S_, .f32⟩ : BufTy).Contents (Elt F) → (⟨S_, .f32⟩ : BufTy).Contents (Elt F)),
    StableHlo.nullary main_while0b_c_27 (constantI S_ 32 0#32),
    StableHlo.binary main_while0b_v70 main_while0b_c_27 main_while0b_v72 (cmpi .slt : (⟨S_, .i32⟩ : BufTy).Contents (Elt F) → (⟨S_, .i32⟩ : BufTy).Contents (Elt F) → (⟨S_, .i1⟩ : BufTy).Contents (Elt F)),
    StableHlo.nullary main_while0b_c_28 (constantI S_ 32 1024#32),
    StableHlo.binary main_while0b_v70 main_while0b_c_28 main_while0b_v73 (addi : (⟨S_, .i32⟩ : BufTy).Contents (Elt F) → (⟨S_, .i32⟩ : BufTy).Contents (Elt F) → (⟨S_, .i32⟩ : BufTy).Contents (Elt F)),
    StableHlo.ternary main_while0b_v72 main_while0b_v73 main_while0b_v70 main_while0b_v74 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_29 (constantI S_ 32 0#32),
    StableHlo.nullary main_while0b_c_30 (constantI S_ 32 0#32),
    StableHlo.binary main_while0b_c_29 main_while0b_c_30 main_while0b_v75 (cmpi .slt : (⟨S_, .i32⟩ : BufTy).Contents (Elt F) → (⟨S_, .i32⟩ : BufTy).Contents (Elt F) → (⟨S_, .i1⟩ : BufTy).Contents (Elt F)),
    StableHlo.nullary main_while0b_c_31 (constantI S_ 32 0#32),
    StableHlo.nullary main_while0b_c_32 (constantI S_ 32 2048#32),
    StableHlo.binary main_while0b_c_31 main_while0b_c_32 main_while0b_v76 (addi : (⟨S_, .i32⟩ : BufTy).Contents (Elt F) → (⟨S_, .i32⟩ : BufTy).Contents (Elt F) → (⟨S_, .i32⟩ : BufTy).Contents (Elt F)),
    StableHlo.nullary main_while0b_c_33 (constantI S_ 32 0#32),
    StableHlo.ternary main_while0b_v75 main_while0b_v76 main_while0b_c_33 main_while0b_v77 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v3_3 ![main_while0b_v74, main_while0b_v77] ⟨S_, .i32⟩ main_while0b_v78 ((fun x i => Host.dynamicSlice S1x2048 x (fun k => (i k (Shape.Idx.first h_S_)).toInt) sliceFits_S1024x2048_S1x2048) : (⟨S1024x2048, .f32⟩ : BufTy).Contents (Elt F) → (Fin 2 → (⟨S_, .i32⟩ : BufTy).Contents (Elt F)) → (⟨S1x2048, .f32⟩ : BufTy).Contents (Elt F)) ]

/-- The body's operations 35 … 49 of 54. -/
abbrev trip_w8 : List (HloOp τ sig (Elt F)) :=
  [ StableHlo.reshape main_while0b_v78 main_while0b_v79 (rfl : (.f32 : EltTy) = .f32) shapeCasts_S1x2048_S2048,
    StableHlo.unary main_while0b_v71 main_while0b_v80 (broadcastInDim S2048 ![] bcast_S_S2048 : (⟨S_, .f32⟩ : BufTy).Contents (Elt F) → (⟨S2048, .f32⟩ : BufTy).Contents (Elt F)),
    StableHlo.binary main_while0b_v80 main_while0b_v79 main_while0b_v81 (mulf : (⟨S2048, .f32⟩ : BufTy).Contents (Elt F) → (⟨S2048, .f32⟩ : BufTy).Contents (Elt F) → (⟨S2048, .f32⟩ : BufTy).Contents (Elt F)),
    StableHlo.nullary main_while0b_cst_34 (constant S_ .f32 0x3F800000#32),
    StableHlo.binary main_while0b_cst_34 main_while0b_v71 main_while0b_v82 (subf : (⟨S_, .f32⟩ : BufTy).Contents (Elt F) → (⟨S_, .f32⟩ : BufTy).Contents (Elt F) → (⟨S_, .f32⟩ : BufTy).Contents (Elt F)),
    StableHlo.unary main_while0b_v82 main_while0b_v83 (broadcastInDim S2048 ![] bcast_S_S2048 : (⟨S_, .f32⟩ : BufTy).Contents (Elt F) → (⟨S2048, .f32⟩ : BufTy).Contents (Elt F)),
    StableHlo.binary main_while0b_v83 main_while0b_v64 main_while0b_v84 (mulf : (⟨S2048, .f32⟩ : BufTy).Contents (Elt F) → (⟨S2048, .f32⟩ : BufTy).Contents (Elt F) → (⟨S2048, .f32⟩ : BufTy).Contents (Elt F)),
    StableHlo.binary main_while0b_v81 main_while0b_v84 main_while0b_v85 (addf : (⟨S2048, .f32⟩ : BufTy).Contents (Elt F) → (⟨S2048, .f32⟩ : BufTy).Contents (Elt F) → (⟨S2048, .f32⟩ : BufTy).Contents (Elt F)),
    StableHlo.nullary main_while0b_c_35 (constantI S_ 32 0#32),
    StableHlo.binary main_while0b_v70 main_while0b_c_35 main_while0b_v86 (cmpi .slt : (⟨S_, .i32⟩ : BufTy).Contents (Elt F) → (⟨S_, .i32⟩ : BufTy).Contents (Elt F) → (⟨S_, .i1⟩ : BufTy).Contents (Elt F)),
    StableHlo.nullary main_while0b_c_36 (constantI S_ 32 1024#32),
    StableHlo.binary main_while0b_v70 main_while0b_c_36 main_while0b_v87 (addi : (⟨S_, .i32⟩ : BufTy).Contents (Elt F) → (⟨S_, .i32⟩ : BufTy).Contents (Elt F) → (⟨S_, .i32⟩ : BufTy).Contents (Elt F)),
    StableHlo.ternary main_while0b_v86 main_while0b_v87 main_while0b_v70 main_while0b_v88 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v88 main_while0b_v89 (broadcastInDim S1 ![] bcast_S_S1 : (⟨S_, .i32⟩ : BufTy).Contents (Elt F) → (⟨S1, .i32⟩ : BufTy).Contents (Elt F)),
    StableHlo.ternary main_v3_3 main_while0b_v89 main_while0b_v85 main_while0b_v90 ((fun x i u => Host.scatter scatter_S1024x2048_S1_S2048_0_0_0_0 (fun _ b => b) x i u) : (⟨S1024x2048, .f32⟩ : BufTy).Contents (Elt F) → (⟨S1, .i32⟩ : BufTy).Contents (Elt F) → (⟨S2048, .f32⟩ : BufTy).Contents (Elt F) → (⟨S1024x2048, .f32⟩ : BufTy).Contents (Elt F)) ]

/-- The body's operations 50 … 50 of 54. -/
abbrev trip_w9 : List (HloOp τ sig (Elt F)) :=
  [ StableHlo.TRef.ternary (.of main_while0b_v65 : StableHlo.TRef sig ⟨S_, .i1⟩) (.of main_while0b_v90 : StableHlo.TRef sig ⟨S1024x2048, .f32⟩) (.of main_v3_3 : StableHlo.TRef sig ⟨S1024x2048, .f32⟩) (.of main_while0b_v91 : StableHlo.TRef sig ⟨S1024x2048, .f32⟩) (fun p a b => select (broadcastInDim S1024x2048 ![] bcast_S_S1024x2048 p) a b) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 := rfl
set_option maxRecDepth 5000 in
/-- `while0Ops0_5` is its windows in order. -/
theorem while0Ops0_5_cut : (while0Ops0_5 : List (HloOp τ sig (Elt F))) = trip_w7 ++ (trip_w8) := rfl
set_option maxRecDepth 5000 in
/-- `while0Ops0_6` is its windows in order. -/
theorem while0Ops0_6_cut : (while0Ops0_6 : List (HloOp τ sig (Elt F))) = trip_w9 := rfl

set_option maxRecDepth 8192 in
/-- `main_while0b_v64`'s composed term of the carried buffers (named: it is used 2 times). -/
def res_main_while0b_v64 (V0 : Valuation τ sig (Elt F)) : (Proc.devRef .tc main_while0b_v64 : DevRef τ sig).ty.Contents (Elt F) :=
  shapeCast S2048 (Host.dynamicSlice S1x2048 (V0 (Proc.devRef .tc main_v3_0)) (fun k => (((![V0 (Proc.devRef .tc main_v3_2), constantI S_ 32 0#32] : Fin 2 → (⟨S_, .i32⟩ : BufTy).Contents (Elt F))) k (Shape.Idx.first h_S_)).toInt) sliceFits_S2048x2048_S1x2048) shapeCasts_S1x2048_S2048

set_option maxRecDepth 8192 in
/-- `main_while0b_v68`'s composed term of the carried buffers (named: it is used 2 times). -/
def res_main_while0b_v68 (V0 : Valuation τ sig (Elt F)) : (Proc.devRef .tc main_while0b_v68 : DevRef τ sig).ty.Contents (Elt F) :=
  subf (V0 (Proc.devRef .tc main_v3_3)) (broadcastInDim S1024x2048 ![0, 1] bcast_S1x2048_S1024x2048_0_1 (broadcastInDim S1x2048 ![1] bcast_S2048_S1x2048_1 (res_main_while0b_v64 V0)))

set_option maxRecDepth 8192 in
/-- `main_while0b_v69`'s composed term of the carried buffers (named: it is used 2 times). -/
def res_main_while0b_v69 (V0 : Valuation τ sig (Elt F)) : (Proc.devRef .tc main_while0b_v69 : DevRef τ sig).ty.Contents (Elt F) :=
  Host.sqrt (Host.reduceAdd (mulf (res_main_while0b_v68 V0) (res_main_while0b_v68 V0)) (constant S_ .f32 0x00000000#32) reducesTo_S1024x2048_S1024_d1 h_S_)

set_option maxRecDepth 8192 in
/-- `main_while0b_call3_v0`'s composed term of the carried buffers (named: it is used 2 times). -/
def res_main_while0b_call3_v0 (V0 : Valuation τ sig (Elt F)) : (Proc.devRef .tc main_while0b_call3_v0 : DevRef τ sig).ty.Contents (Elt F) :=
  iotaInDim S1024 32 0

set_option maxRecDepth 8192 in
/-- `main_while0b_call3_cst`'s composed term of the carried buffers (named: it is used 2 times). -/
def res_main_while0b_call3_cst (V0 : Valuation τ sig (Elt F)) : (Proc.devRef .tc main_while0b_call3_cst : DevRef τ sig).ty.Contents (Elt F) :=
  constant S_ .f32 0x7F800000#32

set_option maxRecDepth 8192 in
/-- `main_while0b_call3_c`'s composed term of the carried buffers (named: it is used 2 times). -/
def res_main_while0b_call3_c (V0 : Valuation τ sig (Elt F)) : (Proc.devRef .tc main_while0b_call3_c : DevRef τ sig).ty.Contents (Elt F) :=
  constantI S_ 32 0#32

set_option maxRecDepth 8192 in
/-- `main_while0b_v70`'s composed term of the carried buffers (named: it is used 6 times). -/
def res_main_while0b_v70 (V0 : Valuation τ sig (Elt F)) : (Proc.devRef .tc main_while0b_v70 : DevRef τ sig).ty.Contents (Elt F) :=
  (fun jj => (Host.argReduce reducer_argmin_f32_i32 (res_main_while0b_v69 V0) (res_main_while0b_call3_v0 V0) (res_main_while0b_call3_cst V0) (res_main_while0b_call3_c V0) reducesTo_S1024_S_d0 h_S_ jj).2)

set_option maxRecDepth 8192 in
/-- `main_while0b_v71`'s composed term of the carried buffers (named: it is used 2 times). -/
def res_main_while0b_v71 (V0 : Valuation τ sig (Elt F)) : (Proc.devRef .tc main_while0b_v71 : DevRef τ sig).ty.Contents (Elt F) :=
  Host.divf (constant S_ .f32 0x41100000#32) (constant S_ .f32 0x41200000#32)

/-- The device's buffer contents before the body's first window. -/
def val0 (V0 : Valuation τ sig (Elt F)) : Valuation τ sig (Elt F) := V0
theorem val0_main_v3_0 (V0 : Valuation τ sig (Elt F)) : val0 V0 (no_index (Proc.devRef .tc main_v3_0)) = V0 (Proc.devRef .tc main_v3_0) := rfl
theorem val0_main_v3_2 (V0 : Valuation τ sig (Elt F)) : val0 V0 (no_index (Proc.devRef .tc main_v3_2)) = V0 (Proc.devRef .tc main_v3_2) := rfl
theorem val0_main_v3_1 (V0 : Valuation τ sig (Elt F)) : val0 V0 (no_index (Proc.devRef .tc main_v3_1)) = V0 (Proc.devRef .tc main_v3_1) := rfl
theorem val0_main_v3_3 (V0 : Valuation τ sig (Elt F)) : val0 V0 (no_index (Proc.devRef .tc main_v3_3)) = V0 (Proc.devRef .tc main_v3_3) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call0_c, main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v3_0 (V0 : Valuation τ sig (Elt F)) : val1 V0 (no_index (Proc.devRef .tc main_v3_0)) = V0 (Proc.devRef .tc main_v3_0) :=
  (val1_keep V0 main_v3_0 (by decide)).trans (val0_main_v3_0 V0)
theorem val1_main_v3_2 (V0 : Valuation τ sig (Elt F)) : val1 V0 (no_index (Proc.devRef .tc main_v3_2)) = V0 (Proc.devRef .tc main_v3_2) :=
  (val1_keep V0 main_v3_2 (by decide)).trans (val0_main_v3_2 V0)
theorem val1_main_v3_1 (V0 : Valuation τ sig (Elt F)) : val1 V0 (no_index (Proc.devRef .tc main_v3_1)) = V0 (Proc.devRef .tc main_v3_1) :=
  (val1_keep V0 main_v3_1 (by decide)).trans (val0_main_v3_1 V0)
theorem val1_main_v3_3 (V0 : Valuation τ sig (Elt F)) : val1 V0 (no_index (Proc.devRef .tc main_v3_3)) = V0 (Proc.devRef .tc main_v3_3) :=
  (val1_keep V0 main_v3_3 (by decide)).trans (val0_main_v3_3 V0)
set_option maxRecDepth 8192 in
theorem val1_main_while0b_call0_v0 (V0 : Valuation τ sig (Elt F)) : val1 V0 (no_index (Proc.devRef .tc main_while0b_call0_v0)) = Host.dynamicSlice S1x2048 (V0 (Proc.devRef .tc main_v3_0)) (fun k => (((![V0 (Proc.devRef .tc main_v3_2), constantI S_ 32 0#32] : Fin 2 → (⟨S_, .i32⟩ : BufTy).Contents (Elt F))) k (Shape.Idx.first h_S_)).toInt) sliceFits_S2048x2048_S1x2048 := by
  unfold val1
  simp only [trip_w0]
  after_results_entrywise [val0_main_v3_2, val0_main_v3_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v64]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v3_0 (V0 : Valuation τ sig (Elt F)) : val2 V0 (no_index (Proc.devRef .tc main_v3_0)) = V0 (Proc.devRef .tc main_v3_0) :=
  (val2_keep V0 main_v3_0 (by decide)).trans (val1_main_v3_0 V0)
theorem val2_main_v3_2 (V0 : Valuation τ sig (Elt F)) : val2 V0 (no_index (Proc.devRef .tc main_v3_2)) = V0 (Proc.devRef .tc main_v3_2) :=
  (val2_keep V0 main_v3_2 (by decide)).trans (val1_main_v3_2 V0)
theorem val2_main_v3_1 (V0 : Valuation τ sig (Elt F)) : val2 V0 (no_index (Proc.devRef .tc main_v3_1)) = V0 (Proc.devRef .tc main_v3_1) :=
  (val2_keep V0 main_v3_1 (by decide)).trans (val1_main_v3_1 V0)
theorem val2_main_v3_3 (V0 : Valuation τ sig (Elt F)) : val2 V0 (no_index (Proc.devRef .tc main_v3_3)) = V0 (Proc.devRef .tc main_v3_3) :=
  (val2_keep V0 main_v3_3 (by decide)).trans (val1_main_v3_3 V0)
set_option maxRecDepth 8192 in
theorem val2_main_while0b_v64 (V0 : Valuation τ sig (Elt F)) : val2 V0 (no_index (Proc.devRef .tc main_while0b_v64)) = res_main_while0b_v64 V0 := by
  unfold val2
  simp only [trip_w1]
  after_results_entrywise [val1_main_while0b_call0_v0, res_main_while0b_v64, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call1_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v3_0 (V0 : Valuation τ sig (Elt F)) : val3 V0 (no_index (Proc.devRef .tc main_v3_0)) = V0 (Proc.devRef .tc main_v3_0) :=
  (val3_keep V0 main_v3_0 (by decide)).trans (val2_main_v3_0 V0)
theorem val3_main_v3_2 (V0 : Valuation τ sig (Elt F)) : val3 V0 (no_index (Proc.devRef .tc main_v3_2)) = V0 (Proc.devRef .tc main_v3_2) :=
  (val3_keep V0 main_v3_2 (by decide)).trans (val2_main_v3_2 V0)
theorem val3_main_v3_1 (V0 : Valuation τ sig (Elt F)) : val3 V0 (no_index (Proc.devRef .tc main_v3_1)) = V0 (Proc.devRef .tc main_v3_1) :=
  (val3_keep V0 main_v3_1 (by decide)).trans (val2_main_v3_1 V0)
theorem val3_main_v3_3 (V0 : Valuation τ sig (Elt F)) : val3 V0 (no_index (Proc.devRef .tc main_v3_3)) = V0 (Proc.devRef .tc main_v3_3) :=
  (val3_keep V0 main_v3_3 (by decide)).trans (val2_main_v3_3 V0)
theorem val3_main_while0b_v64 (V0 : Valuation τ sig (Elt F)) : val3 V0 (no_index (Proc.devRef .tc main_while0b_v64)) = res_main_while0b_v64 V0 :=
  (val3_keep V0 main_while0b_v64 (by decide)).trans (val2_main_while0b_v64 V0)
set_option maxRecDepth 8192 in
theorem val3_main_while0b_call1_v0 (V0 : Valuation τ sig (Elt F)) : val3 V0 (no_index (Proc.devRef .tc main_while0b_call1_v0)) = Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1 := by
  unfold val3
  simp only [trip_w2]
  after_results_entrywise [val2_main_v3_2, val2_main_v3_1, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v65]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v3_0 (V0 : Valuation τ sig (Elt F)) : val4 V0 (no_index (Proc.devRef .tc main_v3_0)) = V0 (Proc.devRef .tc main_v3_0) :=
  (val4_keep V0 main_v3_0 (by decide)).trans (val3_main_v3_0 V0)
theorem val4_main_v3_2 (V0 : Valuation τ sig (Elt F)) : val4 V0 (no_index (Proc.devRef .tc main_v3_2)) = V0 (Proc.devRef .tc main_v3_2) :=
  (val4_keep V0 main_v3_2 (by decide)).trans (val3_main_v3_2 V0)
theorem val4_main_v3_1 (V0 : Valuation τ sig (Elt F)) : val4 V0 (no_index (Proc.devRef .tc main_v3_1)) = V0 (Proc.devRef .tc main_v3_1) :=
  (val4_keep V0 main_v3_1 (by decide)).trans (val3_main_v3_1 V0)
theorem val4_main_v3_3 (V0 : Valuation τ sig (Elt F)) : val4 V0 (no_index (Proc.devRef .tc main_v3_3)) = V0 (Proc.devRef .tc main_v3_3) :=
  (val4_keep V0 main_v3_3 (by decide)).trans (val3_main_v3_3 V0)
theorem val4_main_while0b_v64 (V0 : Valuation τ sig (Elt F)) : val4 V0 (no_index (Proc.devRef .tc main_while0b_v64)) = res_main_while0b_v64 V0 :=
  (val4_keep V0 main_while0b_v64 (by decide)).trans (val3_main_while0b_v64 V0)
set_option maxRecDepth 8192 in
theorem val4_main_while0b_v65 (V0 : Valuation τ sig (Elt F)) : val4 V0 (no_index (Proc.devRef .tc main_while0b_v65)) = shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_ := by
  unfold val4
  simp only [trip_w3]
  after_results_entrywise [val3_main_while0b_call1_v0, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v66, main_while0b_v67, main_while0b_v68]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v3_0 (V0 : Valuation τ sig (Elt F)) : val5 V0 (no_index (Proc.devRef .tc main_v3_0)) = V0 (Proc.devRef .tc main_v3_0) :=
  (val5_keep V0 main_v3_0 (by decide)).trans (val4_main_v3_0 V0)
theorem val5_main_v3_2 (V0 : Valuation τ sig (Elt F)) : val5 V0 (no_index (Proc.devRef .tc main_v3_2)) = V0 (Proc.devRef .tc main_v3_2) :=
  (val5_keep V0 main_v3_2 (by decide)).trans (val4_main_v3_2 V0)
theorem val5_main_v3_1 (V0 : Valuation τ sig (Elt F)) : val5 V0 (no_index (Proc.devRef .tc main_v3_1)) = V0 (Proc.devRef .tc main_v3_1) :=
  (val5_keep V0 main_v3_1 (by decide)).trans (val4_main_v3_1 V0)
theorem val5_main_v3_3 (V0 : Valuation τ sig (Elt F)) : val5 V0 (no_index (Proc.devRef .tc main_v3_3)) = V0 (Proc.devRef .tc main_v3_3) :=
  (val5_keep V0 main_v3_3 (by decide)).trans (val4_main_v3_3 V0)
theorem val5_main_while0b_v64 (V0 : Valuation τ sig (Elt F)) : val5 V0 (no_index (Proc.devRef .tc main_while0b_v64)) = res_main_while0b_v64 V0 :=
  (val5_keep V0 main_while0b_v64 (by decide)).trans (val4_main_while0b_v64 V0)
theorem val5_main_while0b_v65 (V0 : Valuation τ sig (Elt F)) : val5 V0 (no_index (Proc.devRef .tc main_while0b_v65)) = shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_ :=
  (val5_keep V0 main_while0b_v65 (by decide)).trans (val4_main_while0b_v65 V0)
set_option maxRecDepth 8192 in
theorem val5_main_while0b_v68 (V0 : Valuation τ sig (Elt F)) : val5 V0 (no_index (Proc.devRef .tc main_while0b_v68)) = res_main_while0b_v68 V0 := by
  unfold val5
  simp only [trip_w4]
  after_results_entrywise [val4_main_while0b_v64, val4_main_v3_3, res_main_while0b_v68, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call2_v0, main_while0b_call2_cst, main_while0b_call2_v1, main_while0b_v69]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v3_0 (V0 : Valuation τ sig (Elt F)) : val6 V0 (no_index (Proc.devRef .tc main_v3_0)) = V0 (Proc.devRef .tc main_v3_0) :=
  (val6_keep V0 main_v3_0 (by decide)).trans (val5_main_v3_0 V0)
theorem val6_main_v3_2 (V0 : Valuation τ sig (Elt F)) : val6 V0 (no_index (Proc.devRef .tc main_v3_2)) = V0 (Proc.devRef .tc main_v3_2) :=
  (val6_keep V0 main_v3_2 (by decide)).trans (val5_main_v3_2 V0)
theorem val6_main_v3_1 (V0 : Valuation τ sig (Elt F)) : val6 V0 (no_index (Proc.devRef .tc main_v3_1)) = V0 (Proc.devRef .tc main_v3_1) :=
  (val6_keep V0 main_v3_1 (by decide)).trans (val5_main_v3_1 V0)
theorem val6_main_v3_3 (V0 : Valuation τ sig (Elt F)) : val6 V0 (no_index (Proc.devRef .tc main_v3_3)) = V0 (Proc.devRef .tc main_v3_3) :=
  (val6_keep V0 main_v3_3 (by decide)).trans (val5_main_v3_3 V0)
theorem val6_main_while0b_v64 (V0 : Valuation τ sig (Elt F)) : val6 V0 (no_index (Proc.devRef .tc main_while0b_v64)) = res_main_while0b_v64 V0 :=
  (val6_keep V0 main_while0b_v64 (by decide)).trans (val5_main_while0b_v64 V0)
theorem val6_main_while0b_v65 (V0 : Valuation τ sig (Elt F)) : val6 V0 (no_index (Proc.devRef .tc main_while0b_v65)) = shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_ :=
  (val6_keep V0 main_while0b_v65 (by decide)).trans (val5_main_while0b_v65 V0)
set_option maxRecDepth 8192 in
theorem val6_main_while0b_v69 (V0 : Valuation τ sig (Elt F)) : val6 V0 (no_index (Proc.devRef .tc main_while0b_v69)) = res_main_while0b_v69 V0 := by
  unfold val6
  simp only [trip_w5]
  after_results_entrywise [val5_main_while0b_v68, res_main_while0b_v69, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call3_v0, main_while0b_call3_cst, main_while0b_call3_c, main_while0b_call3_v1_0, main_while0b_v70]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v3_0 (V0 : Valuation τ sig (Elt F)) : val7 V0 (no_index (Proc.devRef .tc main_v3_0)) = V0 (Proc.devRef .tc main_v3_0) :=
  (val7_keep V0 main_v3_0 (by decide)).trans (val6_main_v3_0 V0)
theorem val7_main_v3_2 (V0 : Valuation τ sig (Elt F)) : val7 V0 (no_index (Proc.devRef .tc main_v3_2)) = V0 (Proc.devRef .tc main_v3_2) :=
  (val7_keep V0 main_v3_2 (by decide)).trans (val6_main_v3_2 V0)
theorem val7_main_v3_1 (V0 : Valuation τ sig (Elt F)) : val7 V0 (no_index (Proc.devRef .tc main_v3_1)) = V0 (Proc.devRef .tc main_v3_1) :=
  (val7_keep V0 main_v3_1 (by decide)).trans (val6_main_v3_1 V0)
theorem val7_main_v3_3 (V0 : Valuation τ sig (Elt F)) : val7 V0 (no_index (Proc.devRef .tc main_v3_3)) = V0 (Proc.devRef .tc main_v3_3) :=
  (val7_keep V0 main_v3_3 (by decide)).trans (val6_main_v3_3 V0)
theorem val7_main_while0b_v64 (V0 : Valuation τ sig (Elt F)) : val7 V0 (no_index (Proc.devRef .tc main_while0b_v64)) = res_main_while0b_v64 V0 :=
  (val7_keep V0 main_while0b_v64 (by decide)).trans (val6_main_while0b_v64 V0)
theorem val7_main_while0b_v65 (V0 : Valuation τ sig (Elt F)) : val7 V0 (no_index (Proc.devRef .tc main_while0b_v65)) = shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_ :=
  (val7_keep V0 main_while0b_v65 (by decide)).trans (val6_main_while0b_v65 V0)
set_option maxRecDepth 8192 in
theorem val7_main_while0b_v70 (V0 : Valuation τ sig (Elt F)) : val7 V0 (no_index (Proc.devRef .tc main_while0b_v70)) = res_main_while0b_v70 V0 := by
  unfold val7
  simp only [trip_w6]
  after_results_entrywise [val6_main_while0b_v69, res_main_while0b_call3_v0, res_main_while0b_call3_cst, res_main_while0b_call3_c, res_main_while0b_v70, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_cst_25, main_while0b_cst_26, main_while0b_v71, main_while0b_c_27, main_while0b_v72, main_while0b_c_28, main_while0b_v73, main_while0b_v74, main_while0b_c_29, main_while0b_c_30, main_while0b_v75, main_while0b_c_31, main_while0b_c_32, main_while0b_v76, main_while0b_c_33, main_while0b_v77, main_while0b_v78]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v3_0 (V0 : Valuation τ sig (Elt F)) : val8 V0 (no_index (Proc.devRef .tc main_v3_0)) = V0 (Proc.devRef .tc main_v3_0) :=
  (val8_keep V0 main_v3_0 (by decide)).trans (val7_main_v3_0 V0)
theorem val8_main_v3_2 (V0 : Valuation τ sig (Elt F)) : val8 V0 (no_index (Proc.devRef .tc main_v3_2)) = V0 (Proc.devRef .tc main_v3_2) :=
  (val8_keep V0 main_v3_2 (by decide)).trans (val7_main_v3_2 V0)
theorem val8_main_v3_1 (V0 : Valuation τ sig (Elt F)) : val8 V0 (no_index (Proc.devRef .tc main_v3_1)) = V0 (Proc.devRef .tc main_v3_1) :=
  (val8_keep V0 main_v3_1 (by decide)).trans (val7_main_v3_1 V0)
theorem val8_main_v3_3 (V0 : Valuation τ sig (Elt F)) : val8 V0 (no_index (Proc.devRef .tc main_v3_3)) = V0 (Proc.devRef .tc main_v3_3) :=
  (val8_keep V0 main_v3_3 (by decide)).trans (val7_main_v3_3 V0)
theorem val8_main_while0b_v64 (V0 : Valuation τ sig (Elt F)) : val8 V0 (no_index (Proc.devRef .tc main_while0b_v64)) = res_main_while0b_v64 V0 :=
  (val8_keep V0 main_while0b_v64 (by decide)).trans (val7_main_while0b_v64 V0)
theorem val8_main_while0b_v65 (V0 : Valuation τ sig (Elt F)) : val8 V0 (no_index (Proc.devRef .tc main_while0b_v65)) = shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_ :=
  (val8_keep V0 main_while0b_v65 (by decide)).trans (val7_main_while0b_v65 V0)
theorem val8_main_while0b_v70 (V0 : Valuation τ sig (Elt F)) : val8 V0 (no_index (Proc.devRef .tc main_while0b_v70)) = res_main_while0b_v70 V0 :=
  (val8_keep V0 main_while0b_v70 (by decide)).trans (val7_main_while0b_v70 V0)
set_option maxRecDepth 8192 in
set_option maxHeartbeats 1700000 in
theorem val8_main_while0b_v71 (V0 : Valuation τ sig (Elt F)) : val8 V0 (no_index (Proc.devRef .tc main_while0b_v71)) = res_main_while0b_v71 V0 := by
  unfold val8
  simp only [trip_w7]
  after_results_entrywise [res_main_while0b_v71, cast_eq]
set_option maxRecDepth 8192 in
set_option maxHeartbeats 1700000 in
theorem val8_main_while0b_v78 (V0 : Valuation τ sig (Elt F)) : val8 V0 (no_index (Proc.devRef .tc main_while0b_v78)) = Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048 := by
  unfold val8
  simp only [trip_w7]
  after_results_entrywise [val7_main_while0b_v70, val7_main_v3_3, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_v79, main_while0b_v80, main_while0b_v81, main_while0b_cst_34, main_while0b_v82, main_while0b_v83, main_while0b_v84, main_while0b_v85, main_while0b_c_35, main_while0b_v86, main_while0b_c_36, main_while0b_v87, main_while0b_v88, main_while0b_v89, main_while0b_v90]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v3_0 (V0 : Valuation τ sig (Elt F)) : val9 V0 (no_index (Proc.devRef .tc main_v3_0)) = V0 (Proc.devRef .tc main_v3_0) :=
  (val9_keep V0 main_v3_0 (by decide)).trans (val8_main_v3_0 V0)
theorem val9_main_v3_2 (V0 : Valuation τ sig (Elt F)) : val9 V0 (no_index (Proc.devRef .tc main_v3_2)) = V0 (Proc.devRef .tc main_v3_2) :=
  (val9_keep V0 main_v3_2 (by decide)).trans (val8_main_v3_2 V0)
theorem val9_main_v3_1 (V0 : Valuation τ sig (Elt F)) : val9 V0 (no_index (Proc.devRef .tc main_v3_1)) = V0 (Proc.devRef .tc main_v3_1) :=
  (val9_keep V0 main_v3_1 (by decide)).trans (val8_main_v3_1 V0)
theorem val9_main_v3_3 (V0 : Valuation τ sig (Elt F)) : val9 V0 (no_index (Proc.devRef .tc main_v3_3)) = V0 (Proc.devRef .tc main_v3_3) :=
  (val9_keep V0 main_v3_3 (by decide)).trans (val8_main_v3_3 V0)
theorem val9_main_while0b_v65 (V0 : Valuation τ sig (Elt F)) : val9 V0 (no_index (Proc.devRef .tc main_while0b_v65)) = shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_ :=
  (val9_keep V0 main_while0b_v65 (by decide)).trans (val8_main_while0b_v65 V0)
set_option maxRecDepth 8192 in
set_option maxHeartbeats 1500000 in
theorem val9_main_while0b_v90 (V0 : Valuation τ sig (Elt F)) : val9 V0 (no_index (Proc.devRef .tc main_while0b_v90)) = Host.scatter scatter_S1024x2048_S1_S2048_0_0_0_0 (fun _ b => b) (V0 (Proc.devRef .tc main_v3_3)) (broadcastInDim S1 ![] bcast_S_S1 (select (cmpi .slt (res_main_while0b_v70 V0) (constantI S_ 32 0#32)) (addi (res_main_while0b_v70 V0) (constantI S_ 32 1024#32)) (res_main_while0b_v70 V0))) (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0))) := by
  unfold val9
  simp only [trip_w8]
  after_results_entrywise [val8_main_while0b_v64, val8_main_while0b_v71, val8_main_while0b_v78, val8_main_while0b_v70, val8_main_v3_3, cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_v91]
set_option maxRecDepth 8192 in
theorem trip_w9_writes : (trip_w9 : List (HloOp τ sig (Elt F))).Forall fun op => op.writes ⊆ (trip_w9_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v3_0 (V0 : Valuation τ sig (Elt F)) : val10 V0 (no_index (Proc.devRef .tc main_v3_0)) = V0 (Proc.devRef .tc main_v3_0) :=
  (val10_keep V0 main_v3_0 (by decide)).trans (val9_main_v3_0 V0)
theorem val10_main_v3_2 (V0 : Valuation τ sig (Elt F)) : val10 V0 (no_index (Proc.devRef .tc main_v3_2)) = V0 (Proc.devRef .tc main_v3_2) :=
  (val10_keep V0 main_v3_2 (by decide)).trans (val9_main_v3_2 V0)
theorem val10_main_v3_1 (V0 : Valuation τ sig (Elt F)) : val10 V0 (no_index (Proc.devRef .tc main_v3_1)) = V0 (Proc.devRef .tc main_v3_1) :=
  (val10_keep V0 main_v3_1 (by decide)).trans (val9_main_v3_1 V0)
theorem val10_main_v3_3 (V0 : Valuation τ sig (Elt F)) : val10 V0 (no_index (Proc.devRef .tc main_v3_3)) = V0 (Proc.devRef .tc main_v3_3) :=
  (val10_keep V0 main_v3_3 (by decide)).trans (val9_main_v3_3 V0)
set_option maxRecDepth 8192 in
theorem val10_main_while0b_v91 (V0 : Valuation τ sig (Elt F)) : val10 V0 (no_index (Proc.devRef .tc main_while0b_v91)) = select (broadcastInDim S1024x2048 ![] bcast_S_S1024x2048 (shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_)) (Host.scatter scatter_S1024x2048_S1_S2048_0_0_0_0 (fun _ b => b) (V0 (Proc.devRef .tc main_v3_3)) (broadcastInDim S1 ![] bcast_S_S1 (select (cmpi .slt (res_main_while0b_v70 V0) (constantI S_ 32 0#32)) (addi (res_main_while0b_v70 V0) (constantI S_ 32 1024#32)) (res_main_while0b_v70 V0))) (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0)))) (V0 (Proc.devRef .tc main_v3_3)) := by
  unfold val10
  simp only [trip_w9]
  after_results_entrywise [val9_main_v3_3, val9_main_while0b_v90, val9_main_while0b_v65, cast_eq]

set_option maxRecDepth 8192 in
/-- The body's stretches before `while0Ops0_7`, from any contents: their windows in order. -/
theorem trip_windows (V0 : Valuation τ sig (Elt F)) : after while0Ops0_6 (after while0Ops0_5 (after while0Ops0_4 (after while0Ops0_3 (after while0Ops0_2 (after while0Ops0_1 (after while0Ops0 (V0))))))) = val10 V0 := by
  simp only [while0Ops0_cut, while0Ops0_1_cut, while0Ops0_2_cut, while0Ops0_3_cut, while0Ops0_4_cut, while0Ops0_5_cut, while0Ops0_6_cut, after_append]
  rfl

set_option maxRecDepth 8192 in
set_option maxHeartbeats 2000000 in
/-- `main_v3_0` after one trip's body, from any contents. -/
theorem trip_main_v3_0 (V0 : Valuation τ sig (Elt F)) : afterL bodyI V0 (no_index (Proc.devRef .tc main_v3_0)) = V0 (Proc.devRef .tc main_v3_0) := by
  simp only [bodyI, afterL_cons, afterL_nil, trip_windows]
  after_results
  all_goals (try simp only [val10_main_while0b_v91, val10_main_v3_0, val10_main_v3_1, val10_main_v3_2, val10_main_v3_3]) <;> rfl
set_option maxRecDepth 8192 in
set_option maxHeartbeats 2000000 in
/-- `main_v3_1` after one trip's body, from any contents. -/
theorem trip_main_v3_1 (V0 : Valuation τ sig (Elt F)) : afterL bodyI V0 (no_index (Proc.devRef .tc main_v3_1)) = V0 (Proc.devRef .tc main_v3_1) := by
  simp only [bodyI, afterL_cons, afterL_nil, trip_windows]
  after_results
  all_goals (try simp only [val10_main_while0b_v91, val10_main_v3_0, val10_main_v3_1, val10_main_v3_2, val10_main_v3_3]) <;> rfl
set_option maxRecDepth 8192 in
set_option maxHeartbeats 2000000 in
/-- `main_v3_2` after one trip's body, from any contents. -/
theorem trip_main_v3_2 (V0 : Valuation τ sig (Elt F)) : afterL bodyI V0 (no_index (Proc.devRef .tc main_v3_2)) = id (addi (V0 (Proc.devRef .tc main_v3_2)) (constantI S_ 32 1#32)) := by
  simp only [bodyI, afterL_cons, afterL_nil, trip_windows]
  after_results
  all_goals (try simp only [val10_main_while0b_v91, val10_main_v3_0, val10_main_v3_1, val10_main_v3_2, val10_main_v3_3]) <;> rfl
set_option maxRecDepth 8192 in
set_option maxHeartbeats 2000000 in
/-- `main_v3_3` after one trip's body, from any contents. -/
theorem trip_main_v3_3 (V0 : Valuation τ sig (Elt F)) : afterL bodyI V0 (no_index (Proc.devRef .tc main_v3_3)) = id (select (broadcastInDim S1024x2048 ![] bcast_S_S1024x2048 (shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_)) (Host.scatter scatter_S1024x2048_S1_S2048_0_0_0_0 (fun _ b => b) (V0 (Proc.devRef .tc main_v3_3)) (broadcastInDim S1 ![] bcast_S_S1 (select (cmpi .slt (res_main_while0b_v70 V0) (constantI S_ 32 0#32)) (addi (res_main_while0b_v70 V0) (constantI S_ 32 1024#32)) (res_main_while0b_v70 V0))) (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0)))) (V0 (Proc.devRef .tc main_v3_3))) := by
  simp only [bodyI, afterL_cons, afterL_nil, trip_windows]
  after_results
  all_goals (try simp only [val10_main_while0b_v91, val10_main_v3_0, val10_main_v3_1, val10_main_v3_2, val10_main_v3_3]) <;> rfl

/-- The loop's carried buffers. -/
abbrev carriedRefs : List (Ref sig .tc) := [main_v3_0, main_v3_1, main_v3_2, main_v3_3]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v64_congr {V0 V0' : Valuation τ sig (Elt F)} (h : Agree V0 V0') : res_main_while0b_v64 V0 = res_main_while0b_v64 V0' := by
  unfold res_main_while0b_v64
  rw [h main_v3_0 (by decide), h main_v3_2 (by decide)]
set_option maxRecDepth 8192 in
theorem res_main_while0b_v68_congr {V0 V0' : Valuation τ sig (Elt F)} (h : Agree V0 V0') : res_main_while0b_v68 V0 = res_main_while0b_v68 V0' := by
  unfold res_main_while0b_v68
  rw [res_main_while0b_v64_congr h, h main_v3_3 (by decide)]
set_option maxRecDepth 8192 in
theorem res_main_while0b_v69_congr {V0 V0' : Valuation τ sig (Elt F)} (h : Agree V0 V0') : res_main_while0b_v69 V0 = res_main_while0b_v69 V0' := by
  unfold res_main_while0b_v69
  rw [res_main_while0b_v68_congr h]
set_option maxRecDepth 8192 in
theorem res_main_while0b_call3_v0_congr {V0 V0' : Valuation τ sig (Elt F)} (h : Agree V0 V0') : res_main_while0b_call3_v0 V0 = res_main_while0b_call3_v0 V0' := by
  unfold res_main_while0b_call3_v0
  rfl
set_option maxRecDepth 8192 in
theorem res_main_while0b_call3_cst_congr {V0 V0' : Valuation τ sig (Elt F)} (h : Agree V0 V0') : res_main_while0b_call3_cst V0 = res_main_while0b_call3_cst V0' := by
  unfold res_main_while0b_call3_cst
  rfl
set_option maxRecDepth 8192 in
theorem res_main_while0b_call3_c_congr {V0 V0' : Valuation τ sig (Elt F)} (h : Agree V0 V0') : res_main_while0b_call3_c V0 = res_main_while0b_call3_c V0' := by
  unfold res_main_while0b_call3_c
  rfl
set_option maxRecDepth 8192 in
theorem res_main_while0b_v70_congr {V0 V0' : Valuation τ sig (Elt F)} (h : Agree V0 V0') : res_main_while0b_v70 V0 = res_main_while0b_v70 V0' := by
  unfold res_main_while0b_v70
  rw [res_main_while0b_v69_congr h, res_main_while0b_call3_v0_congr h, res_main_while0b_call3_cst_congr h, res_main_while0b_call3_c_congr h]
set_option maxRecDepth 8192 in
theorem res_main_while0b_v71_congr {V0 V0' : Valuation τ sig (Elt F)} (h : Agree V0 V0') : res_main_while0b_v71 V0 = res_main_while0b_v71 V0' := by
  unfold res_main_while0b_v71
  rfl

set_option maxRecDepth 8192 in
/-- `main_v3_2` after one trip, of the contents before it. -/
def step_main_v3_2 (V0 : Valuation τ sig (Elt F)) : (Proc.devRef .tc main_v3_2 : DevRef τ sig).ty.Contents (Elt F) :=
  id (addi (V0 (Proc.devRef .tc main_v3_2)) (constantI S_ 32 1#32))
set_option maxRecDepth 8192 in
theorem step_main_v3_2_congr {V0 V0' : Valuation τ sig (Elt F)} (h : Agree V0 V0') : step_main_v3_2 V0 = step_main_v3_2 V0' := by
  unfold step_main_v3_2
  rw [h main_v3_2 (by decide)]
set_option maxRecDepth 8192 in
/-- `main_v3_3` after one trip, of the contents before it. -/
def step_main_v3_3 (V0 : Valuation τ sig (Elt F)) : (Proc.devRef .tc main_v3_3 : DevRef τ sig).ty.Contents (Elt F) :=
  id (select (broadcastInDim S1024x2048 ![] bcast_S_S1024x2048 (shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_)) (Host.scatter scatter_S1024x2048_S1_S2048_0_0_0_0 (fun _ b => b) (V0 (Proc.devRef .tc main_v3_3)) (broadcastInDim S1 ![] bcast_S_S1 (select (cmpi .slt (res_main_while0b_v70 V0) (constantI S_ 32 0#32)) (addi (res_main_while0b_v70 V0) (constantI S_ 32 1024#32)) (res_main_while0b_v70 V0))) (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0)))) (V0 (Proc.devRef .tc main_v3_3)))
set_option maxRecDepth 8192 in
theorem step_main_v3_3_congr {V0 V0' : Valuation τ sig (Elt F)} (h : Agree V0 V0') : step_main_v3_3 V0 = step_main_v3_3 V0' := by
  unfold step_main_v3_3
  rw [res_main_while0b_v70_congr h, res_main_while0b_v71_congr h, res_main_while0b_v64_congr h, h main_v3_1 (by decide), h main_v3_2 (by decide), h main_v3_3 (by decide)]

/-- ONE TRIP on the carried buffers: the buffers the body writes step, everything else is as it was. -/
def STEP (V0 : Valuation τ sig (Elt F)) : Valuation τ sig (Elt F) :=
  Function.update (Function.update (V0) (Proc.devRef .tc main_v3_2) (step_main_v3_2 V0)) (Proc.devRef .tc main_v3_3) (step_main_v3_3 V0)

theorem STEP_main_v3_0 (V0 : Valuation τ sig (Elt F)) : STEP V0 (Proc.devRef .tc main_v3_0) = V0 (Proc.devRef .tc main_v3_0) := by
  unfold STEP; rw [Function.update_of_ne (devRef_ne_of_ne (by decide))]; rw [Function.update_of_ne (devRef_ne_of_ne (by decide))]
theorem STEP_main_v3_1 (V0 : Valuation τ sig (Elt F)) : STEP V0 (Proc.devRef .tc main_v3_1) = V0 (Proc.devRef .tc main_v3_1) := by
  unfold STEP; rw [Function.update_of_ne (devRef_ne_of_ne (by decide))]; rw [Function.update_of_ne (devRef_ne_of_ne (by decide))]
theorem STEP_main_v3_2 (V0 : Valuation τ sig (Elt F)) : STEP V0 (Proc.devRef .tc main_v3_2) = step_main_v3_2 V0 := by
  unfold STEP; rw [Function.update_of_ne (devRef_ne_of_ne (by decide))]; rw [Function.update_self]
theorem STEP_main_v3_3 (V0 : Valuation τ sig (Elt F)) : STEP V0 (Proc.devRef .tc main_v3_3) = step_main_v3_3 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v3_0 (after condOps X)).trans ((hc main_v3_0 (by decide)).trans (STEP_main_v3_0 X).symm)
  · exact (trip_main_v3_1 (after condOps X)).trans ((hc main_v3_1 (by decide)).trans (STEP_main_v3_1 X).symm)
  · exact (trip_main_v3_2 (after condOps X)).trans ((step_main_v3_2_congr hc).trans (STEP_main_v3_2 X).symm)
  · exact (trip_main_v3_3 (after condOps X)).trans ((step_main_v3_3_congr hc).trans (STEP_main_v3_3 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v3_0, STEP_main_v3_0]; exact h main_v3_0 (by decide)
  · rw [STEP_main_v3_1, STEP_main_v3_1]; exact h main_v3_1 (by decide)
  · rw [STEP_main_v3_2, STEP_main_v3_2]; exact step_main_v3_2_congr h
  · rw [STEP_main_v3_3, STEP_main_v3_3]; exact step_main_v3_3_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_while0Ops0_5 (V : Valuation τ sig (Elt F)) : after while0Ops0_5 V (Proc.devRef .tc main_arg2) = V (Proc.devRef .tc main_arg2) :=
  after_of_writes_sub while0Ops0_5 V while0Ops0_5_writes (by decide +kernel)
theorem keep_main_arg2_while0Ops0_6 (V : Valuation τ sig (Elt F)) : after while0Ops0_6 V (Proc.devRef .tc main_arg2) = V (Proc.devRef .tc main_arg2) :=
  after_of_writes_sub while0Ops0_6 V while0Ops0_6_writes (by decide +kernel)
theorem keep_main_arg2_while0Ops0_7 (V : Valuation τ sig (Elt F)) : after while0Ops0_7 V (Proc.devRef .tc main_arg2) = V (Proc.devRef .tc main_arg2) :=
  after_of_writes_sub while0Ops0_7 V while0Ops0_7_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_7, keep_main_arg2_while0Ops0_6, keep_main_arg2_while0Ops0_5, keep_main_arg2_while0Ops0_4, keep_main_arg2_while0Ops0_3, keep_main_arg2_while0Ops0_2, keep_main_arg2_while0Ops0_1, keep_main_arg2_while0Ops0, keep_main_arg2_condOps, atK_main_arg2 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_5, keep_main_arg0_hostOps0_4, keep_main_arg0_hostOps0_3, keep_main_arg0_hostOps0_2, keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_5, keep_main_arg1_hostOps0_4, keep_main_arg1_hostOps0_3, keep_main_arg1_hostOps0_2, keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_5, keep_main_arg2_hostOps0_4, keep_main_arg2_hostOps0_3, keep_main_arg2_hostOps0_2, keep_main_arg2_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; exact iter_main_arg2 c k
set_option maxRecDepth 8192 in
/-- `main_v63`, which the operations after the loop make, of the contents they start from. -/
def out_main_v63 (V0 : Valuation τ sig (Elt F)) : (Proc.devRef .tc main_v63 : DevRef τ sig).ty.Contents (Elt F) :=
  addf (mulf (constant S_ .f32 0x3F800000#32) (Host.divf (Host.reduceAdd (mulf (subf (V0 (Proc.devRef .tc main_arg0)) (Host.divf (Host.reduceAdd (Host.gather gather_S1024x2048_S2048x3x1_S2048x3x2048_2_0_n_n_0_2_12048 (V0 (Proc.devRef .tc main_v3_3)) (broadcastInDim S2048x3x1 ![0, 1] bcast_S2048x3_S2048x3x1_0_1 (select (cmpi .slt ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (V0 (Proc.devRef .tc main_arg0)) (V0 (Proc.devRef .tc main_arg0))) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (V0 (Proc.devRef .tc main_v3_3)) (V0 (Proc.devRef .tc main_v3_3))) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (V0 (Proc.devRef .tc main_arg0)) (transpose S2048x1024 [1, 0] (V0 (Proc.devRef .tc main_v3_3)) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 0#32))) (addi ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (V0 (Proc.devRef .tc main_arg0)) (V0 (Proc.devRef .tc main_arg0))) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (V0 (Proc.devRef .tc main_v3_3)) (V0 (Proc.devRef .tc main_v3_3))) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (V0 (Proc.devRef .tc main_arg0)) (transpose S2048x1024 [1, 0] (V0 (Proc.devRef .tc main_v3_3)) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 1024#32))) ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (V0 (Proc.devRef .tc main_arg0)) (V0 (Proc.devRef .tc main_arg0))) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (V0 (Proc.devRef .tc main_v3_3)) (V0 (Proc.devRef .tc main_v3_3))) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (V0 (Proc.devRef .tc main_arg0)) (transpose S2048x1024 [1, 0] (V0 (Proc.devRef .tc main_v3_3)) transposes_S1024x2048_S2048x1024_1_0)))) (broadcastInDim S2048x1024 ![] bcast_S_S2048x1024 (constant S_ .f32 0x00000000#32))))) sliceFits_S2048x1024_S2048x3).2)))) (constant S_ .f32 0x00000000#32) reducesTo_S2048x3x2048_S2048x2048_d1 h_S_) (broadcastInDim S2048x2048 ![] bcast_S_S2048x2048 (constant S_ .f32 0x40400000#32)))) (subf (V0 (Proc.devRef .tc main_arg0)) (Host.divf (Host.reduceAdd (Host.gather gather_S1024x2048_S2048x3x1_S2048x3x2048_2_0_n_n_0_2_12048 (V0 (Proc.devRef .tc main_v3_3)) (broadcastInDim S2048x3x1 ![0, 1] bcast_S2048x3_S2048x3x1_0_1 (select (cmpi .slt ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (V0 (Proc.devRef .tc main_arg0)) (V0 (Proc.devRef .tc main_arg0))) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (V0 (Proc.devRef .tc main_v3_3)) (V0 (Proc.devRef .tc main_v3_3))) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (V0 (Proc.devRef .tc main_arg0)) (transpose S2048x1024 [1, 0] (V0 (Proc.devRef .tc main_v3_3)) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 0#32))) (addi ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (V0 (Proc.devRef .tc main_arg0)) (V0 (Proc.devRef .tc main_arg0))) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (V0 (Proc.devRef .tc main_v3_3)) (V0 (Proc.devRef .tc main_v3_3))) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (V0 (Proc.devRef .tc main_arg0)) (transpose S2048x1024 [1, 0] (V0 (Proc.devRef .tc main_v3_3)) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 1024#32))) ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (V0 (Proc.devRef .tc main_arg0)) (V0 (Proc.devRef .tc main_arg0))) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (V0 (Proc.devRef .tc main_v3_3)) (V0 (Proc.devRef .tc main_v3_3))) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (V0 (Proc.devRef .tc main_arg0)) (transpose S2048x1024 [1, 0] (V0 (Proc.devRef .tc main_v3_3)) transposes_S1024x2048_S2048x1024_1_0)))) (broadcastInDim S2048x1024 ![] bcast_S_S2048x1024 (constant S_ .f32 0x00000000#32))))) sliceFits_S2048x1024_S2048x3).2)))) (constant S_ .f32 0x00000000#32) reducesTo_S2048x3x2048_S2048x2048_d1 h_S_) (broadcastInDim S2048x2048 ![] bcast_S_S2048x2048 (constant S_ .f32 0x40400000#32))))) (constant S_ .f32 0x00000000#32) reducesTo_S2048x2048_S_d0_1 h_S_) (constant S_ .f32 0x4A800000#32))) (mulf (constant S_ .f32 0x3F000000#32) (select (cmpf (F := F) .ogt (Host.reduceAdd (uitofp .f32 (noti (id (cmpf (F := F) (φ := .f32) .une (V0 (Proc.devRef .tc main_arg1)) (broadcastInDim S2048 ![] bcast_S_S2048 (constant S_ .f32 0x00000000#32)))))) (constant S_ .f32 0x00000000#32) reducesTo_S2048_S_d0 h_S_) (constant S_ .f32 0x00000000#32)) (Host.divf (Host.reduceAdd (maximumf (subf (broadcastInDim S2048 ![] bcast_S_S2048 (constant S_ .f32 0x3F800000#32)) (Host.sqrt (Host.reduceAdd (mulf (subf (V0 (Proc.devRef .tc main_arg0)) (broadcastInDim S2048x2048 ![0, 1] bcast_S1x2048_S2048x2048_0_1 (broadcastInDim S1x2048 ![1] bcast_S2048_S1x2048_1 (Host.divf (Host.reduceAdd (mulf (V0 (Proc.devRef .tc main_arg0)) (broadcastInDim S2048x2048 ![0, 1] bcast_S2048x1_S2048x2048_0_1 (broadcastInDim S2048x1 ![0] bcast_S2048_S2048x1_0 (uitofp .f32 (noti (id (cmpf (F := F) (φ := .f32) .une (V0 (Proc.devRef .tc main_arg1)) (broadcastInDim S2048 ![] bcast_S_S2048 (constant S_ .f32 0x00000000#32))))))))) (constant S_ .f32 0x00000000#32) reducesTo_S2048x2048_S2048_d0 h_S_) (broadcastInDim S2048 ![] bcast_S_S2048 (maximumf (Host.reduceAdd (uitofp .f32 (noti (id (cmpf (F := F) (φ := .f32) .une (V0 (Proc.devRef .tc main_arg1)) (broadcastInDim S2048 ![] bcast_S_S2048 (constant S_ .f32 0x00000000#32)))))) (constant S_ .f32 0x00000000#32) reducesTo_S2048_S_d0 h_S_) (constant S_ .f32 0x3F800000#32))))))) (subf (V0 (Proc.devRef .tc main_arg0)) (broadcastInDim S2048x2048 ![0, 1] bcast_S1x2048_S2048x2048_0_1 (broadcastInDim S1x2048 ![1] bcast_S2048_S1x2048_1 (Host.divf (Host.reduceAdd (mulf (V0 (Proc.devRef .tc main_arg0)) (broadcastInDim S2048x2048 ![0, 1] bcast_S2048x1_S2048x2048_0_1 (broadcastInDim S2048x1 ![0] bcast_S2048_S2048x1_0 (uitofp .f32 (noti (id (cmpf (F := F) (φ := .f32) .une (V0 (Proc.devRef .tc main_arg1)) (broadcastInDim S2048 ![] bcast_S_S2048 (constant S_ .f32 0x00000000#32))))))))) (constant S_ .f32 0x00000000#32) reducesTo_S2048x2048_S2048_d0 h_S_) (broadcastInDim S2048 ![] bcast_S_S2048 (maximumf (Host.reduceAdd (uitofp .f32 (noti (id (cmpf (F := F) (φ := .f32) .une (V0 (Proc.devRef .tc main_arg1)) (broadcastInDim S2048 ![] bcast_S_S2048 (constant S_ .f32 0x00000000#32)))))) (constant S_ .f32 0x00000000#32) reducesTo_S2048_S_d0 h_S_) (constant S_ .f32 0x3F800000#32)))))))) (constant S_ .f32 0x00000000#32) reducesTo_S2048x2048_S2048_d1 h_S_))) (broadcastInDim S2048 ![] bcast_S_S2048 (constant S_ .f32 0x00000000#32))) (constant S_ .f32 0x00000000#32) reducesTo_S2048_S_d0 h_S_) (constant S_ .f32 0x45000000#32)) (id (constant S_ .f32 0x00000000#32))))
set_option maxRecDepth 8192 in
set_option maxHeartbeats 2000000 in
theorem post_main_v63 (V0 : Valuation τ sig (Elt F)) : afterL postI V0 (no_index (Proc.devRef .tc main_v63)) = out_main_v63 V0 := by
  unfold out_main_v63
  simp only [postI, afterL_cons, afterL_nil, hostOps0_1, hostOps0_2, hostOps0_3, hostOps0_4, hostOps0_5]
  after_results_entrywise []
set_option maxRecDepth 8192 in
theorem out_main_v63_congr {V0 V0' : Valuation τ sig (Elt F)} (h : Agree V0 V0') (h_main_arg0 : V0 (Proc.devRef .tc main_arg0) = V0' (Proc.devRef .tc main_arg0)) (h_main_arg1 : V0 (Proc.devRef .tc main_arg1) = V0' (Proc.devRef .tc main_arg1)) : out_main_v63 V0 = out_main_v63 V0' := by
  unfold out_main_v63
  rw [h_main_arg0, h main_v3_3 (by decide), h_main_arg1]
/-- THE RUN: on every device, for any float values, from any memory with zero counters, every weakly fair execution
    of @main terminates with each result at its component of `STEP` iterated 2048 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v63) = out_main_v63 (STEP^[2048] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v63 rfl).trans ((post_main_v63 _).trans (out_main_v63_congr (fun j hj => (cond_keeps _ j hj).trans (atK_agree m c 2048 j hj)) ((keep_main_arg0_condOps _).trans ((atK_main_arg0 m c 2048).trans (iter_main_arg0 m c 2048).symm)) ((keep_main_arg1_condOps _).trans ((atK_main_arg1 m c 2048).trans (iter_main_arg1 m c 2048).symm)))),
      (h c main_arg0 rfl).trans ((post_keeps_main_arg0 _).trans ((keep_main_arg0_condOps _).trans (atK_main_arg0 m c 2048))),
      (h c main_arg1 rfl).trans ((post_keeps_main_arg1 _).trans ((keep_main_arg1_condOps _).trans (atK_main_arg1 m c 2048))),
      (h c main_arg2 rfl).trans ((post_keeps_main_arg2 _).trans ((keep_main_arg2_condOps _).trans (atK_main_arg2 m c 2048)))⟩) (run_fold m ρ)

end Cert.ReferenceIdeal.Value

end
-- ==== Proof.RefStep.lean ====
/- One trip of the reference's loop as standalone definitions. -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v3_3 : (⟨S1024x2048, .f32⟩ : BufTy).Contents (Elt F)
  main_v3_0 : (⟨S2048x2048, .f32⟩ : BufTy).Contents (Elt F)
  main_v3_1 : (⟨S2048, .i1⟩ : BufTy).Contents (Elt F)

/-! What @main computes before the loop without reading an argument. -/

def K_main_cst : (⟨S_, .f32⟩ : BufTy).Contents (Elt F) := constant S_ .f32 0x00000000#32
def K_main_v0 : (⟨S2048, .f32⟩ : BufTy).Contents (Elt F) := broadcastInDim S2048 ![] bcast_S_S2048 ((K_main_cst (F := F)))
def K_main_c : (⟨S_, .i32⟩ : BufTy).Contents (Elt F) := constantI S_ 32 0#32

/-! What @main computes before the loop from its arguments, as functions of them. -/

def A_main_v1 (main_arg1 : (⟨S2048, .f32⟩ : BufTy).Contents (Elt F)) : (⟨S2048, .i1⟩ : BufTy).Contents (Elt F) := cmpf (F := F) .une (main_arg1) ((K_main_v0 (F := F)))
def A_main_v2 (main_arg1 : (⟨S2048, .f32⟩ : BufTy).Contents (Elt F)) : (⟨S2048, .i1⟩ : BufTy).Contents (Elt F) := id ((A_main_v1 main_arg1))

/-! One trip's values, in the body's order. -/

def b0 (j : ℕ) (s : State F) : (⟨S_, .i32⟩ : BufTy).Contents (Elt F) :=
  constantI S_ 32 0#32
def b1 (j : ℕ) (s : State F) : (⟨S1x2048, .f32⟩ : BufTy).Contents (Elt F) :=
  Host.dynamicSlice S1x2048 (s.main_v3_0) (fun k => (((![(constantI S_ 32 (BitVec.ofNat 32 j) : (⟨S_, .i32⟩ : BufTy).Contents (Elt F)), (b0 j s)] : Fin 2 → (⟨S_, .i32⟩ : BufTy).Contents (Elt F))) k (Shape.Idx.first h_S_)).toInt) sliceFits_S2048x2048_S1x2048
def b2 (j : ℕ) (s : State F) : (⟨S2048, .f32⟩ : BufTy).Contents (Elt F) :=
  shapeCast S2048 ((b1 j s)) shapeCasts_S1x2048_S2048
def b3 (j : ℕ) (s : State F) : (⟨S1, .i1⟩ : BufTy).Contents (Elt F) :=
  Host.dynamicSlice S1 (s.main_v3_1) (fun k => (((![(constantI S_ 32 (BitVec.ofNat 32 j) : (⟨S_, .i32⟩ : BufTy).Contents (Elt F))] : Fin 1 → (⟨S_, .i32⟩ : BufTy).Contents (Elt F))) k (Shape.Idx.first h_S_)).toInt) sliceFits_S2048_S1
def b4 (j : ℕ) (s : State F) : (⟨S_, .i1⟩ : BufTy).Contents (Elt F) :=
  shapeCast S_ ((b3 j s)) shapeCasts_S1_S_
def b5 (j : ℕ) (s : State F) : (⟨S1x2048, .f32⟩ : BufTy).Contents (Elt F) :=
  broadcastInDim S1x2048 ![1] bcast_S2048_S1x2048_1 ((b2 j s))
def b6 (j : ℕ) (s : State F) : (⟨S1024x2048, .f32⟩ : BufTy).Contents (Elt F) :=
  broadcastInDim S1024x2048 ![0, 1] bcast_S1x2048_S1024x2048_0_1 ((b5 j s))
def b7 (j : ℕ) (s : State F) : (⟨S1024x2048, .f32⟩ : BufTy).Contents (Elt F) :=
  subf (s.main_v3_3) ((b6 j s))
def b8 (j : ℕ) (s : State F) : (⟨S1024x2048, .f32⟩ : BufTy).Contents (Elt F) :=
  mulf ((b7 j s)) ((b7 j s))
def b9 (j : ℕ) (s : State F) : (⟨S_, .f32⟩ : BufTy).Contents (Elt F) :=
  constant S_ .f32 0x00000000#32
def b10 (j : ℕ) (s : State F) : (⟨S1024, .f32⟩ : BufTy).Contents (Elt F) :=
  Host.reduceAdd ((b8 j s)) ((b9 j s)) reducesTo_S1024x2048_S1024_d1 h_S_
def b11 (j : ℕ) (s : State F) : (⟨S1024, .f32⟩ : BufTy).Contents (Elt F) :=
  Host.sqrt ((b10 j s))
def b12 (j : ℕ) (s : State F) : (⟨S1024, .i32⟩ : BufTy).Contents (Elt F) :=
  iotaInDim S1024 32 0
def b13 (j : ℕ) (s : State F) : (⟨S_, .f32⟩ : BufTy).Contents (Elt F) :=
  constant S_ .f32 0x7F800000#32
def b14 (j : ℕ) (s : State F) : (⟨S_, .i32⟩ : BufTy).Contents (Elt F) :=
  constantI S_ 32 0#32
def b15 (j : ℕ) (s : State F) : (⟨S_, .f32⟩ : BufTy).Contents (Elt F) :=
  (fun jj => (Host.argReduce reducer_argmin_f32_i32 ((b11 j s)) ((b12 j s)) ((b13 j s)) ((b14 j s)) reducesTo_S1024_S_d0 h_S_ jj).1)
def b16 (j : ℕ) (s : State F) : (⟨S_, .i32⟩ : BufTy).Contents (Elt F) :=
  (fun jj => (Host.argReduce reducer_argmin_f32_i32 ((b11 j s)) ((b12 j s)) ((b13 j s)) ((b14 j s)) reducesTo_S1024_S_d0 h_S_ jj).2)
def b17 (j : ℕ) (s : State F) : (⟨S_, .f32⟩ : BufTy).Contents (Elt F) :=
  constant S_ .f32 0x41100000#32
def b18 (j : ℕ) (s : State F) : (⟨S_, .f32⟩ : BufTy).Contents (Elt F) :=
  constant S_ .f32 0x41200000#32
def b19 (j : ℕ) (s : State F) : (⟨S_, .f32⟩ : BufTy).Contents (Elt F) :=
  Host.divf ((b17 j s)) ((b18 j s))
def b20 (j : ℕ) (s : State F) : (⟨S_, .i32⟩ : BufTy).Contents (Elt F) :=
  constantI S_ 32 0#32
def b21 (j : ℕ) (s : State F) : (⟨S_, .i1⟩ : BufTy).Contents (Elt F) :=
  cmpi .slt ((b16 j s)) ((b20 j s))
def b22 (j : ℕ) (s : State F) : (⟨S_, .i32⟩ : BufTy).Contents (Elt F) :=
  constantI S_ 32 1024#32
def b23 (j : ℕ) (s : State F) : (⟨S_, .i32⟩ : BufTy).Contents (Elt F) :=
  addi ((b16 j s)) ((b22 j s))
def b24 (j : ℕ) (s : State F) : (⟨S_, .i32⟩ : BufTy).Contents (Elt F) :=
  select ((b21 j s)) ((b23 j s)) ((b16 j s))
def b25 (j : ℕ) (s : State F) : (⟨S_, .i32⟩ : BufTy).Contents (Elt F) :=
  constantI S_ 32 0#32
def b26 (j : ℕ) (s : State F) : (⟨S_, .i32⟩ : BufTy).Contents (Elt F) :=
  constantI S_ 32 0#32
def b27 (j : ℕ) (s : State F) : (⟨S_, .i1⟩ : BufTy).Contents (Elt F) :=
  cmpi .slt ((b25 j s)) ((b26 j s))
def b28 (j : ℕ) (s : State F) : (⟨S_, .i32⟩ : BufTy).Contents (Elt F) :=
  constantI S_ 32 0#32
def b29 (j : ℕ) (s : State F) : (⟨S_, .i32⟩ : BufTy).Contents (Elt F) :=
  constantI S_ 32 2048#32
def b30 (j : ℕ) (s : State F) : (⟨S_, .i32⟩ : BufTy).Contents (Elt F) :=
  addi ((b28 j s)) ((b29 j s))
def b31 (j : ℕ) (s : State F) : (⟨S_, .i32⟩ : BufTy).Contents (Elt F) :=
  constantI S_ 32 0#32
def b32 (j : ℕ) (s : State F) : (⟨S_, .i32⟩ : BufTy).Contents (Elt F) :=
  select ((b27 j s)) ((b30 j s)) ((b31 j s))
def b33 (j : ℕ) (s : State F) : (⟨S1x2048, .f32⟩ : BufTy).Contents (Elt F) :=
  Host.dynamicSlice S1x2048 (s.main_v3_3) (fun k => (((![(b24 j s), (b32 j s)] : Fin 2 → (⟨S_, .i32⟩ : BufTy).Contents (Elt F))) k (Shape.Idx.first h_S_)).toInt) sliceFits_S1024x2048_S1x2048
def b34 (j : ℕ) (s : State F) : (⟨S2048, .f32⟩ : BufTy).Contents (Elt F) :=
  shapeCast S2048 ((b33 j s)) shapeCasts_S1x2048_S2048
def b35 (j : ℕ) (s : State F) : (⟨S2048, .f32⟩ : BufTy).Contents (Elt F) :=
  broadcastInDim S2048 ![] bcast_S_S2048 ((b19 j s))
def b36 (j : ℕ) (s : State F) : (⟨S2048, .f32⟩ : BufTy).Contents (Elt F) :=
  mulf ((b35 j s)) ((b34 j s))
def b37 (j : ℕ) (s : State F) : (⟨S_, .f32⟩ : BufTy).Contents (Elt F) :=
  constant S_ .f32 0x3F800000#32
def b38 (j : ℕ) (s : State F) : (⟨S_, .f32⟩ : BufTy).Contents (Elt F) :=
  subf ((b37 j s)) ((b19 j s))
def b39 (j : ℕ) (s : State F) : (⟨S2048, .f32⟩ : BufTy).Contents (Elt F) :=
  broadcastInDim S2048 ![] bcast_S_S2048 ((b38 j s))
def b40 (j : ℕ) (s : State F) : (⟨S2048, .f32⟩ : BufTy).Contents (Elt F) :=
  mulf ((b39 j s)) ((b2 j s))
def b41 (j : ℕ) (s : State F) : (⟨S2048, .f32⟩ : BufTy).Contents (Elt F) :=
  addf ((b36 j s)) ((b40 j s))
def b42 (j : ℕ) (s : State F) : (⟨S_, .i32⟩ : BufTy).Contents (Elt F) :=
  constantI S_ 32 0#32
def b43 (j : ℕ) (s : State F) : (⟨S_, .i1⟩ : BufTy).Contents (Elt F) :=
  cmpi .slt ((b16 j s)) ((b42 j s))
def b44 (j : ℕ) (s : State F) : (⟨S_, .i32⟩ : BufTy).Contents (Elt F) :=
  constantI S_ 32 1024#32
def b45 (j : ℕ) (s : State F) : (⟨S_, .i32⟩ : BufTy).Contents (Elt F) :=
  addi ((b16 j s)) ((b44 j s))
def b46 (j : ℕ) (s : State F) : (⟨S_, .i32⟩ : BufTy).Contents (Elt F) :=
  select ((b43 j s)) ((b45 j s)) ((b16 j s))
def b47 (j : ℕ) (s : State F) : (⟨S1, .i32⟩ : BufTy).Contents (Elt F) :=
  broadcastInDim S1 ![] bcast_S_S1 ((b46 j s))
def b48 (j : ℕ) (s : State F) : (⟨S1024x2048, .f32⟩ : BufTy).Contents (Elt F) :=
  Host.scatter scatter_S1024x2048_S1_S2048_0_0_0_0 (fun _ b => b) (s.main_v3_3) ((b47 j s)) ((b41 j s))
def b49 (j : ℕ) (s : State F) : (⟨S1024x2048, .f32⟩ : BufTy).Contents (Elt F) :=
  select (broadcastInDim S1024x2048 ![] bcast_S_S1024x2048 ((b4 j s))) ((b48 j s)) (s.main_v3_3)

/-- The state @main hands the first trip, of the arguments it copies in or computes from. -/
def init (main_arg2 : (⟨S1024x2048, .f32⟩ : BufTy).Contents (Elt F)) (main_arg0 : (⟨S2048x2048, .f32⟩ : BufTy).Contents (Elt F)) (main_arg1 : (⟨S2048, .f32⟩ : BufTy).Contents (Elt F)) : State F :=
  { main_v3_3 := main_arg2, main_v3_0 := main_arg0, main_v3_1 := A_main_v2 main_arg1 }

/-- One trip. -/
def step (j : ℕ) (s : State F) : State F :=
  { main_v3_3 := b49 j s, main_v3_0 := s.main_v3_0, main_v3_1 := s.main_v3_1 }
theorem step_main_v3_3 (j : ℕ) (s : State F) : (step j s).main_v3_3 = b49 j s := by unfold step; rfl

/-- `main_v63`, which the operations after the loop make, of the loop's last state and the arguments they read. -/
def R_main_v63 (s : State F) (main_arg0 : (⟨S2048x2048, .f32⟩ : BufTy).Contents (Elt F)) (main_arg1 : (⟨S2048, .f32⟩ : BufTy).Contents (Elt F)) : (⟨S_, .f32⟩ : BufTy).Contents (Elt F) :=
  addf (mulf (constant S_ .f32 0x3F800000#32) (Host.divf (Host.reduceAdd (mulf (subf (main_arg0) (Host.divf (Host.reduceAdd (Host.gather gather_S1024x2048_S2048x3x1_S2048x3x2048_2_0_n_n_0_2_12048 (s.main_v3_3) (broadcastInDim S2048x3x1 ![0, 1] bcast_S2048x3_S2048x3x1_0_1 (select (cmpi .slt ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (main_arg0) (main_arg0)) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (s.main_v3_3) (s.main_v3_3)) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (main_arg0) (transpose S2048x1024 [1, 0] (s.main_v3_3) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 0#32))) (addi ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (main_arg0) (main_arg0)) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (s.main_v3_3) (s.main_v3_3)) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (main_arg0) (transpose S2048x1024 [1, 0] (s.main_v3_3) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 1024#32))) ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (main_arg0) (main_arg0)) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (s.main_v3_3) (s.main_v3_3)) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (main_arg0) (transpose S2048x1024 [1, 0] (s.main_v3_3) transposes_S1024x2048_S2048x1024_1_0)))) (broadcastInDim S2048x1024 ![] bcast_S_S2048x1024 (constant S_ .f32 0x00000000#32))))) sliceFits_S2048x1024_S2048x3).2)))) (constant S_ .f32 0x00000000#32) reducesTo_S2048x3x2048_S2048x2048_d1 h_S_) (broadcastInDim S2048x2048 ![] bcast_S_S2048x2048 (constant S_ .f32 0x40400000#32)))) (subf (main_arg0) (Host.divf (Host.reduceAdd (Host.gather gather_S1024x2048_S2048x3x1_S2048x3x2048_2_0_n_n_0_2_12048 (s.main_v3_3) (broadcastInDim S2048x3x1 ![0, 1] bcast_S2048x3_S2048x3x1_0_1 (select (cmpi .slt ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (main_arg0) (main_arg0)) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (s.main_v3_3) (s.main_v3_3)) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (main_arg0) (transpose S2048x1024 [1, 0] (s.main_v3_3) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 0#32))) (addi ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (main_arg0) (main_arg0)) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (s.main_v3_3) (s.main_v3_3)) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (main_arg0) (transpose S2048x1024 [1, 0] (s.main_v3_3) transposes_S1024x2048_S2048x1024_1_0)))) (broadcastInDim S2048x1024 ![] bcast_S_S2048x1024 (constant S_ .f32 0x00000000#32))))) sliceFits_S2048x1024_S2048x3).2) (broadcastInDim S2048x3 ![] bcast_S_S2048x3 (constantI S_ 32 1024#32))) ((Host.topK S2048x3 1 (FloatOps.cmpfTotal .gt) (Host.negf (Host.sqrt (maximumf (subf (addf (broadcastInDim S2048x1024 ![0, 1] bcast_S2048x1_S2048x1024_0_1 (broadcastInDim S2048x1 ![0] bcast_S2048_S2048x1_0 (Host.reduceAdd (mulf (main_arg0) (main_arg0)) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (s.main_v3_3) (s.main_v3_3)) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (main_arg0) (transpose S2048x1024 [1, 0] (s.main_v3_3) transposes_S1024x2048_S2048x1024_1_0)))) (broadcastInDim S2048x1024 ![] bcast_S_S2048x1024 (constant S_ .f32 0x00000000#32))))) sliceFits_S2048x1024_S2048x3).2)))) (constant S_ .f32 0x00000000#32) reducesTo_S2048x3x2048_S2048x2048_d1 h_S_) (broadcastInDim S2048x2048 ![] bcast_S_S2048x2048 (constant S_ .f32 0x40400000#32))))) (constant S_ .f32 0x00000000#32) reducesTo_S2048x2048_S_d0_1 h_S_) (constant S_ .f32 0x4A800000#32))) (mulf (constant S_ .f32 0x3F000000#32) (select (cmpf (F := F) .ogt (Host.reduceAdd (uitofp .f32 (noti (id (cmpf (F := F) .une (main_arg1) (broadcastInDim S2048 ![] bcast_S_S2048 (constant S_ .f32 0x00000000#32)))))) (constant S_ .f32 0x00000000#32) reducesTo_S2048_S_d0 h_S_) (constant S_ .f32 0x00000000#32)) (Host.divf (Host.reduceAdd (maximumf (subf (broadcastInDim S2048 ![] bcast_S_S2048 (constant S_ .f32 0x3F800000#32)) (Host.sqrt (Host.reduceAdd (mulf (subf (main_arg0) (broadcastInDim S2048x2048 ![0, 1] bcast_S1x2048_S2048x2048_0_1 (broadcastInDim S1x2048 ![1] bcast_S2048_S1x2048_1 (Host.divf (Host.reduceAdd (mulf (main_arg0) (broadcastInDim S2048x2048 ![0, 1] bcast_S2048x1_S2048x2048_0_1 (broadcastInDim S2048x1 ![0] bcast_S2048_S2048x1_0 (uitofp .f32 (noti (id (cmpf (F := F) .une (main_arg1) (broadcastInDim S2048 ![] bcast_S_S2048 (constant S_ .f32 0x00000000#32))))))))) (constant S_ .f32 0x00000000#32) reducesTo_S2048x2048_S2048_d0 h_S_) (broadcastInDim S2048 ![] bcast_S_S2048 (maximumf (Host.reduceAdd (uitofp .f32 (noti (id (cmpf (F := F) .une (main_arg1) (broadcastInDim S2048 ![] bcast_S_S2048 (constant S_ .f32 0x00000000#32)))))) (constant S_ .f32 0x00000000#32) reducesTo_S2048_S_d0 h_S_) (constant S_ .f32 0x3F800000#32))))))) (subf (main_arg0) (broadcastInDim S2048x2048 ![0, 1] bcast_S1x2048_S2048x2048_0_1 (broadcastInDim S1x2048 ![1] bcast_S2048_S1x2048_1 (Host.divf (Host.reduceAdd (mulf (main_arg0) (broadcastInDim S2048x2048 ![0, 1] bcast_S2048x1_S2048x2048_0_1 (broadcastInDim S2048x1 ![0] bcast_S2048_S2048x1_0 (uitofp .f32 (noti (id (cmpf (F := F) .une (main_arg1) (broadcastInDim S2048 ![] bcast_S_S2048 (constant S_ .f32 0x00000000#32))))))))) (constant S_ .f32 0x00000000#32) reducesTo_S2048x2048_S2048_d0 h_S_) (broadcastInDim S2048 ![] bcast_S_S2048 (maximumf (Host.reduceAdd (uitofp .f32 (noti (id (cmpf (F := F) .une (main_arg1) (broadcastInDim S2048 ![] bcast_S_S2048 (constant S_ .f32 0x00000000#32)))))) (constant S_ .f32 0x00000000#32) reducesTo_S2048_S_d0 h_S_) (constant S_ .f32 0x3F800000#32)))))))) (constant S_ .f32 0x00000000#32) reducesTo_S2048x2048_S2048_d1 h_S_))) (broadcastInDim S2048 ![] bcast_S_S2048 (constant S_ .f32 0x00000000#32))) (constant S_ .f32 0x00000000#32) reducesTo_S2048_S_d0 h_S_) (constant S_ .f32 0x45000000#32)) (id (constant S_ .f32 0x00000000#32))))

end Cert.ReferenceIdeal.Step

end
-- ==== Proof.RefStepRun.lean ====
/- The reference's run over the step of RefStep. -/
module

public import proofs.«01_k».proof.Proof.RefRun
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v3_3) = s.main_v3_3
  f_0 : V0 (Proc.devRef .tc main_v3_0) = s.main_v3_0
  f_1 : V0 (Proc.devRef .tc main_v3_1) = s.main_v3_1
  n_2 : V0 (Proc.devRef .tc main_v3_2) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (Host.dynamicSlice S1x2048 (V0 (Proc.devRef .tc main_v3_0)) (fun k => (((![V0 (Proc.devRef .tc main_v3_2), constantI S_ 32 0#32] : Fin 2 → (⟨S_, .i32⟩ : BufTy).Contents (Elt F))) k (Shape.Idx.first h_S_)).toInt) sliceFits_S2048x2048_S1x2048 : (Proc.devRef .tc main_while0b_call0_v0 : DevRef τ sig).ty.Contents (Elt F)) = Cert.ReferenceIdeal.Step.b1 j s := by
  unfold Cert.ReferenceIdeal.Step.b1
  rw [← al_0 h, h.f_0, h.n_2]
  try rfl
set_option maxRecDepth 8192 in
theorem al_2 (h : Holds V0 s j) : (res_main_while0b_v64 V0 : (Proc.devRef .tc main_while0b_v64 : DevRef τ sig).ty.Contents (Elt F)) = Cert.ReferenceIdeal.Step.b2 j s := by
  unfold res_main_while0b_v64 Cert.ReferenceIdeal.Step.b2
  rw [← al_1 h]
  try rfl
set_option maxRecDepth 8192 in
theorem al_3 (h : Holds V0 s j) : (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1 : (Proc.devRef .tc main_while0b_call1_v0 : DevRef τ sig).ty.Contents (Elt F)) = Cert.ReferenceIdeal.Step.b3 j s := by
  unfold Cert.ReferenceIdeal.Step.b3
  rw [h.f_1, h.n_2]
  try rfl
set_option maxRecDepth 8192 in
theorem al_4 (h : Holds V0 s j) : (shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_ : (Proc.devRef .tc main_while0b_v65 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (broadcastInDim S1x2048 ![1] bcast_S2048_S1x2048_1 (res_main_while0b_v64 V0) : (Proc.devRef .tc main_while0b_v66 : DevRef τ sig).ty.Contents (Elt F)) = Cert.ReferenceIdeal.Step.b5 j s := by
  unfold Cert.ReferenceIdeal.Step.b5
  rw [← al_2 h]
  try rfl
set_option maxRecDepth 8192 in
theorem al_6 (h : Holds V0 s j) : (broadcastInDim S1024x2048 ![0, 1] bcast_S1x2048_S1024x2048_0_1 (broadcastInDim S1x2048 ![1] bcast_S2048_S1x2048_1 (res_main_while0b_v64 V0)) : (Proc.devRef .tc main_while0b_v67 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (res_main_while0b_v68 V0 : (Proc.devRef .tc main_while0b_v68 : DevRef τ sig).ty.Contents (Elt F)) = Cert.ReferenceIdeal.Step.b7 j s := by
  unfold res_main_while0b_v68 Cert.ReferenceIdeal.Step.b7
  rw [← al_6 h, h.f_3]
  try rfl
set_option maxRecDepth 8192 in
theorem al_8 (h : Holds V0 s j) : (mulf (res_main_while0b_v68 V0) (res_main_while0b_v68 V0) : (Proc.devRef .tc main_while0b_call2_v0 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (constant S_ .f32 0x00000000#32 : (Proc.devRef .tc main_while0b_call2_cst : DevRef τ sig).ty.Contents (Elt F)) = Cert.ReferenceIdeal.Step.b9 j s := by
  unfold Cert.ReferenceIdeal.Step.b9
  rfl
set_option maxRecDepth 8192 in
theorem al_10 (h : Holds V0 s j) : (Host.reduceAdd (mulf (res_main_while0b_v68 V0) (res_main_while0b_v68 V0)) (constant S_ .f32 0x00000000#32) reducesTo_S1024x2048_S1024_d1 h_S_ : (Proc.devRef .tc main_while0b_call2_v1 : DevRef τ sig).ty.Contents (Elt F)) = Cert.ReferenceIdeal.Step.b10 j s := by
  unfold Cert.ReferenceIdeal.Step.b10
  rw [← al_8 h, ← al_9 h]
  try rfl
set_option maxRecDepth 8192 in
theorem al_11 (h : Holds V0 s j) : (res_main_while0b_v69 V0 : (Proc.devRef .tc main_while0b_v69 : DevRef τ sig).ty.Contents (Elt F)) = Cert.ReferenceIdeal.Step.b11 j s := by
  unfold res_main_while0b_v69 Cert.ReferenceIdeal.Step.b11
  rw [← al_10 h]
  try rfl
set_option maxRecDepth 8192 in
theorem al_12 (h : Holds V0 s j) : (res_main_while0b_call3_v0 V0 : (Proc.devRef .tc main_while0b_call3_v0 : DevRef τ sig).ty.Contents (Elt F)) = Cert.ReferenceIdeal.Step.b12 j s := by
  unfold res_main_while0b_call3_v0 Cert.ReferenceIdeal.Step.b12
  rfl
set_option maxRecDepth 8192 in
theorem al_13 (h : Holds V0 s j) : (res_main_while0b_call3_cst V0 : (Proc.devRef .tc main_while0b_call3_cst : DevRef τ sig).ty.Contents (Elt F)) = Cert.ReferenceIdeal.Step.b13 j s := by
  unfold res_main_while0b_call3_cst Cert.ReferenceIdeal.Step.b13
  rfl
set_option maxRecDepth 8192 in
theorem al_14 (h : Holds V0 s j) : (res_main_while0b_call3_c V0 : (Proc.devRef .tc main_while0b_call3_c : DevRef τ sig).ty.Contents (Elt F)) = Cert.ReferenceIdeal.Step.b14 j s := by
  unfold res_main_while0b_call3_c Cert.ReferenceIdeal.Step.b14
  rfl
set_option maxRecDepth 8192 in
theorem al_15 (h : Holds V0 s j) : ((fun jj => (Host.argReduce reducer_argmin_f32_i32 (res_main_while0b_v69 V0) (res_main_while0b_call3_v0 V0) (res_main_while0b_call3_cst V0) (res_main_while0b_call3_c V0) reducesTo_S1024_S_d0 h_S_ jj).1) : (Proc.devRef .tc main_while0b_call3_v1_0 : DevRef τ sig).ty.Contents (Elt F)) = Cert.ReferenceIdeal.Step.b15 j s := by
  unfold Cert.ReferenceIdeal.Step.b15
  rw [← al_11 h, ← al_12 h, ← al_13 h, ← al_14 h]
  try rfl
set_option maxRecDepth 8192 in
theorem al_16 (h : Holds V0 s j) : (res_main_while0b_v70 V0 : (Proc.devRef .tc main_while0b_v70 : DevRef τ sig).ty.Contents (Elt F)) = Cert.ReferenceIdeal.Step.b16 j s := by
  unfold res_main_while0b_v70 Cert.ReferenceIdeal.Step.b16
  rw [← al_11 h, ← al_12 h, ← al_13 h, ← al_14 h]
  try rfl
set_option maxRecDepth 8192 in
theorem al_17 (h : Holds V0 s j) : (constant S_ .f32 0x41100000#32 : (Proc.devRef .tc main_while0b_cst_25 : DevRef τ sig).ty.Contents (Elt F)) = Cert.ReferenceIdeal.Step.b17 j s := by
  unfold Cert.ReferenceIdeal.Step.b17
  rfl
set_option maxRecDepth 8192 in
theorem al_18 (h : Holds V0 s j) : (constant S_ .f32 0x41200000#32 : (Proc.devRef .tc main_while0b_cst_26 : DevRef τ sig).ty.Contents (Elt F)) = Cert.ReferenceIdeal.Step.b18 j s := by
  unfold Cert.ReferenceIdeal.Step.b18
  rfl
set_option maxRecDepth 8192 in
theorem al_19 (h : Holds V0 s j) : (res_main_while0b_v71 V0 : (Proc.devRef .tc main_while0b_v71 : DevRef τ sig).ty.Contents (Elt F)) = Cert.ReferenceIdeal.Step.b19 j s := by
  unfold res_main_while0b_v71 Cert.ReferenceIdeal.Step.b19
  rw [← al_17 h, ← al_18 h]
  try rfl
set_option maxRecDepth 8192 in
theorem al_20 (h : Holds V0 s j) : (constantI S_ 32 0#32 : (Proc.devRef .tc main_while0b_c_27 : DevRef τ sig).ty.Contents (Elt F)) = Cert.ReferenceIdeal.Step.b20 j s := by
  unfold Cert.ReferenceIdeal.Step.b20
  rfl
set_option maxRecDepth 8192 in
theorem al_21 (h : Holds V0 s j) : (cmpi .slt (res_main_while0b_v70 V0) (constantI S_ 32 0#32) : (Proc.devRef .tc main_while0b_v72 : DevRef τ sig).ty.Contents (Elt F)) = Cert.ReferenceIdeal.Step.b21 j s := by
  unfold Cert.ReferenceIdeal.Step.b21
  rw [← al_16 h, ← al_20 h]
  try rfl
set_option maxRecDepth 8192 in
theorem al_22 (h : Holds V0 s j) : (constantI S_ 32 1024#32 : (Proc.devRef .tc main_while0b_c_28 : DevRef τ sig).ty.Contents (Elt F)) = Cert.ReferenceIdeal.Step.b22 j s := by
  unfold Cert.ReferenceIdeal.Step.b22
  rfl
set_option maxRecDepth 8192 in
theorem al_23 (h : Holds V0 s j) : (addi (res_main_while0b_v70 V0) (constantI S_ 32 1024#32) : (Proc.devRef .tc main_while0b_v73 : DevRef τ sig).ty.Contents (Elt F)) = Cert.ReferenceIdeal.Step.b23 j s := by
  unfold Cert.ReferenceIdeal.Step.b23
  rw [← al_16 h, ← al_22 h]
  try rfl
set_option maxRecDepth 8192 in
theorem al_24 (h : Holds V0 s j) : (select (cmpi .slt (res_main_while0b_v70 V0) (constantI S_ 32 0#32)) (addi (res_main_while0b_v70 V0) (constantI S_ 32 1024#32)) (res_main_while0b_v70 V0) : (Proc.devRef .tc main_while0b_v74 : DevRef τ sig).ty.Contents (Elt F)) = Cert.ReferenceIdeal.Step.b24 j s := by
  unfold Cert.ReferenceIdeal.Step.b24
  rw [← al_21 h, ← al_23 h, ← al_16 h]
  try rfl
set_option maxRecDepth 8192 in
theorem al_25 (h : Holds V0 s j) : (constantI S_ 32 0#32 : (Proc.devRef .tc main_while0b_c_29 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_c_30 : DevRef τ sig).ty.Contents (Elt F)) = Cert.ReferenceIdeal.Step.b26 j s := by
  unfold Cert.ReferenceIdeal.Step.b26
  rfl
set_option maxRecDepth 8192 in
theorem al_27 (h : Holds V0 s j) : (cmpi .slt (constantI S_ 32 0#32) (constantI S_ 32 0#32) : (Proc.devRef .tc main_while0b_v75 : DevRef τ sig).ty.Contents (Elt F)) = Cert.ReferenceIdeal.Step.b27 j s := by
  unfold Cert.ReferenceIdeal.Step.b27
  rw [← al_25 h, ← al_26 h]
  try rfl
set_option maxRecDepth 8192 in
theorem al_28 (h : Holds V0 s j) : (constantI S_ 32 0#32 : (Proc.devRef .tc main_while0b_c_31 : DevRef τ sig).ty.Contents (Elt F)) = Cert.ReferenceIdeal.Step.b28 j s := by
  unfold Cert.ReferenceIdeal.Step.b28
  rfl
set_option maxRecDepth 8192 in
theorem al_29 (h : Holds V0 s j) : (constantI S_ 32 2048#32 : (Proc.devRef .tc main_while0b_c_32 : DevRef τ sig).ty.Contents (Elt F)) = Cert.ReferenceIdeal.Step.b29 j s := by
  unfold Cert.ReferenceIdeal.Step.b29
  rfl
set_option maxRecDepth 8192 in
theorem al_30 (h : Holds V0 s j) : (addi (constantI S_ 32 0#32) (constantI S_ 32 2048#32) : (Proc.devRef .tc main_while0b_v76 : DevRef τ sig).ty.Contents (Elt F)) = Cert.ReferenceIdeal.Step.b30 j s := by
  unfold Cert.ReferenceIdeal.Step.b30
  rw [← al_28 h, ← al_29 h]
  try rfl
set_option maxRecDepth 8192 in
theorem al_31 (h : Holds V0 s j) : (constantI S_ 32 0#32 : (Proc.devRef .tc main_while0b_c_33 : DevRef τ sig).ty.Contents (Elt F)) = Cert.ReferenceIdeal.Step.b31 j s := by
  unfold Cert.ReferenceIdeal.Step.b31
  rfl
set_option maxRecDepth 8192 in
theorem al_32 (h : Holds V0 s j) : (select (cmpi .slt (constantI S_ 32 0#32) (constantI S_ 32 0#32)) (addi (constantI S_ 32 0#32) (constantI S_ 32 2048#32)) (constantI S_ 32 0#32) : (Proc.devRef .tc main_while0b_v77 : DevRef τ sig).ty.Contents (Elt F)) = Cert.ReferenceIdeal.Step.b32 j s := by
  unfold Cert.ReferenceIdeal.Step.b32
  rw [← al_27 h, ← al_30 h, ← al_31 h]
  try rfl
set_option maxRecDepth 8192 in
theorem al_33 (h : Holds V0 s j) : (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048 : (Proc.devRef .tc main_while0b_v78 : DevRef τ sig).ty.Contents (Elt F)) = Cert.ReferenceIdeal.Step.b33 j s := by
  unfold Cert.ReferenceIdeal.Step.b33
  rw [← al_24 h, ← al_32 h, h.f_3]
  try rfl
set_option maxRecDepth 8192 in
theorem al_34 (h : Holds V0 s j) : (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048 : (Proc.devRef .tc main_while0b_v79 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S2048 ![] bcast_S_S2048 (res_main_while0b_v71 V0) : (Proc.devRef .tc main_while0b_v80 : DevRef τ sig).ty.Contents (Elt F)) = Cert.ReferenceIdeal.Step.b35 j s := by
  unfold Cert.ReferenceIdeal.Step.b35
  rw [← al_19 h]
  try rfl
set_option maxRecDepth 8192 in
theorem al_36 (h : Holds V0 s j) : (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048) : (Proc.devRef .tc main_while0b_v81 : DevRef τ sig).ty.Contents (Elt F)) = Cert.ReferenceIdeal.Step.b36 j s := by
  unfold Cert.ReferenceIdeal.Step.b36
  rw [← al_35 h, ← al_34 h]
  try rfl
set_option maxRecDepth 8192 in
theorem al_37 (h : Holds V0 s j) : (constant S_ .f32 0x3F800000#32 : (Proc.devRef .tc main_while0b_cst_34 : DevRef τ sig).ty.Contents (Elt F)) = Cert.ReferenceIdeal.Step.b37 j s := by
  unfold Cert.ReferenceIdeal.Step.b37
  rfl
set_option maxRecDepth 8192 in
theorem al_38 (h : Holds V0 s j) : (subf (constant S_ .f32 0x3F800000#32) (res_main_while0b_v71 V0) : (Proc.devRef .tc main_while0b_v82 : DevRef τ sig).ty.Contents (Elt F)) = Cert.ReferenceIdeal.Step.b38 j s := by
  unfold Cert.ReferenceIdeal.Step.b38
  rw [← al_37 h, ← al_19 h]
  try rfl
set_option maxRecDepth 8192 in
theorem al_39 (h : Holds V0 s j) : (broadcastInDim S2048 ![] bcast_S_S2048 (subf (constant S_ .f32 0x3F800000#32) (res_main_while0b_v71 V0)) : (Proc.devRef .tc main_while0b_v83 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (mulf (broadcastInDim S2048 ![] bcast_S_S2048 (subf (constant S_ .f32 0x3F800000#32) (res_main_while0b_v71 V0))) (res_main_while0b_v64 V0) : (Proc.devRef .tc main_while0b_v84 : DevRef τ sig).ty.Contents (Elt F)) = Cert.ReferenceIdeal.Step.b40 j s := by
  unfold Cert.ReferenceIdeal.Step.b40
  rw [← al_39 h, ← al_2 h]
  try rfl
set_option maxRecDepth 8192 in
theorem al_41 (h : Holds V0 s j) : (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0)) : (Proc.devRef .tc main_while0b_v85 : DevRef τ sig).ty.Contents (Elt F)) = Cert.ReferenceIdeal.Step.b41 j s := by
  unfold Cert.ReferenceIdeal.Step.b41
  rw [← al_36 h, ← al_40 h]
  try rfl
set_option maxRecDepth 8192 in
theorem al_42 (h : Holds V0 s j) : (constantI S_ 32 0#32 : (Proc.devRef .tc main_while0b_c_35 : DevRef τ sig).ty.Contents (Elt F)) = Cert.ReferenceIdeal.Step.b42 j s := by
  unfold Cert.ReferenceIdeal.Step.b42
  rfl
set_option maxRecDepth 8192 in
theorem al_43 (h : Holds V0 s j) : (cmpi .slt (res_main_while0b_v70 V0) (constantI S_ 32 0#32) : (Proc.devRef .tc main_while0b_v86 : DevRef τ sig).ty.Contents (Elt F)) = Cert.ReferenceIdeal.Step.b43 j s := by
  unfold Cert.ReferenceIdeal.Step.b43
  rw [← al_16 h, ← al_42 h]
  try rfl
set_option maxRecDepth 8192 in
theorem al_44 (h : Holds V0 s j) : (constantI S_ 32 1024#32 : (Proc.devRef .tc main_while0b_c_36 : DevRef τ sig).ty.Contents (Elt F)) = Cert.ReferenceIdeal.Step.b44 j s := by
  unfold Cert.ReferenceIdeal.Step.b44
  rfl
set_option maxRecDepth 8192 in
theorem al_45 (h : Holds V0 s j) : (addi (res_main_while0b_v70 V0) (constantI S_ 32 1024#32) : (Proc.devRef .tc main_while0b_v87 : DevRef τ sig).ty.Contents (Elt F)) = Cert.ReferenceIdeal.Step.b45 j s := by
  unfold Cert.ReferenceIdeal.Step.b45
  rw [← al_16 h, ← al_44 h]
  try rfl
set_option maxRecDepth 8192 in
theorem al_46 (h : Holds V0 s j) : (select (cmpi .slt (res_main_while0b_v70 V0) (constantI S_ 32 0#32)) (addi (res_main_while0b_v70 V0) (constantI S_ 32 1024#32)) (res_main_while0b_v70 V0) : (Proc.devRef .tc main_while0b_v88 : DevRef τ sig).ty.Contents (Elt F)) = Cert.ReferenceIdeal.Step.b46 j s := by
  unfold Cert.ReferenceIdeal.Step.b46
  rw [← al_43 h, ← al_45 h, ← al_16 h]
  try rfl
set_option maxRecDepth 8192 in
theorem al_47 (h : Holds V0 s j) : (broadcastInDim S1 ![] bcast_S_S1 (select (cmpi .slt (res_main_while0b_v70 V0) (constantI S_ 32 0#32)) (addi (res_main_while0b_v70 V0) (constantI S_ 32 1024#32)) (res_main_while0b_v70 V0)) : (Proc.devRef .tc main_while0b_v89 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (Host.scatter scatter_S1024x2048_S1_S2048_0_0_0_0 (fun _ b => b) (V0 (Proc.devRef .tc main_v3_3)) (broadcastInDim S1 ![] bcast_S_S1 (select (cmpi .slt (res_main_while0b_v70 V0) (constantI S_ 32 0#32)) (addi (res_main_while0b_v70 V0) (constantI S_ 32 1024#32)) (res_main_while0b_v70 V0))) (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0))) : (Proc.devRef .tc main_while0b_v90 : DevRef τ sig).ty.Contents (Elt F)) = Cert.ReferenceIdeal.Step.b48 j s := by
  unfold Cert.ReferenceIdeal.Step.b48
  rw [← al_47 h, ← al_41 h, h.f_3]
  try rfl
set_option maxRecDepth 8192 in
theorem al_49 (h : Holds V0 s j) : (select (broadcastInDim S1024x2048 ![] bcast_S_S1024x2048 (shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_)) (Host.scatter scatter_S1024x2048_S1_S2048_0_0_0_0 (fun _ b => b) (V0 (Proc.devRef .tc main_v3_3)) (broadcastInDim S1 ![] bcast_S_S1 (select (cmpi .slt (res_main_while0b_v70 V0) (constantI S_ 32 0#32)) (addi (res_main_while0b_v70 V0) (constantI S_ 32 1024#32)) (res_main_while0b_v70 V0))) (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0)))) (V0 (Proc.devRef .tc main_v3_3)) : (Proc.devRef .tc main_while0b_v91 : DevRef τ sig).ty.Contents (Elt F)) = Cert.ReferenceIdeal.Step.b49 j s := by
  unfold Cert.ReferenceIdeal.Step.b49
  rw [← al_4 h, ← al_48 h, h.f_3]
  try rfl

/-! One trip's step of the carried values is `step`, field by field; a counter steps to the next number. -/

theorem step_3 (h : Holds V0 s j) : step_main_v3_3 V0 = (step j s).main_v3_3 := by
  unfold step_main_v3_3 Cert.ReferenceIdeal.Step.step
  show id (select (broadcastInDim S1024x2048 ![] bcast_S_S1024x2048 (shapeCast S_ (Host.dynamicSlice S1 (V0 (Proc.devRef .tc main_v3_1)) (fun k => (((![V0 (Proc.devRef .tc main_v3_2)] : Fin 1 → (⟨S_, .i32⟩ : BufTy).Contents (Elt F))) k (Shape.Idx.first h_S_)).toInt) sliceFits_S2048_S1) shapeCasts_S1_S_)) (Host.scatter scatter_S1024x2048_S1_S2048_0_0_0_0 (fun _ b => b) (V0 (Proc.devRef .tc main_v3_3)) (broadcastInDim S1 ![] bcast_S_S1 (select (cmpi .slt (res_main_while0b_v70 V0) (constantI S_ 32 0#32)) (addi (res_main_while0b_v70 V0) (constantI S_ 32 1024#32)) (res_main_while0b_v70 V0))) (addf (mulf (broadcastInDim S2048 ![] bcast_S_S2048 (res_main_while0b_v71 V0)) (shapeCast S2048 (Host.dynamicSlice S1x2048 (V0 (Proc.devRef .tc main_v3_3)) (fun k => (((![select (cmpi .slt (res_main_while0b_v70 V0) (constantI S_ 32 0#32)) (addi (res_main_while0b_v70 V0) (constantI S_ 32 1024#32)) (res_main_while0b_v70 V0), select (cmpi .slt (constantI S_ 32 0#32) (constantI S_ 32 0#32)) (addi (constantI S_ 32 0#32) (constantI S_ 32 2048#32)) (constantI S_ 32 0#32)] : Fin 2 → (⟨S_, .i32⟩ : BufTy).Contents (Elt F))) k (Shape.Idx.first h_S_)).toInt) sliceFits_S1024x2048_S1x2048) shapeCasts_S1x2048_S2048)) (mulf (broadcastInDim S2048 ![] bcast_S_S2048 (subf (constant S_ .f32 0x3F800000#32) (res_main_while0b_v71 V0))) (res_main_while0b_v64 V0)))) (V0 (Proc.devRef .tc main_v3_3))) = _
  exact al_49 h
theorem step_2 (h : Holds V0 s j) : step_main_v3_2 V0 = constantI S_ 32 (BitVec.ofNat 32 (j + 1)) := by
  unfold step_main_v3_2
  rw [h.n_2]
  funext i
  show BitVec.ofNat 32 j + 1#32 = BitVec.ofNat 32 (j + 1)
  simp only [BitVec.ofNat_add]

set_option maxRecDepth 8192 in
theorem out_main_v63_holds (h : Holds V0 s j) {x_main_arg0 : (⟨S2048x2048, .f32⟩ : BufTy).Contents (Elt F)} (h_main_arg0 : V0 (Proc.devRef .tc main_arg0) = x_main_arg0) {x_main_arg1 : (⟨S2048, .f32⟩ : BufTy).Contents (Elt F)} (h_main_arg1 : V0 (Proc.devRef .tc main_arg1) = x_main_arg1) : out_main_v63 V0 = Cert.ReferenceIdeal.Step.R_main_v63 s x_main_arg0 x_main_arg1 := by
  unfold out_main_v63 Cert.ReferenceIdeal.Step.R_main_v63
  rw [h.f_3, h_main_arg0, h_main_arg1]
  try rfl

/-- One trip keeps the valuation holding: `step` of the state, the same set-up values, the next number. -/
theorem holds_step (h : Holds V0 s j) : Holds (STEP V0) (step j s) (j + 1) where
  f_3 := (STEP_main_v3_3 V0).trans (step_3 h)
  n_2 := (STEP_main_v3_2 V0).trans (step_2 h)
  f_0 := (STEP_main_v3_0 V0).trans h.f_0
  f_1 := (STEP_main_v3_1 V0).trans h.f_1

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg0)) (m ((c.tc : Thread nD τ).loc main_arg1))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v63) = Cert.ReferenceIdeal.Step.R_main_v63 (it c 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 2048
    ⟨(h c).1.trans (out_main_v63_holds hk (iter_main_arg0 m c 2048) (iter_main_arg1 m c 2048)), (h c).2.1, (h c).2.2.1, (h c).2.2.2⟩) (Value.run m ρ)

end Cert.ReferenceIdeal.StepRun

end
-- ==== Proof.Frames.lean ====
/- Both programs run, end with their arguments unchanged and every counter at zero. -/
module

public import proofs.«01_k».proof.Defs
public import proofs.«01_k».proof.Proof.KernelValue
public import proofs.«01_k».proof.Proof.Choice
public import proofs.«01_k».proof.Proof.RefStepRun
public import Idealize.ShloMosaic.Lib.Quiescent

@[expose] public section

noncomputable section

namespace Cert.Proof

open Idealize.ShloMosaic Idealize.ShloMosaic.TcCoe Idealize.SL.Sem

section Kernel
open Cert.KernelIdeal Cert.KernelIdeal.Gen Cert.Proof.Scan

theorem mem_main_v0 : Proc.devRef .tc main_v0 ∈ Pipeline.ucRefs τ sig := Finset.mem_filter.mpr ⟨StableHlo.devRef_mem_tcRefs main_v0, by decide⟩
theorem mem_main_arg0 : Proc.devRef .tc main_arg0 ∈ Pipeline.ucRefs τ sig := Finset.mem_filter.mpr ⟨StableHlo.devRef_mem_tcRefs main_arg0, by decide⟩
theorem mem_main_arg1 : Proc.devRef .tc main_arg1 ∈ Pipeline.ucRefs τ sig := Finset.mem_filter.mpr ⟨StableHlo.devRef_mem_tcRefs main_arg1, by decide⟩
theorem mem_main_arg2 : Proc.devRef .tc main_arg2 ∈ Pipeline.ucRefs τ sig := Finset.mem_filter.mpr ⟨StableHlo.devRef_mem_tcRefs main_arg2, by decide⟩

/-- The kernel's run: its result, its arguments, its counters. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v0) = W4 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨h.1 c _ mem_main_v0,
      (h.1 c _ mem_main_arg0).trans (W4_arg0 m c),
      (h.1 c _ mem_main_arg1).trans (W4_arg1 m c),
      (h.1 c _ mem_main_arg2).trans (W4_arg2 m c)⟩, h.2⟩)
    (run_main m choiceOk g)

end Kernel

section Reference
open Cert.ReferenceIdeal Cert.ReferenceIdeal.Gen

/-- The reference's loop state before trip `n`. -/
def refIt (m : (ℓ : Loc nD τ sig) → Buf (Elt Ideal) ℓ) (c : Dev nD) : ℕ → Step.State Ideal
  | 0 => StepRun.initState m c
  | n + 1 => Step.step n (refIt m c n)

theorem ref_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v63) = Step.R_main_v63 (refIt m c 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨h, sem_eq_zero_of_no_sems rfl r.2⟩)
    (StepRun.run_iter m g (refIt m) (fun _ => rfl) (fun _ _ => rfl))

end Reference

section Claims
variable [hKernelIdeal : Cert.KernelIdeal.Facts] [hReferenceIdeal : Cert.ReferenceIdeal.Facts]

theorem quiescent_kernel : Cert.quiescent_KernelIdeal := fun m g _ =>
  (θ_run Cert.KernelIdeal.defs _ _).mono (fun _ h => ⟨fun c => (h.1 c).2, h.2⟩) (kernel_run m g)
theorem quiescent_reference : Cert.quiescent_ReferenceIdeal := fun m g _ =>
  (θ_run Cert.ReferenceIdeal.defs _ _).mono (fun _ h => ⟨fun c => (h.1 c).2, h.2⟩) (ref_run m g)

end Claims

end Cert.Proof

end
-- ==== Proof.Spec.lean ====
/- The scan over the reals. -/
module

public import proofs.«01_k».proof.Proof.FirstLeast
public import Mathlib.Tactic.Ring
public import Mathlib.Tactic.Linarith
public import Mathlib.Tactic.LinearCombination

@[expose] public section

noncomputable section

namespace Cert.Proof.Spec

open Cert.Proof.FirstLeast

abbrev Row := Fin 2048 → ℝ
abbrev Table := Fin 1024 → Row

def dot (a b : Row) : ℝ := ∑ d, a d * b d
/-- The squared distance of row `k` from `z`, less `|z|²`. -/
def score (P : Table) (z : Row) (k : Fin 1024) : ℝ := dot (P k) (P k) - 2 * dot z (P k)
def near (P : Table) (z : Row) : Fin 1024 := least (score P z)
/-- The table after one gated row. -/
def upd (P : Table) (z : Row) (g : ℝ) : Table :=
  Function.update P (near P z) fun d => (9/10 * g + (1 - g)) * P (near P z) d + 1/10 * g * z d
/-- The table before row `n`. -/
def tbl (Z : ℕ → Row) (g : ℕ → ℝ) (P : Table) : ℕ → Table
  | 0 => P
  | n + 1 => upd (tbl Z g P n) (Z n) (g n)

theorem dot_comm (a b : Row) : dot a b = dot b a := Finset.sum_congr rfl fun _ _ => mul_comm _ _
theorem dot_lin (w a b : Row) (x y : ℝ) : dot w (fun d => x * a d + y * b d) = x * dot w a + y * dot w b := by
  unfold dot
  rw [Finset.mul_sum, Finset.mul_sum, ← Finset.sum_add_distrib]
  exact Finset.sum_congr rfl fun _ _ => by ring
theorem lin_dot (w a b : Row) (x y : ℝ) : dot (fun d => x * a d + y * b d) w = x * dot a w + y * dot b w := by
  rw [dot_comm, dot_lin, dot_comm w a, dot_comm w b]

theorem dot_upd (P : Table) (z w : Row) (g : ℝ) (k : Fin 1024) :
    dot w (upd P z g k) = dot w (P k) + (if k = near P z then 1 else 0) * g * (1/10 * (dot w z - dot w (P k))) := by
  unfold upd
  by_cases h : k = near P z
  · subst h
    rw [Function.update_self, dot_lin, if_pos rfl]; ring
  · rw [Function.update_of_ne h, if_neg h]; ring

theorem sq_upd (P : Table) (z : Row) {g : ℝ} (hg : g = 0 ∨ g = 1) (k : Fin 1024) :
    dot (upd P z g k) (upd P z g k) = dot (P k) (P k) + (if k = near P z then 1 else 0) * g
      * ((-19/100) * dot (P k) (P k) + 18/100 * dot z (P k) + 1/100 * dot z z) := by
  unfold upd
  by_cases h : k = near P z
  · subst h
    rw [Function.update_self, dot_lin, lin_dot, lin_dot, if_pos rfl, dot_comm _ z]
    rcases hg with rfl | rfl <;> ring
  · rw [Function.update_of_ne h, if_neg h]; ring

theorem upd_apply (P : Table) (z : Row) (g : ℝ) (k : Fin 1024) (d : Fin 2048) :
    upd P z g k d = if k = near P z then (9/10 * g + (1 - g)) * P k d + 1/10 * g * z d else P k d := by
  unfold upd
  by_cases h : k = near P z
  · subst h; rw [Function.update_self, if_pos rfl]
  · rw [Function.update_of_ne h, if_neg h]

theorem upd_zero (P : Table) (z : Row) : upd P z 0 = P := by
  funext k d
  rw [upd_apply]
  split <;> ring

/-- The squared distance. -/
def sqd (a b : Row) : ℝ := ∑ d, (a d - b d) * (a d - b d)
theorem sqd_eq (a b : Row) : sqd a b = dot a a - 2 * dot b a + dot b b := by
  unfold sqd dot
  rw [Finset.mul_sum, ← Finset.sum_sub_distrib, ← Finset.sum_add_distrib]
  exact Finset.sum_congr rfl fun _ _ => by ring
theorem sqd_nonneg (a b : Row) : 0 ≤ sqd a b := Finset.sum_nonneg fun _ _ => mul_self_nonneg _

theorem near_eq_least_sqrt (P : Table) (z : Row) : near P z = least fun k => Real.sqrt (sqd (P k) z) :=
  least_congr fun i j => by
    rw [Real.sqrt_le_sqrt_iff (sqd_nonneg _ _), sqd_eq, sqd_eq]
    unfold score
    constructor <;> intro h <;> linarith

/-- Ordered reals as ordered extended reals. -/
theorem isFirst_coe {n : ℕ} {f : Fin n → ℝ} {k : Fin n} (h : IsFirst f k) : IsFirst (fun i => ((f i : ℝ) : EReal)) k :=
  h.of_le_iff fun _ _ => (EReal.coe_le_coe_iff).symm

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Proof.Spec

end
-- ==== Proof.ScanMath.lean ====
/- One trip of the scan over the reals. -/
module

public import proofs.«01_k».proof.Proof.Choice
public import proofs.«01_k».proof.Proof.Spec

@[expose] public section

noncomputable section

namespace Cert.Proof.Scan

open Cert.KernelIdeal Cert.KernelIdeal.Gen Cert.Proof.FirstLeast Cert.Proof.Spec
open Idealize.ShloMosaic Idealize.ShloMosaic.TcCoe Idealize.ShloMosaic.Tactic

/-- `X` holds the reals of `A`. -/
def Reads {m n : ℕ} (X : (⟨2, ![m, n]⟩ : Shape).Idx → EReal) (A : Fin m → Fin n → ℝ) : Prop :=
  ∀ i j, X (ix2 i j) = ((A i j : ℝ) : EReal)

theorem trips_eq : k0_t1_loop.trips = 64 := by decide
def tr (t : Fin k0_t1_loop.trips) : Fin 64 := ⟨t.val, trips_eq ▸ t.isLt⟩
theorem iv_ofNat (k : ℕ) : Scf.iv 0#32 1#32 k = BitVec.ofNat 32 k := by simp [Scf.iv]
theorem iv_toNat (t : Fin k0_t1_loop.trips) : (Scf.iv 0#32 1#32 t.val).toNat = t.val := by
  have := (tr t).isLt
  rw [iv_ofNat, BitVec.toNat_ofNat, Nat.mod_eq_of_lt]
  show t.val < _
  have h : (tr t).val = t.val := rfl
  omega

theorem allN_eq (X : Vec Ideal S1x1024 .f32) : allN X = X := by
  funext y
  have h : y = (ix2 0 (y 1) : S1x1024.Idx) := (eq_ix2 y).trans (congrArg (fun i => ix2 i (y 1)) (Subsingleton.elim (α := Fin 1) _ _))
  rw [h]
  pointwise [allN]
theorem allD_eq (X : Vec Ideal S64x1024 .f32) : allD X = X := by
  funext y
  rw [eq_ix2 y]
  pointwise [allD]
theorem allG_eq (X : Vec Ideal S64x64 .f32) : allG X = X := by
  funext y
  rw [eq_ix2 y]
  pointwise [allG]

theorem off1_eq (t : Fin k0_t1_loop.trips) : k0_off1 t = ![t.val, 0] := by
  show ![(Scf.iv 0#32 1#32 t.val).toNat, 0] = _
  rw [iv_toNat]
theorem off2_eq (t : Fin k0_t1_loop.trips) : k0_off2 t = ![t.val, 0] := by
  show ![(Scf.iv 0#32 1#32 t.val).toNat, 0] = _
  rw [iv_toNat]
theorem off3_eq (t : Fin k0_t1_loop.trips) : k0_off3 t = ![t.val, 0] := by
  show ![(Scf.iv 0#32 1#32 t.val).toNat, 0] = _
  rw [iv_toNat]
theorem off5_eq (t : Fin k0_t1_loop.trips) : k0_off5 t = ![t.val, 0] := by
  show ![(Scf.iv 0#32 1#32 t.val).toNat, 0] = _
  rw [iv_toNat]
theorem off4_eq (k : Fin 1024) : k0_off4 (BitVec.ofNat 32 k.val) = ![k.val, 0] := by
  show ![(BitVec.ofNat 32 k.val).toNat, 0] = _
  rw [BitVec.toNat_ofNat, Nat.mod_eq_of_lt (by have := k.isLt; omega)]

/-- A row of a table, loaded through a one-row rectangle. -/
theorem ld_row {m n : ℕ} (X : (⟨2, ![m, n]⟩ : Shape).Idx → Elt Ideal .f32) (off : Fin 2 → ℕ) (r : Fin m) (hoff : off = ![r.val, 0])
    (inb : ∀ a, off a + (⟨2, ![1, n]⟩ : Shape).size a ≤ (⟨2, ![m, n]⟩ : Shape).size a) (d : Fin n) :
    View.ld (Val := Elt Ideal) (e' := .f32) X (Rect.unit (s := ⟨2, ![m, n]⟩) off (⟨2, ![1, n]⟩ : Shape).size inb) (ix2 (0 : Fin 1) d) = X (ix2 r d) := by
  subst hoff
  unfold View.ld
  refine congrArg X (funext fun a => Fin.ext ?_)
  revert a
  refine fun | 0 => ?_ | 1 => ?_
  · show r.val + 1 * 0 = r.val
    omega
  · show 0 + 1 * d.val = d.val
    omega

theorem emb_row {m n : ℕ} {off : Fin 2 → ℕ} (r : Fin m) (hoff : off = ![r.val, 0])
    (inb : ∀ a, off a + (⟨2, ![1, n]⟩ : Shape).size a ≤ (⟨2, ![m, n]⟩ : Shape).size a) (d : Fin n) :
    (Rect.unit (s := ⟨2, ![m, n]⟩) off (⟨2, ![1, n]⟩ : Shape).size inb).emb (ix2 (0 : Fin 1) d : (⟨2, ![1, n]⟩ : Shape).Idx) = (ix2 r d : (⟨2, ![m, n]⟩ : Shape).Idx) := by
  subst hoff
  refine funext fun a => Fin.ext ?_
  revert a
  refine fun | 0 => ?_ | 1 => ?_
  · show r.val + 1 * 0 = r.val
    omega
  · show 0 + 1 * d.val = d.val
    omega

theorem not_mem_row {m n : ℕ} {off : Fin 2 → ℕ} (r : Fin m) (hoff : off = ![r.val, 0])
    (inb : ∀ a, off a + (⟨2, ![1, n]⟩ : Shape).size a ≤ (⟨2, ![m, n]⟩ : Shape).size a) (k : Fin m) (d : Fin n) (h : k ≠ r) :
    (ix2 k d : (⟨2, ![m, n]⟩ : Shape).Idx) ∉ (Rect.unit (s := ⟨2, ![m, n]⟩) off (⟨2, ![1, n]⟩ : Shape).size inb).set := by
  subst hoff
  intro hm
  rw [← Rect.map_emb_univ] at hm
  obtain ⟨x, -, hx⟩ := Finset.mem_map.mp hm
  have h0 : (x 0).val < 1 := (x 0).isLt
  have h1 : r.val + 1 * (x 0).val = k.val := congrArg (fun i : (⟨2, ![m, n]⟩ : Shape).Idx => (i 0).val) hx
  exact h (Fin.ext (by omega))

theorem dRow_apply (s : KS Ideal) (t : Fin k0_t1_loop.trips) (k : Fin 1024) : dRow s t (ix2 0 k) = s.d (ix2 (tr t) k) :=
  ld_row s.d _ (tr t) (off1_eq t) (k0_off1_inb t) k
theorem gateAt_apply (gb : Vec Ideal S64x1 .f32) (t : Fin k0_t1_loop.trips) : gateAt gb t (ix2 0 0) = gb (ix2 (tr t) 0) :=
  ld_row gb _ (tr t) (off2_eq t) (k0_off2_inb t) 0

variable {zb : Vec Ideal S64x2048 .f32} {gb : Vec Ideal S64x1 .f32} {gs : Vec Ideal S64x64 .f32} {s : KS Ideal}
variable {Z : Fin 64 → Row} {G : Fin 64 → ℝ} {P : Spec.Table}

/-- What the loop's state is, over the reals. -/
structure State (Z : Fin 64 → Row) (P : Spec.Table) (s : KS Ideal) : Prop where
  p : Reads (m := 1024) (n := 2048) s.p P
  n2 : Reads (m := 1) (n := 1024) s.n2 fun _ k => dot (P k) (P k)
  d : Reads (m := 64) (n := 1024) s.d fun j k => dot (Z j) (P k)

theorem word_eq (hs : State Z P s) (t : Fin k0_t1_loop.trips) :
    k0_pay6 iotaK s.n2 (dRow s t) (ix3 0 0 0) = BitVec.ofNat 32 (near P (Z (tr t))).val := by
  refine word_of_first _ _ ?_
  have h : (fun k : Fin 1024 => s.n2 (ix2 0 k) - ((2 : ℝ) : EReal) * dRow s t (ix2 0 k)) = fun k => ((score P (Z (tr t)) k : ℝ) : EReal) := by
    funext k
    rw [dRow_apply, hs.n2 0 k, hs.d (tr t) k]
    unfold score
    rw [EReal.coe_sub, EReal.coe_mul]
  rw [h]
  exact isFirst_coe (least_isFirst _)

theorem hot_eq (hs : State Z P s) (hg : Reads (m := 64) (n := 1) gb fun j _ => G j) (t : Fin k0_t1_loop.trips) (k : Fin 1024) :
    k0_pay8 iotaK s.n2 (dRow s t) (gateAt gb t) (ix2 0 k)
      = (((if k = near P (Z (tr t)) then 1 else 0) * G (tr t) : ℝ) : EReal) := by
  have h : k0_pay8 iotaK s.n2 (dRow s t) (gateAt gb t) (ix2 0 k)
      = hot (k0_pay6 iotaK s.n2 (dRow s t) (ix3 0 0 0)) k * gateAt gb t (ix2 0 0) := by
    pointwise [k0_pay8, k0_pay7, iotaK]
    rfl
  rw [h, word_eq hs t, hot_ofNat k (by decide) (by have := (near P (Z (tr t))).isLt; omega), gateAt_apply, hg (tr t) 0, EReal.coe_mul]
  congr 3
  exact propext Fin.val_inj

theorem col_eq (hgs : Reads (m := 64) (n := 64) gs fun i j => dot (Z i) (Z j)) (t : Fin k0_t1_loop.trips) (j : Fin 64) :
    k0_pay11 (F := Ideal) iotaJ 0#32 1#32 t gs (ix2 j 0) = ((dot (Z j) (Z (tr t)) : ℝ) : EReal) := by
  have h : k0_pay11 (F := Ideal) iotaJ 0#32 1#32 t gs (ix2 j 0) = ∑ x : Fin 64, gs (ix2 j x) * hot (Scf.iv 0#32 1#32 t.val) x := by
    pointwise [k0_pay11, k0_pay9, iotaJ]
    rfl
  have ht := (tr t).isLt
  rw [h, iv_ofNat]
  have hx : ∀ x : Fin 64, gs (ix2 j x) * hot (BitVec.ofNat 32 t.val) x = ((dot (Z j) (Z x) * (if x = tr t then 1 else 0) : ℝ) : EReal) := fun x => by
    rw [hgs j x, hot_ofNat (j := t.val) x (by decide) (show (tr t).val < 2048 by omega), ← EReal.coe_mul]
    congr 3
    exact propext (Fin.val_inj (a := x) (b := tr t))
  rw [Finset.sum_congr rfl fun x _ => hx x, ← coe_sum]
  simp

theorem own_eq (hgs : Reads (m := 64) (n := 64) gs fun i j => dot (Z i) (Z j)) (t : Fin k0_t1_loop.trips) :
    k0_pay10 (F := Ideal) iotaJ 0#32 1#32 t (View.ld (Val := Elt Ideal) (e' := .f32) gs (Rect.unit (s := S64x64) (k0_off3 t) S1x64.size (k0_off3_inb t)))
      = ((dot (Z (tr t)) (Z (tr t)) : ℝ) : EReal) := by
  have h : ∀ v, k0_pay10 (F := Ideal) iotaJ 0#32 1#32 t v = ∑ y : Fin 1, ∑ x : Fin 64, v (ix2 0 x) * hot (Scf.iv 0#32 1#32 t.val) x := fun v => by
    pointwise [k0_pay10, k0_pay9, iotaJ]
    rfl
  have ht := (tr t).isLt
  rw [h, iv_ofNat, Fin.sum_univ_one]
  have hx : ∀ x : Fin 64, View.ld (Val := Elt Ideal) (e' := .f32) gs (Rect.unit (s := S64x64) (k0_off3 t) S1x64.size (k0_off3_inb t)) (ix2 (0 : Fin 1) x)
      * hot (BitVec.ofNat 32 t.val) x = ((dot (Z (tr t)) (Z x) * (if x = tr t then 1 else 0) : ℝ) : EReal) := fun x => by
    rw [show View.ld (Val := Elt Ideal) (e' := .f32) gs (Rect.unit (s := S64x64) (k0_off3 t) S1x64.size (k0_off3_inb t)) (ix2 (0 : Fin 1) x)
      = gs (ix2 (tr t) x) from ld_row gs _ (tr t) (off3_eq t) (k0_off3_inb t) x,
      hgs (tr t) x, hot_ofNat (j := t.val) x (by decide) (show (tr t).val < 2048 by omega), ← EReal.coe_mul]
    congr 3
    exact propext (Fin.val_inj (a := x) (b := tr t))
  rw [Finset.sum_congr rfl fun x _ => hx x, ← coe_sum]
  simp

theorem named_mu : (Named.named κ "mu" 0x3F666666#32 : Ideal .f32) = ((9/10 : ℝ) : EReal) := IdealRules.named_const.ideal_named_scalar _ _ _ _ rfl
theorem named_omu : (Named.named κ "omu" 0x3DCCCCCD#32 : Ideal .f32) = ((1/10 : ℝ) : EReal) := IdealRules.named_const.ideal_named_scalar _ _ _ _ rfl
theorem named_musq : (Named.named κ "musq_m1" 0xBE428F5C#32 : Ideal .f32) = ((-19/100 : ℝ) : EReal) := IdealRules.named_const.ideal_named_scalar _ _ _ _ rfl
theorem named_two : (Named.named κ "two_mu_omu" 0x3E3851EC#32 : Ideal .f32) = ((9/50 : ℝ) : EReal) := IdealRules.named_const.ideal_named_scalar _ _ _ _ rfl
theorem named_sq : (Named.named κ "omu_sq" 0x3C23D70A#32 : Ideal .f32) = ((1/100 : ℝ) : EReal) := IdealRules.named_const.ideal_named_scalar _ _ _ _ rfl

theorem newP_eq (hz : Reads (m := 64) (n := 2048) zb Z) (hg : Reads (m := 64) (n := 1) gb fun j _ => G j)
    (p : Vec Ideal S1024x2048 .f32) (hp : Reads (m := 1024) (n := 2048) p P) (t : Fin k0_t1_loop.trips) (r : Fin 1024) (k : Fin 1024) (d : Fin 2048) :
    newP zb gb t p (BitVec.ofNat 32 r.val) (ix2 k d)
      = ((if k = r then (9/10 * G (tr t) + (1 - G (tr t))) * P k d + 1/10 * G (tr t) * Z (tr t) d else P k d : ℝ) : EReal) := by
  have hc := chk_of_lt r.isLt
  unfold newP
  rw [dif_pos hc]
  by_cases h : k = r
  · subst h
    rw [if_pos rfl, ← emb_row k (off4_eq k) (k0_off4_inb _ hc) d, Rect.overlay_emb]
    have hn : newRow zb gb t p (BitVec.ofNat 32 k.val) hc (ix2 0 d)
        = ((Named.named κ "mu" 0x3F666666#32 : Ideal .f32) * gateAt gb t (ix2 0 0) + (1 - gateAt gb t (ix2 0 0))) * p (ix2 k d)
          + (Named.named κ "omu" 0x3DCCCCCD#32 : Ideal .f32) * gateAt gb t (ix2 0 0) * zb (ix2 (tr t) d) := by
      unfold newRow
      rw [← ld_row p _ k (off4_eq k) (k0_off4_inb _ hc) d, ← ld_row zb _ (tr t) (off5_eq t) (k0_off5_inb t) d]
      pointwise [k0_pay4, k0_pay7]
    refine hn.trans ?_
    rw [named_mu, named_omu, gateAt_apply, hg (tr t) 0, hp k d, hz (tr t) d]
    norm_cast
  · rw [if_neg h, Rect.overlay_of_not_mem _ _ _ (not_mem_row r (off4_eq r) (k0_off4_inb _ hc) k d h), hp k d]

/-- One trip of the loop is one gated row. -/
theorem kstep_state (hz : Reads (m := 64) (n := 2048) zb Z) (hg : Reads (m := 64) (n := 1) gb fun j _ => G j)
    (hG : ∀ j, G j = 0 ∨ G j = 1) (hgs : Reads (m := 64) (n := 64) gs fun i j => dot (Z i) (Z j)) (hs : State Z P s) (t : Fin k0_t1_loop.trips) :
    State Z (upd P (Z (tr t)) (G (tr t))) (kstep iotaK iotaJ zb gb gs t s) where
  p k d := by
    show newP zb gb t s.p (word iotaK s t) (ix2 k d) = _
    unfold word
    rw [allN_eq, word_extract, word_eq hs t, newP_eq hz hg s.p hs.p t, upd_apply]
  n2 i k := by
    obtain rfl : i = 0 := Subsingleton.elim _ _
    show k0_pay2 (k0_pay5 (allN s.n2)) (dRow s t) (k0_pay8 iotaK (allN s.n2) (dRow s t) (gateAt gb t)) _ _ (ix2 0 k) = _
    rw [allN_eq, own_eq hgs]
    refine Eq.trans ?_ (congrArg _ (sq_upd P _ (hG (tr t)) k).symm)
    pointwise [k0_pay2, k0_pay5]
    rw [hot_eq hs hg, dRow_apply, hs.n2 0 k, hs.d (tr t) k, named_musq, named_two, named_sq]
    norm_num
    norm_cast
    split_ifs <;> ring
  d j k := by
    show k0_pay3 (k0_pay8 iotaK (allN s.n2) (dRow s t) (gateAt gb t)) (k0_pay11 iotaJ 0#32 1#32 t (allG gs)) (allD s.d) (ix2 j k) = _
    rw [allN_eq, allG_eq, allD_eq]
    refine Eq.trans ?_ (congrArg _ (dot_upd P _ _ _ k).symm)
    pointwise [k0_pay3]
    rw [hot_eq hs hg, col_eq hgs, hs.d j k, named_omu]
    norm_cast

end Cert.Proof.Scan

end
-- ==== Proof.BlkMath.lean ====
/- What the scan's blocks hold, over the reals. -/
module

public import proofs.«01_k».proof.Proof.ScanMath
public import proofs.«01_k».proof.Proof.KernelValue

@[expose] public section

noncomputable section

namespace Cert.Proof.Scan

open Cert.KernelIdeal Cert.KernelIdeal.Gen Cert.Proof.FirstLeast Cert.Proof.Spec
open Idealize.ShloMosaic Idealize.ShloMosaic.TcCoe Idealize.ShloMosaic.Tactic

section Loop

variable {zb : Vec Ideal S64x2048 .f32} {gb : Vec Ideal S64x1 .f32} {Zn : ℕ → Row} {gn : ℕ → ℝ} {P0 : Spec.Table} {n : ℕ}

theorem gram_eq {Z : Fin 64 → Row} (hz : Reads (m := 64) (n := 2048) zb Z) : Reads (m := 64) (n := 64) (k0_pay17 zb) fun i j => dot (Z i) (Z j) := fun i j => by
  pointwise [k0_pay17]
  unfold dot
  rw [coe_sum]
  refine Finset.sum_congr rfl fun x _ => ?_
  rw [hz i x, hz j x, EReal.coe_mul]

theorem entry_d {Z : Fin 64 → Row} {P : Spec.Table} (hz : Reads (m := 64) (n := 2048) zb Z) (p : Vec Ideal S1024x2048 .f32)
    (hp : Reads (m := 1024) (n := 2048) p P) : Reads (m := 64) (n := 1024) (k0_pay16 zb p) fun j k => dot (Z j) (P k) := fun j k => by
  pointwise [k0_pay16]
  unfold dot
  rw [coe_sum]
  refine Finset.sum_congr rfl fun x _ => ?_
  rw [hz j x, hp k x, EReal.coe_mul]

theorem kiter_state (hz : Reads (m := 64) (n := 2048) zb fun j => Zn (n + j.val)) (hg : Reads (m := 64) (n := 1) gb fun j _ => gn (n + j.val))
    (hG : ∀ i, gn i = 0 ∨ gn i = 1) (b : Blk Ideal) (hp : Reads (m := 1024) (n := 2048) b.p (tbl Zn gn P0 n))
    (hn : Reads (m := 1) (n := 1024) b.n2 fun _ k => dot (tbl Zn gn P0 n k) (tbl Zn gn P0 n k)) :
    ∀ k ≤ 64, State (fun j : Fin 64 => Zn (n + j.val)) (tbl Zn gn P0 (n + k)) (kiter iotaK iotaJ zb gb (k0_pay17 zb) (entry zb b) k)
  | 0, _ => ⟨hp, hn, entry_d hz b.p hp⟩
  | k + 1, h => by
    have ih := kiter_state hz hg hG b hp hn k (by omega)
    have := kstep_state hz hg (fun j => hG _) (gram_eq hz) ih ⟨k, by rw [trips_eq]; omega⟩
    rw [kiter_succ iotaK iotaJ zb gb (k0_pay17 zb) (entry zb b) ⟨k, by rw [trips_eq]; omega⟩]
    exact this

/-- What the four blocks are after `n` rows. -/
structure BlkState (Zn : ℕ → Row) (gn : ℕ → ℝ) (P0 : Spec.Table) (n : ℕ) (b : Blk Ideal) : Prop where
  p : Reads (m := 1024) (n := 2048) b.p (tbl Zn gn P0 n)
  n2 : Reads (m := 1) (n := 1024) b.n2 fun _ k => dot (tbl Zn gn P0 n k) (tbl Zn gn P0 n k)
  za : Reads (m := 1) (n := 2048) b.za fun _ d => ∑ r ∈ Finset.range n, (1 - gn r) * Zn r d
  cnt : Reads (m := 1) (n := 1) b.cnt fun _ _ => ∑ r ∈ Finset.range n, (1 - gn r)

theorem blk0_state (p : Vec Ideal S1024x2048 .f32) (hp : Reads (m := 1024) (n := 2048) p P0) : BlkState Zn gn P0 0 (blk0 p) where
  p := hp
  n2 i k := by
    obtain rfl : i = 0 := Subsingleton.elim _ _
    show k0_pay12 p (ix2 0 k) = _
    pointwise [k0_pay12]
    unfold dot
    rw [coe_sum]
    refine Finset.sum_congr rfl fun x _ => ?_
    rw [hp k x, EReal.coe_mul]
    rfl
  za i d := by
    obtain rfl : i = 0 := Subsingleton.elim _ _
    show k0_pay13 (F := Ideal) (ix2 0 d) = _
    pointwise [k0_pay13]
    simp
  cnt i d := by
    obtain rfl : i = 0 := Subsingleton.elim _ _
    obtain rfl : d = 0 := Subsingleton.elim _ _
    show k0_pay14 (F := Ideal) (ix2 0 0) = _
    pointwise [k0_pay14]
    simp

theorem exit_state (hz : Reads (m := 64) (n := 2048) zb fun j => Zn (n + j.val)) (hg : Reads (m := 64) (n := 1) gb fun j _ => gn (n + j.val))
    (hG : ∀ i, gn i = 0 ∨ gn i = 1) {b : Blk Ideal} (hb : BlkState Zn gn P0 n b) :
    State (fun j : Fin 64 => Zn (n + j.val)) (tbl Zn gn P0 (n + 64)) (exit zb gb b) := by
  have h := kiter_state hz hg hG b hb.p hb.n2 k0_t1_loop.trips trips_eq.le
  have e : n + k0_t1_loop.trips = n + 64 := congrArg (n + ·) trips_eq
  rw [e] at h
  unfold exit
  exact h

theorem za_step (hz : Reads (m := 64) (n := 2048) zb fun j => Zn (n + j.val)) (hg : Reads (m := 64) (n := 1) gb fun j _ => gn (n + j.val))
    (za : Vec Ideal S1x2048 .f32) (h : Reads (m := 1) (n := 2048) za fun _ d => ∑ r ∈ Finset.range n, (1 - gn r) * Zn r d) :
    Reads (m := 1) (n := 2048) (k0_pay18 zb gb za) fun _ d => ∑ r ∈ Finset.range (n + 64), (1 - gn r) * Zn r d := fun i d => by
  obtain rfl : i = 0 := Subsingleton.elim _ _
  pointwise [k0_pay18, k0_pay15]
  rw [h 0 d, Finset.sum_range_add, EReal.coe_add, ← Fin.sum_univ_eq_sum_range (fun j => (1 - gn (n + j)) * Zn (n + j) d) 64]
  refine congrArg₂ (· + ·) rfl ?_
  rw [coe_sum]
  refine Finset.sum_congr rfl fun x _ => ?_
  rw [hz x d, hg x 0]
  norm_cast

theorem cnt_step (hg : Reads (m := 64) (n := 1) gb fun j _ => gn (n + j.val))
    (cnt : Vec Ideal S1x1 .f32) (h : Reads (m := 1) (n := 1) cnt fun _ _ => ∑ r ∈ Finset.range n, (1 - gn r)) :
    Reads (m := 1) (n := 1) (k0_pay1 (k0_pay19 cnt) (k0_pay20 gb)) fun _ _ => ∑ r ∈ Finset.range (n + 64), (1 - gn r) := fun i d => by
  obtain rfl : i = 0 := Subsingleton.elim _ _
  obtain rfl : d = 0 := Subsingleton.elim _ _
  pointwise [k0_pay1, k0_pay19, k0_pay20, k0_pay15]
  rw [h 0 0, Finset.sum_range_add, EReal.coe_add, ← Fin.sum_univ_eq_sum_range (fun j => (1 - gn (n + j))) 64]
  refine congrArg₂ (· + ·) rfl ?_
  rw [coe_sum]
  refine Finset.sum_congr rfl fun x _ => ?_
  rw [Fin.sum_univ_one, hg x 0]
  norm_cast

theorem blkStep_state (hz : Reads (m := 64) (n := 2048) zb fun j => Zn (n + j.val)) (hg : Reads (m := 64) (n := 1) gb fun j _ => gn (n + j.val))
    (hG : ∀ i, gn i = 0 ∨ gn i = 1) {b : Blk Ideal} (hb : BlkState Zn gn P0 n b) : BlkState Zn gn P0 (n + 64) (blkStep zb gb b) := by
  have he := exit_state hz hg hG hb
  have h1 := za_step hz hg b.za hb.za
  have h2 := cnt_step hg b.cnt hb.cnt
  have e1 : (blkStep zb gb b).p = (exit zb gb b).p := by unfold blkStep; with_reducible rfl
  have e2 : (blkStep zb gb b).n2 = (exit zb gb b).n2 := by unfold blkStep; with_reducible rfl
  have e3 : (blkStep zb gb b).za = k0_pay18 zb gb b.za := by unfold blkStep; with_reducible rfl
  have e4 : (blkStep zb gb b).cnt = k0_pay1 (k0_pay19 b.cnt) (k0_pay20 gb) := by unfold blkStep; with_reducible rfl
  constructor
  · rw [e1]; exact he.p
  · rw [e2]; exact he.n2
  · rw [e3]; exact h1
  · rw [e4]; exact h2

end Loop

section Grid

variable (V : Val0 (F := Ideal)) (c : Dev nD) {Zn : ℕ → Row} {gn : ℕ → ℝ} {P0 : Spec.Table}

theorem blkAt_state (hz : Reads (m := 2048) (n := 2048) (V c (Proc.devRef .tc main_arg0) : Vec Ideal S2048x2048 .f32) fun r => Zn r.val)
    (hg : Reads (m := 2048) (n := 1) (V c (Proc.devRef .tc main_call0_v0) : Vec Ideal S2048x1 .f32) fun r _ => gn r.val)
    (hp : Reads (m := 1024) (n := 2048) (V c (Proc.devRef .tc main_arg2) : Vec Ideal S1024x2048 .f32) P0)
    (hG : ∀ i, gn i = 0 ∨ gn i = 1) : ∀ n ≤ 32, BlkState Zn gn P0 (64 * n) (blkAt V c n)
  | 0, _ => by
    have := blk0_state (Zn := Zn) (gn := gn) (V c (Proc.devRef .tc main_arg2) : Vec Ideal S1024x2048 .f32) hp
    rw [blkAt, pb0_eq]
    exact this
  | n + 1, h => by
    have ih := blkAt_state hz hg hp hG n (by omega)
    rw [blkAt_succ V c ⟨n, by rw [N0_eq]; omega⟩]
    refine blkStep_state (fun j d => ?_) (fun j d => ?_) hG ih
    · rw [zb0_apply V c ⟨n, by rw [N0_eq]; omega⟩ j d (by have := j.isLt; show 64 * n + _ < _; omega)]
      exact hz _ d
    · rw [gb0_apply V c ⟨n, by rw [N0_eq]; omega⟩ j d (by have := j.isLt; show 64 * n + _ < _; omega)]
      exact hg _ d

end Grid

end Cert.Proof.Scan

end
-- ==== Proof.TopThree.lean ====
/- The three nearest rows: what three masked searches pick, and what a stable sort puts first. -/
module

public import proofs.«01_k».proof.Proof.Spec
public import Idealize.ShloMosaic.Lib.SortPrefix
public import Idealize.ShloMosaic.PureOps.Ideal.Laws

@[expose] public section

noncomputable section

namespace Cert.Proof.TopThree

open Idealize.ShloMosaic Cert.Proof.FirstLeast Cert.Proof.Spec

/-- The family with its first least place taken out. -/
def out (f : Fin 1024 → EReal) : Fin 1024 → EReal := fun k => if k = least f then ⊤ else f k
/-- The places taken out first, second and third. -/
def top (f : Fin 1024 → EReal) : Fin 3 → Fin 1024 := ![least f, least (out f), least (out (out f))]

theorem pick_least (f : Fin 1024 → EReal) : pick f = BitVec.ofNat 32 (least f).val := pick_eq (least_isFirst f)

theorem hot_pick (f : Fin 1024 → EReal) (k : Fin 1024) : hot (pick f) k = (((if k = least f then 1 else 0 : ℝ)) : EReal) := by
  rw [pick_least, hot_ofNat k (by decide) (by have := (least f).isLt; omega)]
  simp only [Fin.ext_iff]

theorem out_eq (f : Fin 1024 → EReal) : (fun k => if 0 < hot (pick f) k then ⊤ else f k) = out f := by
  funext k
  rw [hot_pick]
  unfold out
  by_cases h : k = least f
  · rw [if_pos h, if_pos h, if_pos (by exact_mod_cast one_pos)]
  · rw [if_neg h, if_neg h, if_neg (by exact_mod_cast lt_irrefl _)]

/-- Before, by the key and then by the place. -/
def bef (f : Fin 1024 → ℝ) (k k' : Fin 1024) : Bool := decide (f k < f k') || (decide (f k = f k') && decide (k < k'))

theorem bef_total (f : Fin 1024 → ℝ) : StrictTotalBefore (bef f) :=
  StrictTotalBefore.of_key_then_position (fun a b : ℝ => decide (a < b)) f (fun a => by simp)
    (fun a b c h h' => by simp only [decide_eq_true_eq] at *; exact lt_trans h h')
    (fun a b => by simp only [decide_eq_true_eq]; exact lt_trichotomy a b)

theorem stableSort_bef (f : Fin 1024 → ℝ) (l : List (Fin 1024)) (hl : l.Pairwise (· < ·)) :
    stableSort (fun k k' => decide (f k < f k')) l = stableSort (bef f) l := by
  induction l with
  | nil => rfl
  | cons a l ih =>
    obtain ⟨ha, hl⟩ := List.pairwise_cons.mp hl
    unfold stableSort
    rw [ih hl]
    refine insertBefore_congr _ _ _ _ fun b hb => ?_
    have hab := ha b ((perm_stableSort _ _).mem_iff.mp hb)
    unfold bef
    rw [decide_eq_false (not_lt.mpr hab.le), Bool.and_false, Bool.or_false]

theorem sortedFrom_bef (f : Fin 1024 → ℝ) (k : Fin 1024) :
    sortedFrom (fun k k' => decide (f k < f k')) k = sortedFrom (bef f) k :=
  List.getElem_of_eq (stableSort_bef f _ (List.pairwise_lt_finRange _)) _

theorem bef_of_isFirst {f : Fin 1024 → ℝ} {m : Fin 1024 → EReal} {k p : Fin 1024} (h : IsFirst m k) (hk : m k = f k) (hp : m p = f p) :
    bef f p k = false := by
  have hle : f k ≤ f p := by have := h.1 p; rw [hk, hp] at this; exact_mod_cast this
  unfold bef
  rw [decide_eq_false (not_lt.mpr hle), Bool.false_or, Bool.and_eq_false_iff]
  by_cases hlt : p < k
  · left
    have := h.2 p hlt
    rw [hk, hp] at this
    exact decide_eq_false (ne_of_gt (by exact_mod_cast this))
  · right; exact decide_eq_false hlt

theorem least_ne_top {m : Fin 1024 → EReal} {p : Fin 1024} (hp : m p ≠ ⊤) : m (least m) ≠ ⊤ := fun h =>
  hp (top_le_iff.mp (h ▸ (least_isFirst m).1 p))

theorem out_of_ne {m : Fin 1024 → EReal} {p : Fin 1024} (h : p ≠ least m) : out m p = m p := if_neg h
theorem out_least (m : Fin 1024 → EReal) : out m (least m) = ⊤ := if_pos rfl

theorem exists_ne (a b : Fin 1024) : ∃ p, p ≠ a ∧ p ≠ b := by
  by_cases h0 : (0 : Fin 1024) ≠ a ∧ (0 : Fin 1024) ≠ b
  · exact ⟨0, h0⟩
  · by_cases h1 : (1 : Fin 1024) ≠ a ∧ (1 : Fin 1024) ≠ b
    · exact ⟨1, h1⟩
    · refine ⟨2, ?_, ?_⟩ <;> (simp only [ne_eq, Fin.ext_iff] at *; simp at *; omega)

/-- The stable sort by the key alone puts the three places first, in their order. -/
theorem sortedFrom_top (f : Fin 1024 → ℝ) (i : Fin 3) :
    sortedFrom (fun k k' => decide (f k < f k')) (i.castLE (by decide)) = top (fun k => ((f k : ℝ) : EReal)) i := by
  rw [sortedFrom_bef]
  generalize hF : (fun k => ((f k : ℝ) : EReal)) = F
  have hf : ∀ k, F k = f k := fun k => by rw [← hF]
  have hne : ∀ k, F k ≠ ⊤ := fun k => by rw [hf]; exact EReal.coe_ne_top _
  have h2 : least (out F) ≠ least F := fun h => by
    obtain ⟨p, hp, -⟩ := exists_ne (least F) (least F)
    exact least_ne_top (m := out F) (p := p) (by rw [out_of_ne hp]; exact hne p) (by rw [h, out_least])
  obtain ⟨p, hp1, hp2⟩ := exists_ne (least F) (least (out F))
  have h3 : out (out F) (least (out (out F))) ≠ ⊤ :=
    least_ne_top (p := p) (by rw [out_of_ne hp2, out_of_ne hp1]; exact hne p)
  have h32 : least (out (out F)) ≠ least (out F) := fun h => h3 (by rw [h, out_least])
  have h31 : least (out (out F)) ≠ least F := fun h => h3 (by
    rw [h, out_of_ne h2.symm, out_least])
  have v1 : ∀ k, k ≠ least F → out F k = f k := fun k h => by rw [out_of_ne h, hf]
  have v2 : ∀ k, k ≠ least F → k ≠ least (out F) → out (out F) k = f k := fun k h h' => by rw [out_of_ne h', v1 k h]
  refine (bef_total f).sortedFrom_eq_of_prefix (by decide) (top F) ?_ ?_ ?_ i
  · intro a b
    fin_cases a <;> fin_cases b <;> simp [top, h2, h32, h31, h2.symm, h32.symm, h31.symm]
  · intro a b hab
    fin_cases a <;> fin_cases b <;> first | exact absurd hab (by decide) | skip
    · exact bef_of_isFirst (least_isFirst F) (hf _) (hf _)
    · exact bef_of_isFirst (least_isFirst F) (hf _) (hf _)
    · exact bef_of_isFirst (least_isFirst (out F)) (v1 _ h2) (v1 _ h31)
  · intro a p hp
    have p0 : p ≠ least F := (hp 0).symm
    have p1 : p ≠ least (out F) := (hp 1).symm
    fin_cases a
    · exact bef_of_isFirst (least_isFirst F) (hf _) (hf _)
    · exact bef_of_isFirst (least_isFirst (out F)) (v1 _ h2) (v1 _ p0)
    · exact bef_of_isFirst (least_isFirst (out (out F))) (v2 _ h31 h32) (v2 _ p0 p1)

/-! ### The loss over the reals -/

/-- The three rows nearest to `z`. -/
def three (P : Spec.Table) (z : Row) : Fin 3 → Fin 1024 := top fun k => ((sqd (P k) z : ℝ) : EReal)
/-- Their mean. -/
def mean (P : Spec.Table) (z : Row) : Row := fun d => (∑ i, P (three P z i) d) * (1/3)
def pull (P : Spec.Table) (z : Row) : ℝ := ∑ d, (z d - mean P z d) * (z d - mean P z d)
/-- The mean of the gated-out rows, of their sum and their number. -/
def far (A : Row) (N : ℝ) : Row := fun d => A d * (1 / max N 1)
def push (A : Row) (N : ℝ) (z : Row) : ℝ := max (1 - √(sqd z (far A N))) 0

theorem hot_sum (P : Spec.Table) (f : Fin 1024 → EReal) (d : Fin 2048) :
    ∑ k, (hot (pick f) k + hot (pick (out f)) k + hot (pick (out (out f))) k) * ((P k d : ℝ) : EReal)
      = ((∑ i, P (top f i) d : ℝ) : EReal) := by
  have e : ∀ k, (hot (pick f) k + hot (pick (out f)) k + hot (pick (out (out f))) k) * ((P k d : ℝ) : EReal)
      = ((((if k = least f then 1 else 0) + (if k = least (out f) then 1 else 0) + (if k = least (out (out f)) then 1 else 0)) * P k d : ℝ) : EReal) := fun k => by
    rw [hot_pick, hot_pick, hot_pick, EReal.coe_mul, EReal.coe_add, EReal.coe_add]
  rw [Finset.sum_congr rfl fun k _ => e k, ← coe_sum]
  congr 1
  simp only [add_mul, ite_mul, one_mul, zero_mul, Finset.sum_add_distrib, Finset.sum_ite_eq', Finset.mem_univ, if_true]
  rw [Fin.sum_univ_three]
  rfl

theorem max_coe (a b : ℝ) : max (a : EReal) (b : EReal) = ((max a b : ℝ) : EReal) := (EReal.coe_strictMono.monotone.map_max).symm

theorem div_three (x : ℝ) : Ideal.div (x : EReal) ((3 : ℝ) : EReal) = ((x * (1/3) : ℝ) : EReal) := by
  rw [Ideal.div_coe (by norm_num), ← EReal.coe_mul]
theorem div_far (x N : ℝ) : Ideal.div (x : EReal) (max (N : EReal) 1) = ((x * (1 / max N 1) : ℝ) : EReal) := by
  rw [← EReal.coe_one, max_coe, Ideal.div_coe (ne_of_gt (lt_of_lt_of_le one_pos (le_max_right _ _))), ← EReal.coe_mul]

theorem sqrt_sq (x : ℝ) (h : 0 ≤ x) : Ideal.sqrt (x : EReal) = ((√x : ℝ) : EReal) := by
  rw [Ideal.sqrt_coe, if_neg (not_lt.mpr h)]
theorem push_coe (A : Row) (N : ℝ) (z : Row) : max (1 - ((√(sqd z (far A N)) : ℝ) : EReal)) 0 = ((push A N z : ℝ) : EReal) := by
  unfold push
  rw [← EReal.coe_one, ← EReal.coe_zero, ← EReal.coe_sub, max_coe]

/-- The gated-out rows' sum and number. -/
def farSum (Z : ℕ → Row) (g : ℕ → ℝ) : Row := fun d => ∑ r ∈ Finset.range 2048, (1 - g r) * Z r d
def farNum (g : ℕ → ℝ) : ℝ := ∑ r ∈ Finset.range 2048, (1 - g r)
/-- The loss summed over the first `n` rows. -/
def lossTo (Z : ℕ → Row) (g : ℕ → ℝ) (P : Spec.Table) (n : ℕ) : ℝ :=
  ∑ r ∈ Finset.range n, (1/4194304 * pull (tbl Z g P 2048) (Z r) + 1/4096 * (if 0 < farNum g then 1 else 0) * push (farSum Z g) (farNum g) (Z r))

end Cert.Proof.TopThree

end
-- ==== Proof.LossMath.lean ====
/- What the loss kernel adds up, over the reals. -/
module

public import proofs.«01_k».proof.Proof.BlkMath
public import proofs.«01_k».proof.Proof.TopThree

@[expose] public section

noncomputable section

namespace Cert.Proof.Scan

open Cert.KernelIdeal Cert.KernelIdeal.Gen Cert.Proof.FirstLeast Cert.Proof.Spec Cert.Proof.TopThree
open Idealize.ShloMosaic Idealize.ShloMosaic.TcCoe Idealize.ShloMosaic.Tactic

theorem near3_kernel (a : Vec Ideal S256x2048 .f32) (b : Vec Ideal S1024x2048 .f32) (d e : Vec Ideal S256x1024 .f32) :
    k1_pay8 (F := Ideal) a b iotaK d e (ix2 0 0) = ∑ r, ∑ c,
      (a (ix2 r c) - Ideal.div (∑ k, (d (ix2 r k) + hot (pick fun k => e (ix2 r k)) k + hot (pick (out fun k => e (ix2 r k))) k) * b (ix2 k c)) ((3 : ℝ) : EReal))
      * (a (ix2 r c) - Ideal.div (∑ k, (d (ix2 r k) + hot (pick fun k => e (ix2 r k)) k + hot (pick (out fun k => e (ix2 r k))) k) * b (ix2 k c)) ((3 : ℝ) : EReal)) := by
  pointwise [k1_pay8, iotaK]
  simp only [ofBits_three, ofBits_top]
  refine Finset.sum_congr rfl fun r _ => Finset.sum_congr rfl fun c _ => ?_
  rw [← out_eq]
  rfl

theorem pay5_eq {a : Vec Ideal S256x2048 .f32} {b : Vec Ideal S1024x2048 .f32} {c : Vec Ideal S1x1024 .f32} (r : Fin 256) (k : Fin 1024)
    {f : Fin 1024 → EReal}
    (hf : ∀ k, k1_pay3 a (ix2 r 0) + c (ix2 0 k) - Ideal.ofBits .f32 0x40000000#32 * ∑ x, a (ix2 r x) * k1_pay2 b (ix2 k x) = f k) :
    k1_pay6 (F := Ideal) a b c (ix2 r k) = hot (pick f) k := by
  pointwise [k1_pay6, k1_pay4, k1_pay5]
  simp only [hf, ofBits_top]
  rfl
theorem pay7_eq {a : Vec Ideal S256x2048 .f32} {b : Vec Ideal S1024x2048 .f32} {c : Vec Ideal S1x1024 .f32} (r : Fin 256) (k : Fin 1024)
    {f : Fin 1024 → EReal}
    (hf : ∀ k, k1_pay3 a (ix2 r 0) + c (ix2 0 k) - Ideal.ofBits .f32 0x40000000#32 * ∑ x, a (ix2 r x) * k1_pay2 b (ix2 k x) = f k) :
    k1_pay7 (F := Ideal) a b c (ix2 r k) = out f k := by
  pointwise [k1_pay7, k1_pay4, k1_pay5]
  simp only [hf, ofBits_top]
  rw [← out_eq]
  rfl
theorem pay3_eq {a : Vec Ideal S256x2048 .f32} {Z : Fin 256 → Row} (ha : Reads (m := 256) (n := 2048) a Z) (r : Fin 256) :
    k1_pay3 (F := Ideal) a (ix2 r 0) = ((dot (Z r) (Z r) : ℝ) : EReal) := by
  pointwise [k1_pay3]
  unfold dot
  rw [coe_sum]
  refine Finset.sum_congr rfl fun x _ => ?_
  rw [ha r x, EReal.coe_mul]
theorem pay2_eq (b : Vec Ideal S1024x2048 .f32) (k : Fin 1024) (d : Fin 2048) : k1_pay2 (F := Ideal) b (ix2 k d) = b (ix2 k d) := by
  pointwise [k1_pay2]
theorem pay10_eq {a : Vec Ideal S256x2048 .f32} (b : FVec Ideal S1x1 .f32) (d : Vec Ideal S1x1 .f32) (e : Vec Ideal S1x2048 .f32) (f : Vec Ideal S1x1 .f32) :
    k1_pay10 (F := Ideal) a (k1_pay3 a) b (k1_pay9 d) e f (ix2 0 0) = f (ix2 0 0) + (((1/4194304 : ℝ) : EReal) * b (ix2 0 0)
      + ((1/4096 : ℝ) : EReal) * FloatOps.sitofp (F := Ideal) .f32 (BitVec.setWidth 32 (BitVec.ofBool (decide (0 < d (ix2 0 0)))))
        * ∑ r : Fin 256, max (1 - Ideal.sqrt (max (∑ x, a (ix2 r x) * a (ix2 r x)
            - ((2 : ℝ) : EReal) * (∑ x, a (ix2 r x) * Ideal.div (e (ix2 0 x)) (max (d (ix2 0 0)) 1))
            + ∑ x, Ideal.div (e (ix2 0 x)) (max (d (ix2 0 0)) 1) * Ideal.div (e (ix2 0 x)) (max (d (ix2 0 0)) 1)) 0)) 0) := by
  pointwise [k1_pay10, k1_pay9, k1_pay3]
  simp only [Fin.sum_univ_one, ofBits_two, ofBits_pull, ofBits_push]
  try rfl

theorem flag_coe (N : ℝ) : FloatOps.sitofp (F := Ideal) .f32 (BitVec.setWidth 32 (BitVec.ofBool (decide ((0 : EReal) < (N : EReal)))))
    = ((if 0 < N then 1 else 0 : ℝ) : EReal) := by
  show (((BitVec.setWidth 32 (BitVec.ofBool (decide ((0 : EReal) < (N : EReal))))).toInt : ℝ) : EReal) = _
  by_cases h : 0 < N
  · rw [if_pos h, decide_eq_true (by exact_mod_cast h)]
    simp
  · rw [if_neg h, decide_eq_false (by exact_mod_cast h)]
    simp

/-- One block of the loss. -/
theorem lossStep_coe {zb : Vec Ideal S256x2048 .f32} {b : Blk Ideal} {acc : Vec Ideal S1x1 .f32} {Z : Fin 256 → Row} {P : Spec.Table} {A : Row} {N x : ℝ}
    (hz : Reads (m := 256) (n := 2048) zb Z) (hp : Reads (m := 1024) (n := 2048) b.p P)
    (hn : Reads (m := 1) (n := 1024) b.n2 fun _ k => dot (P k) (P k)) (ha : Reads (m := 1) (n := 2048) b.za fun _ d => A d)
    (hc : Reads (m := 1) (n := 1) b.cnt fun _ _ => N) (hx : acc (ix2 0 0) = (x : EReal)) :
    lossStep zb b acc (ix2 0 0) = ((x + (1/4194304 * ∑ r, pull P (Z r) + 1/4096 * (if 0 < N then 1 else 0) * ∑ r, push A N (Z r)) : ℝ) : EReal) := by
  have hf : ∀ r k, k1_pay3 zb (ix2 r 0) + b.n2 (ix2 0 k) - Ideal.ofBits .f32 0x40000000#32 * ∑ x, zb (ix2 r x) * k1_pay2 b.p (ix2 k x)
      = ((sqd (P k) (Z r) : ℝ) : EReal) := fun r k => by
    rw [pay3_eq hz, hn 0 k, ofBits_two]
    have e : ∑ x, zb (ix2 r x) * k1_pay2 b.p (ix2 k x) = ((dot (Z r) (P k) : ℝ) : EReal) := by
      unfold dot
      rw [coe_sum]
      refine Finset.sum_congr rfl fun x _ => ?_
      rw [pay2_eq, hz r x, hp k x, EReal.coe_mul]
    rw [e, ← EReal.coe_mul, ← EReal.coe_add, ← EReal.coe_sub, sqd_eq]
    congr 1
    ring
  have h1 : k1_pay8 zb (k1_pay2 b.p) iotaK (k1_pay6 zb b.p b.n2) (k1_pay7 zb b.p b.n2) (ix2 0 0) = ((∑ r, pull P (Z r) : ℝ) : EReal) := by
    rw [near3_kernel, coe_sum]
    refine Finset.sum_congr rfl fun r _ => ?_
    unfold pull
    rw [coe_sum]
    refine Finset.sum_congr rfl fun d _ => ?_
    have e7 : (fun k => k1_pay7 zb b.p b.n2 (ix2 r k)) = out fun k => ((sqd (P k) (Z r) : ℝ) : EReal) := funext fun k => pay7_eq r k (hf r)
    have e : ∑ k, (k1_pay6 zb b.p b.n2 (ix2 r k) + hot (pick fun k => k1_pay7 zb b.p b.n2 (ix2 r k)) k + hot (pick (out fun k => k1_pay7 zb b.p b.n2 (ix2 r k))) k) * k1_pay2 b.p (ix2 k d)
        = ((∑ i, P (three P (Z r) i) d : ℝ) : EReal) := by
      rw [e7]
      refine Eq.trans (Finset.sum_congr rfl fun k _ => ?_) (hot_sum P (fun k => ((sqd (P k) (Z r) : ℝ) : EReal)) d)
      rw [pay5_eq r k (hf r), pay2_eq, hp k d]
    rw [e, hz r d, div_three, ← EReal.coe_sub, ← EReal.coe_mul]
    rfl
  have hd : ∀ d, Ideal.div (b.za (ix2 0 d)) (max (b.cnt (ix2 0 0)) 1) = ((far A N d : ℝ) : EReal) := fun d => by
    rw [ha 0 d, hc 0 0, div_far]
    rfl
  have h2 : ∀ r : Fin 256, (∑ x, zb (ix2 r x) * zb (ix2 r x)
            - ((2 : ℝ) : EReal) * (∑ x, zb (ix2 r x) * Ideal.div (b.za (ix2 0 x)) (max (b.cnt (ix2 0 0)) 1))
            + ∑ x, Ideal.div (b.za (ix2 0 x)) (max (b.cnt (ix2 0 0)) 1) * Ideal.div (b.za (ix2 0 x)) (max (b.cnt (ix2 0 0)) 1))
      = ((sqd (Z r) (far A N) : ℝ) : EReal) := fun r => by
    have e1 : ∑ x, zb (ix2 r x) * zb (ix2 r x) = ((dot (Z r) (Z r) : ℝ) : EReal) := by
      unfold dot
      rw [coe_sum]
      refine Finset.sum_congr rfl fun x _ => ?_
      rw [hz r x, EReal.coe_mul]
    have e2 : ∑ x, zb (ix2 r x) * Ideal.div (b.za (ix2 0 x)) (max (b.cnt (ix2 0 0)) 1) = ((dot (Z r) (far A N) : ℝ) : EReal) := by
      unfold dot
      rw [coe_sum]
      refine Finset.sum_congr rfl fun x _ => ?_
      rw [hz r x, hd x, EReal.coe_mul]
    have e3 : ∑ x, Ideal.div (b.za (ix2 0 x)) (max (b.cnt (ix2 0 0)) 1) * Ideal.div (b.za (ix2 0 x)) (max (b.cnt (ix2 0 0)) 1) = ((dot (far A N) (far A N) : ℝ) : EReal) := by
      unfold dot
      rw [coe_sum]
      refine Finset.sum_congr rfl fun x _ => ?_
      rw [hd x, EReal.coe_mul]
    rw [e1, e2, e3, ← EReal.coe_mul, ← EReal.coe_sub, ← EReal.coe_add, sqd_eq, dot_comm (Z r) (far A N)]
  have h3 : ∑ r : Fin 256, max (1 - Ideal.sqrt (max (∑ x, zb (ix2 r x) * zb (ix2 r x)
            - ((2 : ℝ) : EReal) * (∑ x, zb (ix2 r x) * Ideal.div (b.za (ix2 0 x)) (max (b.cnt (ix2 0 0)) 1))
            + ∑ x, Ideal.div (b.za (ix2 0 x)) (max (b.cnt (ix2 0 0)) 1) * Ideal.div (b.za (ix2 0 x)) (max (b.cnt (ix2 0 0)) 1)) 0)) 0
      = ((∑ r, push A N (Z r) : ℝ) : EReal) := by
    rw [coe_sum]
    refine Finset.sum_congr rfl fun r _ => ?_
    rw [h2 r, ← EReal.coe_zero, max_coe, max_eq_left (sqd_nonneg _ _), sqrt_sq _ (sqd_nonneg _ _), EReal.coe_zero, push_coe]
  unfold lossStep
  rw [pay10_eq, h1, h3, hx, hc 0 0, flag_coe, ← EReal.coe_mul, ← EReal.coe_mul, ← EReal.coe_mul, ← EReal.coe_add, ← EReal.coe_add]

/-- The loss after `t` blocks. -/
theorem accAt_coe (m : (ℓ : Loc nD τ sig) → Buf (Elt Ideal) ℓ) (c : Dev nD) {Zn : ℕ → Row} {gn : ℕ → ℝ} {P0 : Spec.Table}
    (hz : Reads (m := 2048) (n := 2048) (m ((c.tc : Thread nD τ).loc main_arg0)) fun r => Zn r.val)
    (hb : BlkState Zn gn P0 2048 (blkAt (W1 m) c 32)) :
    ∀ t ≤ 8, accAt (W2 m) c t (ix2 0 0) = ((lossTo Zn gn P0 (256 * t) : ℝ) : EReal)
  | 0, _ => by
    show k1_pay1 (F := Ideal) (ix2 0 0) = _
    pointwise [k1_pay1]
    simp [lossTo]
  | t + 1, h => by
    have ht : t < cfg1.N := by rw [N1_eq]; omega
    have ih := accAt_coe m c hz hb t (by omega)
    rw [accAt_succ (W2 m) c ⟨t, ht⟩, in1_eq]
    have hzb : Reads (m := 256) (n := 2048) (zb1 (W2 m) c ⟨t, ht⟩) fun j => Zn (256 * t + j.val) := fun j d => by
      have hj := j.isLt
      rw [zb1_apply (W2 m) c ⟨t, ht⟩ j d (by show 256 * t + j.val < 2048; omega), W2_arg0]
      exact hz _ d
    rw [lossStep_coe hzb hb.p hb.n2 hb.za hb.cnt ih]
    refine congrArg _ ?_
    unfold lossTo
    rw [show 256 * (t + 1) = 256 * t + 256 by ring, Finset.sum_range_add, Finset.sum_add_distrib (s := Finset.range 256), ← Finset.mul_sum, ← Finset.mul_sum,
      Finset.sum_range (n := 256), Finset.sum_range (n := 256)]
    rfl

theorem kernel_value (m : (ℓ : Loc nD τ sig) → Buf (Elt Ideal) ℓ) (c : Dev nD) {Zn : ℕ → Row} {gn : ℕ → ℝ} {P0 : Spec.Table}
    (hz : Reads (m := 2048) (n := 2048) (m ((c.tc : Thread nD τ).loc main_arg0)) fun r => Zn r.val)
    (hg : ∀ r : Fin 2048, m ((c.tc : Thread nD τ).loc main_arg1) (ix1 r) = ((gn r.val : ℝ) : EReal))
    (hp : Reads (m := 1024) (n := 2048) (m ((c.tc : Thread nD τ).loc main_arg2)) P0) (hG : ∀ i, gn i = 0 ∨ gn i = 1) (y : S_.Idx) :
    (W4 m c (Proc.devRef .tc main_v0) : Vec Ideal S_ .f32) y = ((lossTo Zn gn P0 2048 : ℝ) : EReal) := by
  have hb : BlkState Zn gn P0 (64 * 32) (blkAt (W1 m) c 32) :=
    blkAt_state (W1 m) c (by rw [W1_arg0]; exact hz)
      (fun r j => by obtain rfl : j = 0 := Subsingleton.elim _ _; exact (W1_gate m c r).trans (hg r))
      (by rw [W1_arg2]; exact hp) hG 32 le_rfl
  rw [W4_out]
  exact accAt_coe m c hz hb 8 le_rfl

end Cert.Proof.Scan

end
-- ==== Proof.RefMath.lean ====
/- One trip of the reference's loop over the reals. -/
module

public import proofs.«01_k».proof.Proof.RefStep
public import proofs.«01_k».proof.Proof.Spec
public import Idealize.ShloMosaic.Lib.Pointwise
public import Idealize.ShloMosaic.Lib.WordCmp
public import Idealize.ShloMosaic.Lib.Routing.OpsPair
public import Idealize.ShloMosaic.Lib.Routing.OpsSet
public import Idealize.ShloMosaic.Lib.DynamicIndex
public import Idealize.ShloMosaic.PureOps.Ideal.Laws

@[expose] public section

noncomputable section

namespace Cert.Proof.RefMath

open Idealize.ShloMosaic Cert.ReferenceIdeal Cert.ReferenceIdeal.Gen Cert.ReferenceIdeal.Step Idealize.ShloMosaic.Tactic
open Cert.Proof.FirstLeast Cert.Proof.Spec

theorem slice_row {α : Type} {m n : ℕ} (x : (⟨2, ![m, n]⟩ : Shape).Idx → α) (start : Fin 2 → Int) (h : (⟨2, ![m, n]⟩ : Shape).Slices (fun _ => 0) ⟨2, ![1, n]⟩)
    (r : Fin m) (h0 : start 0 = (r.val : Int)) (h1 : start 1 = 0) (d : Fin n) :
    Host.dynamicSlice ⟨2, ![1, n]⟩ x start h (ix2 (0 : Fin 1) d) = x (ix2 r d) := by
  have hk : (⟨2, ![m, n]⟩ : Shape).Slices ![r.val, 0] ⟨2, ![1, n]⟩ := ⟨rfl, by
    refine fun | 0 => ?_ | 1 => ?_
    · show r.val + 1 ≤ m
      exact r.isLt
    · show 0 + n ≤ n
      omega⟩
  rw [WordCmp.dynamicSlice_eq_extract ⟨2, ![1, n]⟩ x start h ![r.val, 0] hk (by
    refine fun | 0 => ?_ | 1 => ?_
    · exact h0
    · exact h1)]
  unfold extractStridedSlice
  refine congrArg x (funext fun a => Fin.ext ?_)
  revert a
  refine fun | 0 => ?_ | 1 => ?_
  · show r.val + 0 = r.val
    omega
  · show 0 + d.val = d.val
    omega

theorem slice_one {α : Type} {m : ℕ} (x : (⟨1, ![m]⟩ : Shape).Idx → α) (start : Fin 1 → Int) (h : (⟨1, ![m]⟩ : Shape).Slices (fun _ => 0) ⟨1, ![1]⟩)
    (r : Fin m) (h0 : start 0 = (r.val : Int)) :
    Host.dynamicSlice ⟨1, ![1]⟩ x start h (ix1 (0 : Fin 1)) = x (ix1 r) := by
  have hk : (⟨1, ![m]⟩ : Shape).Slices ![r.val] ⟨1, ![1]⟩ := ⟨rfl, by
    refine fun | 0 => ?_
    show r.val + 1 ≤ m
    exact r.isLt⟩
  rw [WordCmp.dynamicSlice_eq_extract ⟨1, ![1]⟩ x start h ![r.val] hk (by
    refine fun | 0 => ?_
    exact h0)]
  unfold extractStridedSlice
  refine congrArg x (funext fun a => Fin.ext ?_)
  revert a
  refine fun | 0 => ?_
  show r.val + 0 = r.val
  omega

/-- One step of the printed arg-min at a real and the next real. -/
theorem argmin_step (a b : ℝ) (k n : ℕ) (hk : k < n) (hn : n < 2048) :
    reducer_argmin_f32_i32 (F := Ideal) ((a : EReal), BitVec.ofNat 32 k) ((b : EReal), BitVec.ofNat 32 n)
      = if a ≤ b then ((a : EReal), BitVec.ofNat 32 k) else ((b : EReal), BitVec.ofNat 32 n) := by
  have hs : IntOp.cmpi .slt (BitVec.ofNat 32 k) (BitVec.ofNat 32 n) = 1#1 := by
    show BitVec.ofBool ((BitVec.ofNat 32 k).slt (BitVec.ofNat 32 n)) = _
    rw [BitVec.slt, toInt_small (by omega), toInt_small hn]
    simp [hk]
  have hu : (FloatOps.cmpf (F := Ideal) (φ := .f32) .une (a : EReal) (a : EReal)) = 0#1 := by
    show BitVec.ofBool _ = _
    simp [Ideal.cmp]
  have hl : (FloatOps.cmpf (F := Ideal) (φ := .f32) .olt (a : EReal) (b : EReal)) = BitVec.ofBool (decide (a < b)) := by
    show BitVec.ofBool _ = _
    simp [Ideal.cmp]
  have he : (FloatOps.cmpf (F := Ideal) (φ := .f32) .oeq (a : EReal) (b : EReal)) = BitVec.ofBool (decide (a = b)) := by
    show BitVec.ofBool _ = _
    simp [Ideal.cmp]
  unfold reducer_argmin_f32_i32
  dsimp only
  rw [hs, hu, hl, he]
  rcases lt_trichotomy a b with h | h | h
  · rw [if_pos h.le, decide_eq_true h, decide_eq_false h.ne]
    rfl
  · subst h
    rw [if_pos le_rfl, decide_eq_false (lt_irrefl a), decide_eq_true rfl]
    rfl
  · rw [if_neg (not_le.mpr h), decide_eq_false (not_lt.mpr h.le), decide_eq_false h.ne']
    rfl

theorem argmin_start (b : ℝ) (w : BitVec 32) :
    reducer_argmin_f32_i32 (F := Ideal) ((⊤ : EReal), 0#32) ((b : EReal), w) = ((b : EReal), w) := by
  have hu : (FloatOps.cmpf (F := Ideal) (φ := .f32) .une (⊤ : EReal) (⊤ : EReal)) = 0#1 := by
    show Ideal.cmp .une (⊤ : EReal) ⊤ = _
    simp [Ideal.cmp]
  have hl : (FloatOps.cmpf (F := Ideal) (φ := .f32) .olt (⊤ : EReal) (b : EReal)) = 0#1 := by
    show Ideal.cmp .olt (⊤ : EReal) (b : EReal) = _
    simp [Ideal.cmp]
  have he : (FloatOps.cmpf (F := Ideal) (φ := .f32) .oeq (⊤ : EReal) (b : EReal)) = 0#1 := by
    show Ideal.cmp .oeq (⊤ : EReal) (b : EReal) = _
    simp [Ideal.cmp]
  unfold reducer_argmin_f32_i32
  dsimp only
  rw [hu, hl, he]
  generalize IntOp.cmpi .slt 0#32 w = c
  revert c
  have : ∀ c : BitVec 1, c = 0#1 ∨ c = 1#1 := by decide
  intro c
  rcases this c with rfl | rfl <;> rfl

theorem argmin_fold : ∀ (n : ℕ) (f : Fin (n + 1) → ℝ), n + 1 ≤ 2048 → ∃ k : Fin (n + 1), IsFirst f k ∧
    Fin.foldl (n + 1) (fun acc i => reducer_argmin_f32_i32 (F := Ideal) acc (((f i : ℝ) : EReal), BitVec.ofNat 32 i.val)) ((⊤ : EReal), 0#32)
      = (((f k : ℝ) : EReal), BitVec.ofNat 32 k.val)
  | 0, f, _ => ⟨0, ⟨fun j => by rw [Subsingleton.elim (α := Fin 1) j 0], fun j hj => absurd hj (by omega)⟩, by
      rw [Fin.foldl_succ_last, Fin.foldl_zero]
      exact argmin_start _ _⟩
  | n + 1, f, h => by
    obtain ⟨k, hk, he⟩ := argmin_fold n (fun i => f i.castSucc) (by omega)
    rw [Fin.foldl_succ_last]
    have e : Fin.foldl (n + 1) (fun acc (i : Fin (n + 1)) => reducer_argmin_f32_i32 (F := Ideal) acc (((f i.castSucc : ℝ) : EReal), BitVec.ofNat 32 i.castSucc.val)) ((⊤ : EReal), 0#32)
      = (((f k.castSucc : ℝ) : EReal), BitVec.ofNat 32 k.val) := he
    rw [e, argmin_step _ _ _ _ (by show k.val < (Fin.last (n + 1)).val; have := k.isLt; rw [Fin.val_last]; exact k.isLt) (by rw [Fin.val_last]; omega)]
    by_cases hle : f k.castSucc ≤ f (Fin.last (n + 1))
    · refine ⟨k.castSucc, ⟨fun j => ?_, fun j hj => ?_⟩, by rw [if_pos hle]; rfl⟩
      · refine Fin.lastCases hle (fun i => hk.1 i) j
      · have hj' : j.val < n + 1 := lt_trans hj k.isLt
        exact hk.2 ⟨j.val, hj'⟩ hj
    · refine ⟨Fin.last (n + 1), ⟨fun j => ?_, fun j hj => ?_⟩, by rw [if_neg hle]⟩
      · refine Fin.lastCases le_rfl (fun i => (not_le.mp hle).le.trans (hk.1 i)) j
      · have hj' : j.val < n + 1 := hj
        exact (not_le.mp hle).trans_le (hk.1 ⟨j.val, hj'⟩)

theorem argmin_apply (x : FVec Ideal S1024 .f32) (f : Fin 1024 → ℝ) (hx : ∀ k, x (ix1 k) = ((f k : ℝ) : EReal)) (i : S_.Idx) :
    (Host.argReduce (reducer_argmin_f32_i32 (F := Ideal)) x (iotaInDim S1024 32 0) (constant S_ .f32 0x7F800000#32) (constantI S_ 32 0#32)
      reducesTo_S1024_S_d0 h_S_ i).2 = BitVec.ofNat 32 (least f).val := by
  rw [Ideal.argReduce_eq_reduce2, Host.reduce2_eq_foldl_fiber]
  have hl : Host.argReduceFiber x (iotaInDim S1024 32 0) reducesTo_S1024_S_d0 i
      = (List.finRange 1024).map fun n => (((f n : ℝ) : EReal), BitVec.ofNat 32 n.val) := by
    unfold Host.argReduceFiber
    have hf : ((List.finRange S1024.numel).filter fun n => reducesTo_S1024_S_d0.drop (S1024.rowMajor.symm n) = i) = List.finRange S1024.numel :=
      List.filter_eq_self.mpr fun n _ => decide_eq_true (funext fun a => a.elim0)
    rw [hf]
    show (List.finRange 1024).map _ = _
    refine List.map_congr_left fun n _ => ?_
    have hn : S1024.rowMajor.symm n = ix1 n := by
      refine (S1024.rowMajor.symm_apply_eq).2 (Fin.ext ?_)
      rw [Shape.rowMajor_val_one]
      rfl
    rw [hn, hx]
    rfl
  rw [hl, List.foldl_map, ← Fin.foldl_eq_finRange_foldl]
  obtain ⟨k, hk, he⟩ := argmin_fold 1023 f (by norm_num)
  have e0 : ((constant S_ .f32 0x7F800000#32 : FVec Ideal S_ .f32) (Shape.Idx.first h_S_), constantI S_ 32 0#32 (Shape.Idx.first h_S_)) = ((⊤ : EReal), 0#32) :=
    congrArg (·, 0#32) ofBits_top
  rw [e0, ← hk.eq_least]
  exact congrArg Prod.snd he

section Scatter

variable (idx : IVec S1 32)

theorem sc_start0 (u : Fin 2048) : scatter_S1024x2048_S1_S2048_0_0_0_0.start (ix1 u) idx 0 = (idx (ix1 0)).toInt := by
  unfold ScatterDims.start
  rw [dif_pos (by decide)]
  refine congrArg (fun y => (idx y).toInt) (funext fun | 0 => ?_)
  exact Subsingleton.elim (α := Fin 1) _ _
theorem sc_start1 (u : Fin 2048) : scatter_S1024x2048_S1_S2048_0_0_0_0.start (ix1 u) idx 1 = 0 := by
  unfold ScatterDims.start
  rw [dif_neg (by decide)]
theorem sc_window0 (u : Fin 2048) : scatter_S1024x2048_S1_S2048_0_0_0_0.window (ix1 u) 0 = 0 := by
  unfold ScatterDims.window
  rw [dif_neg (by decide)]
theorem sc_window1 (u : Fin 2048) : scatter_S1024x2048_S1_S2048_0_0_0_0.window (ix1 u) 1 = u.val := by
  unfold ScatterDims.window
  rw [dif_pos (by decide)]
  rfl

theorem sc_lands (r : Fin 1024) (hi : (idx (ix1 0)).toInt = (r.val : Int)) (u : Fin 2048) (k : Fin 1024) (d : Fin 2048) :
    Iff (scatter_S1024x2048_S1_S2048_0_0_0_0.resultIdx? (ix1 u) idx = some (ix2 k d)) (k = r ∧ u = d) := by
  refine (Routing.resultIdx?_ix2 scatter_S1024x2048_S1_S2048_0_0_0_0 (ix1 u) idx k d).trans ?_
  rw [sc_start0, sc_start1, sc_window0, sc_window1, hi, Fin.ext_iff, Fin.ext_iff]
  omega

theorem scatter_row {α : Type} (x : S1024x2048.Idx → α) (upd : S2048.Idx → α) (r : Fin 1024) (hi : (idx (ix1 0)).toInt = (r.val : Int))
    (k : Fin 1024) (d : Fin 2048) :
    Host.scatter scatter_S1024x2048_S1_S2048_0_0_0_0 (fun _ b => b) x idx upd (ix2 k d) = if k = r then upd (ix1 d) else x (ix2 k d) := by
  by_cases h : k = r
  · rw [if_pos h]
    refine Routing.scatter_set_hit _ x idx upd _ _ (fun u hu => ?_) (ix1 d) ((sc_lands idx r hi d k d).mpr ⟨h, rfl⟩)
    rw [eq_ix1 u] at hu ⊢
    rw [((sc_lands idx r hi _ k d).mp hu).2]
  · rw [if_neg h]
    refine Routing.scatter_set_miss _ x idx upd _ fun u hu => ?_
    rw [eq_ix1 u] at hu
    exact h ((sc_lands idx r hi _ k d).mp hu).1

end Scatter

theorem ofBits_nine : Ideal.ofBits .f32 0x41100000#32 = ((9 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num

variable {Zn : ℕ → Row} {gn : ℕ → ℝ} {P0 : Spec.Table}

/-- What the reference's loop state is before row `j`. -/
structure RefState (Zn : ℕ → Row) (gn : ℕ → ℝ) (P0 : Spec.Table) (j : ℕ) (s : State Ideal) : Prop where
  p : ∀ k d, s.main_v3_3 (ix2 k d) = ((tbl Zn gn P0 j k d : ℝ) : EReal)
  z : ∀ (r : Fin 2048) d, s.main_v3_0 (ix2 r d) = ((Zn r.val d : ℝ) : EReal)
  g : ∀ r : Fin 2048, s.main_v3_1 (ix1 r) = BitVec.ofBool (decide (gn r.val ≠ 0))

theorem b33_of {j : ℕ} (s : State Ideal) (r : Fin 1024) (hr : ∀ i, (b24 j s i).toInt = (r.val : Int)) (d : Fin 2048) :
    b33 j s (ix2 0 d) = s.main_v3_3 (ix2 r d) := by
  have e : ∀ i, b32 j s i = 0#32 := fun i => rfl
  unfold b33
  generalize b24 j s = w at hr ⊢
  generalize b32 j s = w' at e ⊢
  refine slice_row s.main_v3_3 _ _ r ?_ ?_ d
  · exact hr _
  · exact congrArg BitVec.toInt (e _)

theorem b48_of {j : ℕ} (s : State Ideal) (r : Fin 1024) (hr : (b47 j s (ix1 0)).toInt = (r.val : Int)) (k : Fin 1024) (d : Fin 2048) :
    b48 j s (ix2 k d) = if k = r then b41 j s (ix1 d) else s.main_v3_3 (ix2 k d) := by
  unfold b48
  generalize b47 j s = w at hr ⊢
  generalize b41 j s = u
  exact scatter_row w s.main_v3_3 u r hr k d

section Trip

variable {j : ℕ} (hj : j < 2048) {s : State Ideal} (hs : RefState Zn gn P0 j s)
include hj hs

theorem b1_apply (d : Fin 2048) : b1 j s (ix2 0 d) = ((Zn j d : ℝ) : EReal) := by
  have h : b1 j s (ix2 0 d) = s.main_v3_0 (ix2 ⟨j, hj⟩ d) := slice_row s.main_v3_0 _ _ ⟨j, hj⟩ (toInt_small hj) rfl d
  rw [h, hs.z]

theorem b10_apply (k : Fin 1024) : b10 j s (ix1 k) = ((sqd (tbl Zn gn P0 j k) (Zn j) : ℝ) : EReal) := by
  pointwise [b10, b9, b8, b7, b6, b5, b2]
  unfold sqd
  rw [coe_sum]
  refine Finset.sum_congr rfl fun x _ => ?_
  rw [hs.p, b1_apply hj hs]
  norm_cast

theorem b16_apply (i : S_.Idx) : b16 j s i = BitVec.ofNat 32 (near (tbl Zn gn P0 j) (Zn j)).val := by
  rw [near_eq_least_sqrt]
  refine argmin_apply (b11 j s) _ (fun k => ?_) i
  have h : b11 j s (ix1 k) = Ideal.sqrt (b10 j s (ix1 k)) := by pointwise [b11]
  rw [h, b10_apply hj hs, Ideal.sqrt_coe, if_neg (not_lt.mpr (sqd_nonneg _ _))]

theorem b16_nonneg (i : S_.Idx) : 0 ≤ (b16 j s i).toInt := by
  rw [b16_apply hj hs, toInt_small (by have := (near (tbl Zn gn P0 j) (Zn j)).isLt; omega)]
  omega

theorem b24_apply (i : S_.Idx) : (b24 j s i).toInt = ((near (tbl Zn gn P0 j) (Zn j)).val : Int) := by
  have h : b24 j s i = b16 j s i := select_slt_zero_of_nonneg _ _ _ i (b16_nonneg hj hs i)
  rw [h, b16_apply hj hs, toInt_small (by have := (near (tbl Zn gn P0 j) (Zn j)).isLt; omega)]

theorem b47_apply : (b47 j s (ix1 0)).toInt = ((near (tbl Zn gn P0 j) (Zn j)).val : Int) := by
  have h : ∀ i, b46 j s i = b16 j s i := fun i => select_slt_zero_of_nonneg _ _ _ i (b16_nonneg hj hs i)
  have e : b47 j s (ix1 0) = b46 j s ix0 := by pointwise [b47]
  rw [e, h, b16_apply hj hs, toInt_small (by have := (near (tbl Zn gn P0 j) (Zn j)).isLt; omega)]

theorem b33_apply (d : Fin 2048) : b33 j s (ix2 0 d) = ((tbl Zn gn P0 j (near (tbl Zn gn P0 j) (Zn j)) d : ℝ) : EReal) := by
  have h := b33_of s _ (b24_apply hj hs) d
  rw [h, hs.p]

theorem b41_apply (d : Fin 2048) :
    b41 j s (ix1 d) = ((9/10 * tbl Zn gn P0 j (near (tbl Zn gn P0 j) (Zn j)) d + 1/10 * Zn j d : ℝ) : EReal) := by
  pointwise [b41, b40, b39, b38, b37, b36, b35, b34, b19, b18, b17, b2]
  rw [b33_apply hj hs, b1_apply hj hs, ofBits_nine, ofBits_ten, Ideal.div_coe (by norm_num), ← EReal.coe_mul]
  have h : (1 - ((9 * (1/10) : ℝ) : EReal)) = ((1/10 : ℝ) : EReal) := by
    rw [show (1 : EReal) = ((1 : ℝ) : EReal) from rfl, ← EReal.coe_sub]
    norm_num
  rw [h, ← EReal.coe_mul, ← EReal.coe_mul, ← EReal.coe_add]
  norm_num

theorem b3_apply : b3 j s (ix1 0) = BitVec.ofBool (decide (gn j ≠ 0)) := by
  have h : b3 j s (ix1 0) = s.main_v3_1 (ix1 ⟨j, hj⟩) := slice_one s.main_v3_1 _ _ ⟨j, hj⟩ (toInt_small hj)
  rw [h, hs.g]

theorem step_state (hG : gn j = 0 ∨ gn j = 1) : RefState Zn gn P0 (j + 1) (step j s) := by
  refine ⟨fun k d => ?_, hs.z, hs.g⟩
  have h : b49 j s (ix2 k d) = Scalar.select (b3 j s (ix1 0)) (b48 j s (ix2 k d)) (s.main_v3_3 (ix2 k d)) := by pointwise [b49, b4]
  have h48 := b48_of s _ (b47_apply hj hs) k d
  rw [step_main_v3_3, h, b3_apply hj hs, h48, b41_apply hj hs, hs.p]
  show _ = ((upd (tbl Zn gn P0 j) (Zn j) (gn j) k d : ℝ) : EReal)
  have eT : ∀ a b : EReal, Scalar.select (BitVec.ofBool true) a b = a := fun _ _ => rfl
  have eF : ∀ a b : EReal, Scalar.select (BitVec.ofBool false) a b = b := fun _ _ => rfl
  rcases hG with h0 | h1
  · rw [h0, upd_zero, decide_eq_false (by simp)]
    exact eF _ _
  · rw [h1, upd_apply, decide_eq_true (by norm_num)]
    refine (eT _ _).trans ?_
    generalize near (tbl Zn gn P0 j) (Zn j) = r
    by_cases hk : k = r
    · subst hk
      rw [if_pos rfl, if_pos rfl]
      refine congrArg _ ?_
      ring
    · rw [if_neg hk, if_neg hk]

end Trip

end Cert.Proof.RefMath

end
-- ==== Proof.RefTop.lean ====
/- The sort the reference takes its three nearest rows from. -/
module

public import proofs.«01_k».proof.Proof.RefStep
public import proofs.«01_k».proof.Proof.TopThree
public import Idealize.ShloMosaic.Lib.Pointwise

@[expose] public section

noncomputable section

namespace Cert.Proof.RefLoss
open Idealize.ShloMosaic Cert.ReferenceIdeal Cert.ReferenceIdeal.Gen Idealize.ShloMosaic.Tactic
open Cert.Proof.FirstLeast Cert.Proof.Spec Cert.Proof.TopThree

theorem along_one {m n : ℕ} (r : Fin m) (j k : Fin n) :
    Shape.Idx.along (s := ⟨2, ![m, n]⟩) (ix2 r j) (1 : Fin 2) k = ix2 r k := by
  unfold Shape.Idx.along
  funext a
  revert a
  refine fun | 0 => ?_ | 1 => ?_ <;> rfl

theorem sort2_apply {α β : Type} {m n : ℕ} (gt : α → α → BitVec 1) (X : (⟨2, ![m, n]⟩ : Shape).Idx → α) (Y : (⟨2, ![m, n]⟩ : Shape).Idx → β) (r : Fin m) (j : Fin n) :
    (Host.sort2 ⟨2, ![m, n]⟩ 1 (fun l r => gt l.1 r.1) X Y).2 (ix2 r j)
      = Y (ix2 r (sortedFrom (fun k k' => gt (X (ix2 r k)) (X (ix2 r k')) == 1#1) j)) := by
  have h : (1 : ℕ) < (⟨2, ![m, n]⟩ : Shape).rank := Nat.one_lt_two
  unfold Host.sort2
  rw [dif_pos h]
  have e : (fun k k' : Fin n => gt (X (Shape.Idx.along (s := ⟨2, ![m, n]⟩) (ix2 r j) (1 : Fin 2) k)) (X (Shape.Idx.along (s := ⟨2, ![m, n]⟩) (ix2 r j) (1 : Fin 2) k')) == 1#1)
      = fun k k' => gt (X (ix2 r k)) (X (ix2 r k')) == 1#1 := by
    funext k k'
    exact congrArg₂ (fun u v => gt (X u) (X v) == 1#1) (along_one r j k) (along_one r j k')
  show Y (Shape.Idx.along (s := ⟨2, ![m, n]⟩) (ix2 r j) (1 : Fin 2) (sortedFrom (fun k k' : Fin n => gt (X (Shape.Idx.along (s := ⟨2, ![m, n]⟩) (ix2 r j) (1 : Fin 2) k)) (X (Shape.Idx.along (s := ⟨2, ![m, n]⟩) (ix2 r j) (1 : Fin 2) k')) == 1#1) j)) = _
  exact (congrArg Y (along_one r j _)).trans (congrArg (fun R => Y (ix2 r (sortedFrom R j))) e)

theorem topK2_apply {α : Type} {m n t : ℕ} (gt : α → α → BitVec 1) (X : (⟨2, ![m, n]⟩ : Shape).Idx → α)
    (h : (⟨2, ![m, n]⟩ : Shape).Slices (fun _ => 0) ⟨2, ![m, t]⟩) (ht : t ≤ n) (r : Fin m) (i : Fin t) :
    (Host.topK ⟨2, ![m, t]⟩ 1 gt X h).2 (ix2 r i)
      = BitVec.ofNat 32 (sortedFrom (fun k k' => gt (X (ix2 r k)) (X (ix2 r k')) == 1#1) (i.castLE ht)).val := by
  unfold Host.topK extractStridedSlice
  refine Eq.trans (congrArg (Host.sort2 ⟨2, ![m, n]⟩ 1 (fun l r => gt l.1 r.1) X
    (fun i => if hd : 1 < (⟨2, ![m, n]⟩ : Shape).rank then iotaInDim ⟨2, ![m, n]⟩ 32 ⟨1, hd⟩ i else 0#32)).2 (a₂ := ix2 r (i.castLE ht)) ?_) ((sort2_apply gt X _ r (i.castLE ht)).trans ?_)
  · funext a
    revert a
    refine fun | 0 => ?_ | 1 => ?_
    · exact Fin.ext (Nat.zero_add _)
    · exact Fin.ext (Nat.zero_add _)
  · rw [dif_pos (show (1 : ℕ) < (⟨2, ![m, n]⟩ : Shape).rank from Nat.one_lt_two)]
    rfl

theorem topK_apply (X : Vec Ideal S2048x1024 .f32) (q : Fin 2048 → Fin 1024 → ℝ) (hq : ∀ r k, 0 ≤ q r k)
    (hX : ∀ r k, X (ix2 r k) = ((-(√(q r k)) : ℝ) : EReal)) (r : Fin 2048) (i : Fin 3) :
    (Host.topK S2048x3 1 (FloatOps.cmpfTotal (F := Ideal) (φ := .f32) .gt) X sliceFits_S2048x1024_S2048x3).2 (ix2 r i)
      = BitVec.ofNat 32 (top (fun k => ((q r k : ℝ) : EReal)) i).val := by
  have hc : (fun k k' : Fin 1024 => FloatOps.cmpfTotal (F := Ideal) (φ := .f32) .gt (X (ix2 r k)) (X (ix2 r k')) == 1#1)
      = fun k k' => decide (q r k < q r k') := by
    funext k k'
    rw [hX, hX]
    show (BitVec.ofBool (decide (((-(√(q r k')) : ℝ) : EReal) < ((-(√(q r k)) : ℝ) : EReal))) == 1#1) = _
    have e : Iff (((-(√(q r k')) : ℝ) : EReal) < ((-(√(q r k)) : ℝ) : EReal)) (q r k < q r k') := by
      rw [EReal.coe_lt_coe_iff, neg_lt_neg_iff, Real.sqrt_lt_sqrt_iff (hq r k)]
    by_cases h : q r k < q r k'
    · rw [decide_eq_true (e.mpr h), decide_eq_true h]; rfl
    · rw [decide_eq_false (fun h' => h (e.mp h')), decide_eq_false h]; rfl
  rw [← sortedFrom_top, ← hc]
  exact topK2_apply _ X sliceFits_S2048x1024_S2048x3 (by decide) r i

end Cert.Proof.RefLoss
end
-- ==== Proof.RefLoss.lean ====
/- What the reference makes of the loop's last state, over the reals. -/
module

public import proofs.«01_k».proof.Proof.RefMath
public import proofs.«01_k».proof.Proof.RefTop

@[expose] public section

noncomputable section

namespace Cert.Proof.RefLoss

open Idealize.ShloMosaic Cert.ReferenceIdeal Cert.ReferenceIdeal.Gen Cert.ReferenceIdeal.Step Idealize.ShloMosaic.Tactic
open Cert.Proof.FirstLeast Cert.Proof.Spec Cert.Proof.TopThree Cert.Proof.RefMath

theorem gather_row (x : Vec Ideal S1024x2048 .f32) (idx : IVec S2048x3x1 32) (r : Fin 2048) (i : Fin 3) (c : Fin 2048) (k : Fin 1024)
    (h : idx (ix3 r i 0) = BitVec.ofNat 32 k.val) :
    Host.gather gather_S1024x2048_S2048x3x1_S2048x3x2048_2_0_n_n_0_2_12048 x idx (ix3 r i c) = x (ix2 k c) := by
  have hsi : gather_S1024x2048_S2048x3x1_S2048x3x2048_2_0_n_n_0_2_12048.siIdx (ix3 r i c) ⟨0, by decide⟩ = ix3 r i 0 := by
    funext b
    revert b
    refine fun | 0 => ?_ | 1 => ?_ | 2 => ?_
    · rfl
    · rfl
    · rfl
  have h0 : gather_S1024x2048_S2048x3x1_S2048x3x2048_2_0_n_n_0_2_12048.start (ix3 r i c) idx 0 = k.val := by
    unfold GatherDims.start
    rw [dif_pos (by decide)]
    refine Eq.trans (congrArg (fun y => min (idx y).toInt.toNat (1024 - 1)) hsi) ?_
    show min (idx (ix3 r i 0)).toInt.toNat (1024 - 1) = k.val
    have hk := k.isLt
    rw [h, toInt_small (by omega)]
    omega
  have h1 : gather_S1024x2048_S2048x3x1_S2048x3x2048_2_0_n_n_0_2_12048.start (ix3 r i c) idx 1 = 0 := by
    unfold GatherDims.start
    rw [dif_neg (by decide)]
  have b : ∀ a, gather_S1024x2048_S2048x3x1_S2048x3x2048_2_0_n_n_0_2_12048.batchCoord (ix3 r i c) a = 0 := fun a =>
    GatherDims.batchCoord_eq_zero _ _ _ (List.not_mem_nil)
  have o0 : gather_S1024x2048_S2048x3x1_S2048x3x2048_2_0_n_n_0_2_12048.offCoord (ix3 r i c) 0 = 0 :=
    GatherDims.offCoord_eq_zero _ _ _ (by decide)
  have o1 : gather_S1024x2048_S2048x3x1_S2048x3x2048_2_0_n_n_0_2_12048.offCoord (ix3 r i c) 1 = c.val := by
    unfold GatherDims.offCoord
    rw [dif_pos (by decide)]
    rfl
  unfold Host.gather
  refine congrArg x (funext fun a => Fin.ext ?_)
  unfold GatherDims.operandIdx
  revert a
  refine fun | 0 => ?_ | 1 => ?_
  · show GatherDims.start _ _ _ 0 + GatherDims.batchCoord _ _ 0 + GatherDims.offCoord _ _ 0 = k.val
    rw [h0, b, o0]
    omega
  · show GatherDims.start _ _ _ 1 + GatherDims.batchCoord _ _ 1 + GatherDims.offCoord _ _ 1 = c.val
    rw [h1, b, o1]
    omega
/-- The keys the reference sorts by. -/
def keys (p : FVec Ideal S1024x2048 .f32) (z : FVec Ideal S2048x2048 .f32) : FVec Ideal S2048x1024 .f32 :=
  Host.negf (Host.sqrt (maximumf (subf (addf (broadcastInDim S2048x1024 ![0, 1] bcast_S2048x1_S2048x1024_0_1 (broadcastInDim S2048x1 ![0] bcast_S2048_S2048x1_0 (Host.reduceAdd (mulf (z) (z)) (constant S_ .f32 0x00000000#32) reducesTo_S2048x2048_S2048_d1 h_S_))) (broadcastInDim S2048x1024 ![0, 1] bcast_S1x1024_S2048x1024_0_1 (broadcastInDim S1x1024 ![1] bcast_S1024_S1x1024_1 (Host.reduceAdd (mulf (p) (p)) (constant S_ .f32 0x00000000#32) reducesTo_S1024x2048_S1024_d1 h_S_)))) (mulf (broadcastInDim S2048x1024 ![] bcast_S_S2048x1024 (constant S_ .f32 0x40000000#32)) (Host.dotGeneral dot_S2048x2048_S2048x1024_S2048x1024_1_0_0_1_n_n none (z) (transpose S2048x1024 [1, 0] (p) transposes_S1024x2048_S2048x1024_1_0)))) (broadcastInDim S2048x1024 ![] bcast_S_S2048x1024 (constant S_ .f32 0x00000000#32))))
/-- The three rows' numbers. -/
def order (p : FVec Ideal S1024x2048 .f32) (z : FVec Ideal S2048x2048 .f32) : IVec S2048x3 32 :=
  (Host.topK S2048x3 1 (FloatOps.cmpfTotal (F := Ideal) (φ := .f32) .gt) (keys p z) sliceFits_S2048x1024_S2048x3).2
def orderIdx (p : FVec Ideal S1024x2048 .f32) (z : FVec Ideal S2048x2048 .f32) : IVec S2048x3x1 32 :=
  broadcastInDim S2048x3x1 ![0, 1] bcast_S2048x3_S2048x3x1_0_1 (select (cmpi .slt (order p z) (broadcastInDim S2048x3 ![] bcast_S_S2048x3 (constantI S_ 32 0#32))) (addi (order p z) (broadcastInDim S2048x3 ![] bcast_S_S2048x3 (constantI S_ 32 1024#32))) (order p z))
def rows (p : FVec Ideal S1024x2048 .f32) (z : FVec Ideal S2048x2048 .f32) : FVec Ideal S2048x3x2048 .f32 :=
  Host.gather gather_S1024x2048_S2048x3x1_S2048x3x2048_2_0_n_n_0_2_12048 p (orderIdx p z)
def anom (g : FVec Ideal S2048 .f32) : FVec Ideal S2048 .f32 :=
  uitofp .f32 (noti (id (cmpf (F := Ideal) .une (g) (broadcastInDim S2048 ![] bcast_S_S2048 (constant S_ .f32 0x00000000#32)))))
def count (g : FVec Ideal S2048 .f32) : FVec Ideal S_ .f32 :=
  Host.reduceAdd (anom g) (constant S_ .f32 0x00000000#32) reducesTo_S2048_S_d0 h_S_
def farV (a : FVec Ideal S2048 .f32) (n : FVec Ideal S_ .f32) (z : FVec Ideal S2048x2048 .f32) : FVec Ideal S2048 .f32 :=
  Host.divf (Host.reduceAdd (mulf (z) (broadcastInDim S2048x2048 ![0, 1] bcast_S2048x1_S2048x2048_0_1 (broadcastInDim S2048x1 ![0] bcast_S2048_S2048x1_0 a))) (constant S_ .f32 0x00000000#32) reducesTo_S2048x2048_S2048_d0 h_S_) (broadcastInDim S2048 ![] bcast_S_S2048 (maximumf n (constant S_ .f32 0x3F800000#32)))
def pullV (q : FVec Ideal S2048x3x2048 .f32) (z : FVec Ideal S2048x2048 .f32) : FVec Ideal S_ .f32 :=
  Host.divf (Host.reduceAdd (mulf (subf z (Host.divf (Host.reduceAdd q (constant S_ .f32 0x00000000#32) reducesTo_S2048x3x2048_S2048x2048_d1 h_S_) (broadcastInDim S2048x2048 ![] bcast_S_S2048x2048 (constant S_ .f32 0x40400000#32)))) (subf z (Host.divf (Host.reduceAdd q (constant S_ .f32 0x00000000#32) reducesTo_S2048x3x2048_S2048x2048_d1 h_S_) (broadcastInDim S2048x2048 ![] bcast_S_S2048x2048 (constant S_ .f32 0x40400000#32))))) (constant S_ .f32 0x00000000#32) reducesTo_S2048x2048_S_d0_1 h_S_) (constant S_ .f32 0x4A800000#32)
def pushV (f : FVec Ideal S2048 .f32) (z : FVec Ideal S2048x2048 .f32) : FVec Ideal S_ .f32 :=
  Host.divf (Host.reduceAdd (maximumf (subf (broadcastInDim S2048 ![] bcast_S_S2048 (constant S_ .f32 0x3F800000#32)) (Host.sqrt (Host.reduceAdd (mulf (subf z (broadcastInDim S2048x2048 ![0, 1] bcast_S1x2048_S2048x2048_0_1 (broadcastInDim S1x2048 ![1] bcast_S2048_S1x2048_1 f))) (subf z (broadcastInDim S2048x2048 ![0, 1] bcast_S1x2048_S2048x2048_0_1 (broadcastInDim S1x2048 ![1] bcast_S2048_S1x2048_1 f)))) (constant S_ .f32 0x00000000#32) reducesTo_S2048x2048_S2048_d1 h_S_))) (broadcastInDim S2048 ![] bcast_S_S2048 (constant S_ .f32 0x00000000#32))) (constant S_ .f32 0x00000000#32) reducesTo_S2048_S_d0 h_S_) (constant S_ .f32 0x45000000#32)
def lossV (p n h : FVec Ideal S_ .f32) : FVec Ideal S_ .f32 :=
  addf (mulf (constant S_ .f32 0x3F800000#32) p) (mulf (constant S_ .f32 0x3F000000#32) (select (cmpf (F := Ideal) .ogt n (constant S_ .f32 0x00000000#32)) h (constant S_ .f32 0x00000000#32)))

theorem main_v63_eq (s : State Ideal) (z : FVec Ideal S2048x2048 .f32) (g : FVec Ideal S2048 .f32) :
    R_main_v63 s z g = lossV (pullV (rows s.main_v3_3 z) z) (count g) (pushV (farV (anom g) (count g) z) z) := by
  unfold R_main_v63 lossV pullV pushV farV count anom rows orderIdx order keys
  rfl

variable {Zn : ℕ → Row} {gn : ℕ → ℝ} {P : Spec.Table} {p : FVec Ideal S1024x2048 .f32} {z : FVec Ideal S2048x2048 .f32} {g : FVec Ideal S2048 .f32}

theorem dot_coe {a b : Fin 2048 → EReal} {x y : Row} (ha : ∀ d, a d = ((x d : ℝ) : EReal)) (hb : ∀ d, b d = ((y d : ℝ) : EReal)) :
    ∑ d, a d * b d = ((dot x y : ℝ) : EReal) := by
  unfold dot
  rw [coe_sum]
  refine Finset.sum_congr rfl fun d _ => ?_
  rw [ha d, hb d, EReal.coe_mul]

theorem keys_apply (hz : ∀ r d, z (ix2 r d) = ((Zn r.val d : ℝ) : EReal)) (hp : ∀ k d, p (ix2 k d) = ((P k d : ℝ) : EReal)) (r : Fin 2048) (k : Fin 1024) :
    keys p z (ix2 r k) = ((-(√(sqd (P k) (Zn r.val))) : ℝ) : EReal) := by
  pointwise [keys]
  rw [dot_coe (hz r) (hz r), dot_coe (hp k) (hp k), dot_coe (hz r) (hp k), ofBits_two, ← EReal.coe_mul, ← EReal.coe_add, ← EReal.coe_sub,
    show dot (Zn r.val) (Zn r.val) + dot (P k) (P k) - 2 * dot (Zn r.val) (P k) = sqd (P k) (Zn r.val) by rw [sqd_eq]; ring,
    ← EReal.coe_zero, max_coe, max_eq_left (sqd_nonneg _ _), sqrt_sq _ (sqd_nonneg _ _), EReal.coe_neg]

theorem order_apply (hz : ∀ r d, z (ix2 r d) = ((Zn r.val d : ℝ) : EReal)) (hp : ∀ k d, p (ix2 k d) = ((P k d : ℝ) : EReal)) (r : Fin 2048) (i : Fin 3) :
    orderIdx p z (ix3 r i 0) = BitVec.ofNat 32 (three P (Zn r.val) i).val := by
  have e : order p z (ix2 r i) = BitVec.ofNat 32 (three P (Zn r.val) i).val :=
    topK_apply (keys p z) (fun r k => sqd (P k) (Zn r.val)) (fun _ _ => sqd_nonneg _ _) (keys_apply hz hp) r i
  pointwise [orderIdx]
  have hk := (three P (Zn r.val) i).isLt
  rw [e, Routing.wrap_of_lt _ _ (by rw [BitVec.toNat_ofNat, Nat.mod_eq_of_lt (by omega)]; norm_num; omega)]

theorem rows_apply (hz : ∀ r d, z (ix2 r d) = ((Zn r.val d : ℝ) : EReal)) (hp : ∀ k d, p (ix2 k d) = ((P k d : ℝ) : EReal)) (r : Fin 2048) (i : Fin 3) (d : Fin 2048) :
    rows p z (ix3 r i d) = ((P (three P (Zn r.val) i) d : ℝ) : EReal) := by
  unfold rows
  rw [gather_row p (orderIdx p z) r i d _ (order_apply hz hp r i), hp]

theorem anom_apply (hg : ∀ r, g (ix1 r) = ((gn r.val : ℝ) : EReal)) (hG : ∀ i, gn i = 0 ∨ gn i = 1) (r : Fin 2048) :
    anom g (ix1 r) = ((1 - gn r.val : ℝ) : EReal) := by
  unfold anom id
  pointwise
  rw [hg r]
  show (((~~~BitVec.ofBool (decide (((gn r.val : ℝ) : EReal) ≠ 0))).toNat : ℝ) : EReal) = _
  rcases hG r.val with h | h
  · rw [h]; simp
  · rw [h]; simp

theorem count_apply (hg : ∀ r, g (ix1 r) = ((gn r.val : ℝ) : EReal)) (hG : ∀ i, gn i = 0 ∨ gn i = 1) (y : S_.Idx) :
    count g y = ((farNum gn : ℝ) : EReal) := by
  obtain rfl : y = ix0 := funext fun a => a.elim0
  pointwise [count]
  unfold farNum
  rw [Finset.sum_range, coe_sum]
  exact Finset.sum_congr rfl fun r _ => anom_apply hg hG r

theorem far_apply (hz : ∀ r d, z (ix2 r d) = ((Zn r.val d : ℝ) : EReal)) (hg : ∀ r, g (ix1 r) = ((gn r.val : ℝ) : EReal)) (hG : ∀ i, gn i = 0 ∨ gn i = 1) (d : Fin 2048) :
    farV (anom g) (count g) z (ix1 d) = ((far (farSum Zn gn) (farNum gn) d : ℝ) : EReal) := by
  pointwise [farV]
  have e : ∑ x, z (ix2 x d) * anom g (ix1 x) = ((farSum Zn gn d : ℝ) : EReal) := by
    unfold farSum
    rw [Finset.sum_range, coe_sum]
    refine Finset.sum_congr rfl fun r _ => ?_
    rw [hz r d, anom_apply hg hG r, ← EReal.coe_mul, mul_comm]
  rw [e, count_apply hg hG, div_far]
  rfl

theorem pull_apply {q : FVec Ideal S2048x3x2048 .f32} (hz : ∀ r d, z (ix2 r d) = ((Zn r.val d : ℝ) : EReal))
    (hq : ∀ r i d, q (ix3 r i d) = ((P (three P (Zn r.val) i) d : ℝ) : EReal)) :
    pullV q z ix0 = (((∑ r ∈ Finset.range 2048, pull P (Zn r)) * (1/4194304) : ℝ) : EReal) := by
  pointwise [pullV]
  rw [ofBits_three, ofBits_all, Ideal.div_coe (by norm_num), EReal.coe_mul]
  refine congrArg (· * (((1/4194304 : ℝ)) : EReal)) ?_
  rw [Finset.sum_range, coe_sum]
  refine Finset.sum_congr rfl fun r _ => ?_
  unfold pull
  rw [coe_sum]
  refine Finset.sum_congr rfl fun d _ => ?_
  have e : ∑ i, q (ix3 r i d) = ((∑ i, P (three P (Zn r.val) i) d : ℝ) : EReal) := by
    rw [coe_sum]
    exact Finset.sum_congr rfl fun i _ => hq r i d
  rw [e, hz r d, div_three, ← EReal.coe_sub, ← EReal.coe_mul]
  rfl

theorem push_apply {f : FVec Ideal S2048 .f32} {A : Row} {N : ℝ} (hz : ∀ r d, z (ix2 r d) = ((Zn r.val d : ℝ) : EReal))
    (hf : ∀ d, f (ix1 d) = ((far A N d : ℝ) : EReal)) :
    pushV f z ix0 = (((∑ r ∈ Finset.range 2048, push A N (Zn r)) * (1/2048) : ℝ) : EReal) := by
  pointwise [pushV]
  rw [ofBits_2048, Ideal.div_coe (by norm_num), EReal.coe_mul]
  refine congrArg (· * (((1/2048 : ℝ)) : EReal)) ?_
  rw [Finset.sum_range, coe_sum]
  refine Finset.sum_congr rfl fun r _ => ?_
  have e : ∑ d, (z (ix2 r d) - f (ix1 d)) * (z (ix2 r d) - f (ix1 d)) = ((sqd (Zn r.val) (far A N) : ℝ) : EReal) := by
    unfold sqd
    rw [coe_sum]
    refine Finset.sum_congr rfl fun d _ => ?_
    rw [hz r d, hf d, ← EReal.coe_sub, ← EReal.coe_mul]
  rw [e, sqrt_sq _ (sqd_nonneg _ _), push_coe]

theorem main_value {s : State Ideal} {P0 : Spec.Table} (hs : ∀ k d, s.main_v3_3 (ix2 k d) = ((tbl Zn gn P0 2048 k d : ℝ) : EReal))
    (hz : ∀ r d, z (ix2 r d) = ((Zn r.val d : ℝ) : EReal)) (hg : ∀ r, g (ix1 r) = ((gn r.val : ℝ) : EReal)) (hG : ∀ i, gn i = 0 ∨ gn i = 1) (y : S_.Idx) :
    R_main_v63 s z g y = ((lossTo Zn gn P0 2048 : ℝ) : EReal) := by
  obtain rfl : y = ix0 := funext fun a => a.elim0
  rw [main_v63_eq]
  pointwise [lossV]
  rw [pull_apply hz (rows_apply hz hs), push_apply hz (far_apply hz hg hG), count_apply hg hG, ofBits_half]
  unfold lossTo
  rw [Finset.sum_add_distrib, ← Finset.mul_sum, ← Finset.mul_sum]
  by_cases h : 0 < farNum gn
  · rw [if_pos (by exact_mod_cast h), if_pos h, ← EReal.coe_mul, ← EReal.coe_add]
    refine congrArg _ ?_
    ring
  · rw [if_neg (by exact_mod_cast h), if_neg h, mul_zero, add_zero]
    refine congrArg _ ?_
    ring

end Cert.Proof.RefLoss

end
-- ==== Proof.Value.lean ====
/- The kernel's scalar is the reference's, for finite rows and gates that are zero or one. -/
module

public import proofs.«01_k».proof.Defs
public import proofs.«01_k».proof.Proof.Gen.Pre_finite_gated
public import proofs.«01_k».proof.Proof.Frames
public import proofs.«01_k».proof.Proof.LossMath
public import proofs.«01_k».proof.Proof.RefLoss

@[expose] public section

noncomputable section

namespace Cert.Proof

open Idealize.ShloMosaic Idealize.ShloMosaic.TcCoe Idealize.ShloMosaic.Tactic Idealize.SL.Sem
open Cert.Proof.FirstLeast Cert.Proof.Spec Cert.Proof.TopThree

/-! ### What the precondition says of one element -/

theorem bit_and {a b : Bool} (h : BitVec.ofBool a &&& BitVec.ofBool b = 1#1) : a = true ∧ b = true := by
  revert h; cases a <;> cases b <;> decide
theorem bit_or {a b : Bool} (h : BitVec.ofBool a ||| BitVec.ofBool b = 1#1) : a = true ∨ b = true := by
  revert h; cases a <;> cases b <;> decide

theorem ofBits_bot : Ideal.ofBits .f32 0xFF800000#32 = ⊥ := by simp [Ideal.ofBits, Ideal.ieee]
theorem ofBits_one : Ideal.ofBits .f32 0x3F800000#32 = 1 := by
  rw [← EReal.coe_one]
  simp [Ideal.ofBits, Ideal.ieee, -EReal.coe_mul, -EReal.coe_one]
  norm_num

theorem real_of {x : EReal} (h : BitVec.ofBool (decide (⊥ < x)) &&& BitVec.ofBool (decide (x < ⊤)) = 1#1) : x = ((x.toReal : ℝ) : EReal) := by
  obtain ⟨h1, h2⟩ := bit_and h
  exact (EReal.coe_toReal (ne_of_lt (of_decide_eq_true h2)) (ne_of_gt (of_decide_eq_true h1))).symm
theorem gate_of {x : EReal} (h : BitVec.ofBool (decide (x = 0)) ||| BitVec.ofBool (decide (x = 1)) = 1#1) : x = 0 ∨ x = 1 :=
  (bit_or h).imp of_decide_eq_true of_decide_eq_true

section Pre
open Cert.Pre_finite_gated

variable [Cert.Pre_finite_gated.Facts]

theorem pre_z {z : FVec Ideal S2048x2048 .f32} {g : FVec Ideal S2048 .f32} {p : FVec Ideal S1024x2048 .f32}
    (h : (fn z g p).1 = fun _ => 1#1) (r d : Fin 2048) : z (ix2 r d) = (((z (ix2 r d)).toReal : ℝ) : EReal) := by
  have e := congrFun h (ix2 r d)
  have e' : BitVec.ofBool (decide (Ideal.ofBits .f32 0xFF800000#32 < z (ix2 r d))) &&& BitVec.ofBool (decide (z (ix2 r d) < Ideal.ofBits .f32 0x7F800000#32)) = 1#1 := e
  rw [ofBits_bot, ofBits_top] at e'
  exact real_of e'
theorem pre_p {z : FVec Ideal S2048x2048 .f32} {g : FVec Ideal S2048 .f32} {p : FVec Ideal S1024x2048 .f32}
    (h : (fn z g p).2.2 = fun _ => 1#1) (k : Fin 1024) (d : Fin 2048) : p (ix2 k d) = (((p (ix2 k d)).toReal : ℝ) : EReal) := by
  have e := congrFun h (ix2 k d)
  have e' : BitVec.ofBool (decide (Ideal.ofBits .f32 0xFF800000#32 < p (ix2 k d))) &&& BitVec.ofBool (decide (p (ix2 k d) < Ideal.ofBits .f32 0x7F800000#32)) = 1#1 := e
  rw [ofBits_bot, ofBits_top] at e'
  exact real_of e'
theorem pre_g {z : FVec Ideal S2048x2048 .f32} {g : FVec Ideal S2048 .f32} {p : FVec Ideal S1024x2048 .f32}
    (h : (fn z g p).2.1 = fun _ => 1#1) (r : Fin 2048) : g (ix1 r) = 0 ∨ g (ix1 r) = 1 := by
  have e := congrFun h (ix1 r)
  have e' : BitVec.ofBool (decide (g (ix1 r) = Ideal.ofBits .f32 0x00000000#32)) ||| BitVec.ofBool (decide (g (ix1 r) = Ideal.ofBits .f32 0x3F800000#32)) = 1#1 := e
  rw [ofBits_one, Ideal.ofBits_zero] at e'
  exact gate_of e'

end Pre

/-! ### The reference's loop -/

section Reference
open Cert.ReferenceIdeal Cert.ReferenceIdeal.Gen Cert.Proof.RefMath

variable {Zn : ℕ → Row} {gn : ℕ → ℝ} {P0 : Spec.Table}

theorem gate_bits (g : FVec Ideal S2048 .f32) (r : Fin 2048) (h : g (ix1 r) = ((gn r.val : ℝ) : EReal)) :
    Step.A_main_v2 (F := Ideal) g (ix1 r) = BitVec.ofBool (decide (gn r.val ≠ 0)) := by
  unfold Step.A_main_v2 Step.A_main_v1 Step.K_main_v0 Step.K_main_cst id
  pointwise
  rw [h]
  simp

theorem refIt_state (m : (ℓ : Loc nD τ sig) → Buf (Elt Ideal) ℓ) (c : Dev nD)
    (hz : ∀ r d : Fin 2048, m ((c.tc : Thread nD τ).loc main_arg0) (ix2 r d) = ((Zn r.val d : ℝ) : EReal))
    (hg : ∀ r : Fin 2048, m ((c.tc : Thread nD τ).loc main_arg1) (ix1 r) = ((gn r.val : ℝ) : EReal))
    (hp : ∀ (k : Fin 1024) (d : Fin 2048), m ((c.tc : Thread nD τ).loc main_arg2) (ix2 k d) = ((P0 k d : ℝ) : EReal))
    (hG : ∀ i, gn i = 0 ∨ gn i = 1) : ∀ n ≤ 2048, RefState Zn gn P0 n (refIt m c n)
  | 0, _ => ⟨hp, hz, fun r => gate_bits _ r (hg r)⟩
  | n + 1, h => step_state (by omega) (refIt_state m c hz hg hp hG n (by omega)) (hG n)

end Reference

/-! ### The claim -/

theorem value_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    {Zn : ℕ → Row} {gn : ℕ → ℝ} {P0 : Spec.Table}
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (hz : ∀ r d : Fin 2048, m ((c.tc : Thread KernelIdeal.nD KernelIdeal.τ).loc KernelIdeal.main_arg0) (ix2 r d) = ((Zn r.val d : ℝ) : EReal))
    (hg : ∀ r : Fin 2048, m ((c.tc : Thread KernelIdeal.nD KernelIdeal.τ).loc KernelIdeal.main_arg1) (ix1 r) = ((gn r.val : ℝ) : EReal))
    (hp : ∀ (k : Fin 1024) (d : Fin 2048), m ((c.tc : Thread KernelIdeal.nD KernelIdeal.τ).loc KernelIdeal.main_arg2) (ix2 k d) = ((P0 k d : ℝ) : EReal))
    (hG : ∀ i, gn i = 0 ∨ gn i = 1) :
    ReferenceIdeal.Step.R_main_v63 (refIt m' c 2048) (m' ((c.tc : Thread ReferenceIdeal.nD ReferenceIdeal.τ).loc ReferenceIdeal.main_arg0)) (m' ((c.tc : Thread ReferenceIdeal.nD ReferenceIdeal.τ).loc ReferenceIdeal.main_arg1))
      = Scan.W4 m c (Proc.devRef .tc KernelIdeal.main_v0) := by
  have hs := refIt_state m' c (fun r d => (congrFun h0 (ix2 r d)).trans (hz r d)) (fun r => (congrFun h1 (ix1 r)).trans (hg r))
    (fun k d => (congrFun h2 (ix2 k d)).trans (hp k d)) hG 2048 le_rfl
  funext y
  exact (RefLoss.main_value hs.p (fun r d => (congrFun h0 (ix2 r d)).trans (hz r d)) (fun r => (congrFun h1 (ix1 r)).trans (hg r)) hG y).trans
    (Scan.kernel_value m c hz hg hp hG y).symm

/-- A row of the first argument as reals; zeros past the last. -/
def rowsOf (z : FVec Ideal Pre_finite_gated.S2048x2048 .f32) : ℕ → Row := fun n d => if h : n < 2048 then (z (ix2 ⟨n, h⟩ d)).toReal else 0
def gatesOf (g : FVec Ideal Pre_finite_gated.S2048 .f32) : ℕ → ℝ := fun n => if h : n < 2048 then (g (ix1 ⟨n, h⟩)).toReal else 0

section Claims
variable [hKernelIdeal : Cert.KernelIdeal.Facts] [hReferenceIdeal : Cert.ReferenceIdeal.Facts] [hPre_finite_gated : Cert.Pre_finite_gated.Facts]

theorem quiescent_kernel_pre : Cert.quiescent_KernelIdeal_pre_finite_gated := fun m g _ => quiescent_kernel m g trivial
theorem quiescent_reference_pre : Cert.quiescent_ReferenceIdeal_pre_finite_gated := fun m g _ => quiescent_reference m g trivial

theorem algebraic : Cert.algebraic_KernelIdeal_ReferenceIdeal_pre_finite_gated := by
  intro m g m' g' hpre harg
  refine ⟨fun c => Scan.W4 m c (Proc.devRef .tc KernelIdeal.main_v0),
    (θ_run Cert.KernelIdeal.defs _ _).mono (fun _ h => h.1) (kernel_run m g),
    (θ_run Cert.ReferenceIdeal.defs _ _).mono (fun r h c => ?_) (ref_run m' g')⟩
  obtain ⟨hv, ha⟩ := h.1 c
  refine ⟨hv.trans ?_, ha⟩
  obtain ⟨pz, pg, pp⟩ := hpre c
  obtain ⟨h0, h1, h2⟩ := harg c
  refine value_eq m m' c h0 h1 h2
    (Zn := rowsOf (m ((c.tc : Thread KernelIdeal.nD KernelIdeal.τ).loc KernelIdeal.main_arg0)))
    (gn := gatesOf (m ((c.tc : Thread KernelIdeal.nD KernelIdeal.τ).loc KernelIdeal.main_arg1)))
    (P0 := fun k d => (m ((c.tc : Thread KernelIdeal.nD KernelIdeal.τ).loc KernelIdeal.main_arg2) (ix2 k d) : EReal).toReal)
    (fun r d => ?_) (fun r => ?_) (fun k d => pre_p pp k d) (fun i => ?_)
  · unfold rowsOf
    rw [dif_pos r.isLt]
    exact pre_z pz r d
  · unfold gatesOf
    rw [dif_pos r.isLt]
    have e := pre_g pg r
    rcases e with e | e
    · exact e.trans (by rw [e]; simp)
    · exact e.trans (by rw [e]; simp)
  · unfold gatesOf
    by_cases hi : i < 2048
    · rw [dif_pos hi]
      rcases pre_g pg ⟨i, hi⟩ with e | e
      · left; rw [e]; simp
      · right; rw [e]; simp
    · rw [dif_neg hi]; exact Or.inl rfl

end Claims

end Cert.Proof

end
-- ==== Proof.lean ====
module

public import proofs.«01_k».proof.Defs
public import proofs.«01_k».proof.Proof.Gen.KernelIdeal
public import proofs.«01_k».proof.Proof.Gen.ReferenceIdeal
public import proofs.«01_k».proof.Proof.Gen.Pre_finite_gated
public import proofs.«01_k».proof.Proof.Frames
public import proofs.«01_k».proof.Proof.Value

@[expose] public section

noncomputable section

namespace Cert.Proof

open Idealize.ShloMosaic Idealize.SL.Sem

theorem claim : Cert.Claim := ⟨Cert.KernelIdeal.Gen.facts, Cert.ReferenceIdeal.Gen.facts, Cert.Pre_finite_gated.Gen.facts,
  quiescent_kernel, quiescent_kernel_pre, quiescent_reference, quiescent_reference_pre, algebraic⟩

end Cert.Proof

end
